-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_x_finite [hPre_x_finite : Cert.Pre_x_finite.Facts] (m : (ℓ : Loc Cert.KernelIdeal.nD Cert.KernelIdeal.τ Cert.KernelIdeal.sig) → Buf (Elt Ideal) ℓ) : Prop :=
  ∀ c : Dev Cert.KernelIdeal.nD,
    (Cert.Pre_x_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_x_finite [hPre_x_finite : Cert.Pre_x_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_x_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_x_finite [hKernelIdeal : Cert.KernelIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_x_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_x_finite [hReferenceIdeal : Cert.ReferenceIdeal.Facts] [hPre_x_finite : Cert.Pre_x_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_x_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_x_finite [hKernelIdeal : Cert.KernelIdeal.Facts] [hReferenceIdeal : Cert.ReferenceIdeal.Facts] [hPre_x_finite : Cert.Pre_x_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_x_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v5_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v5_0) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42_0) = v0 c
          ∧ r.2.mem ((c.tc : Thread Cert.ReferenceIdeal.nD Cert.ReferenceIdeal.τ).loc Cert.ReferenceIdeal.main_v42_1) = v1 c
          ∧ r.2.mem ((c.tc : Thread Cert.ReferenceIdeal.nD Cert.ReferenceIdeal.τ).loc Cert.ReferenceIdeal.main_v25) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_x_finite : Cert.Pre_x_finite.Facts),
    quiescent_Kernel (hKernel := hKernel)
    ∧ quiescent_KernelIdeal (hKernelIdeal := hKernelIdeal)
    ∧ quiescent_KernelIdeal_pre_x_finite (hKernelIdeal := hKernelIdeal) (hPre_x_finite := hPre_x_finite)
    ∧ quiescent_ReferenceIdeal (hReferenceIdeal := hReferenceIdeal)
    ∧ quiescent_ReferenceIdeal_pre_x_finite (hReferenceIdeal := hReferenceIdeal) (hPre_x_finite := hPre_x_finite)
    ∧ preserves_Kernel_KernelIdeal
    ∧ algebraic_KernelIdeal_ReferenceIdeal_pre_x_finite (hKernelIdeal := hKernelIdeal) (hReferenceIdeal := hReferenceIdeal) (hPre_x_finite := hPre_x_finite)
-- ==== Pre_x_finite.lean ====
abbrev S1x512x27648 : Shape := ⟨3, ![1, 512, 27648]⟩
abbrev S27648x5120 : Shape := ⟨2, ![27648, 5120]⟩
abbrev S5120 : Shape := ⟨1, ![5120]⟩
abbrev S4x27648x16 : Shape := ⟨3, ![4, 27648, 16]⟩
abbrev S4x16x5120 : Shape := ⟨3, ![4, 16, 5120]⟩
abbrev S1x512 : Shape := ⟨2, ![1, 512]⟩
abbrev S_ : Shape := ⟨0, ![]⟩

class Facts : Prop where
  bitsLt_bf16_f32 : FTy.bits .bf16 < FTy.bits .f32
  bcast_S_S1x512x27648 : S_.BroadcastsInDim S1x512x27648 (![] : Fin 0 → Fin S1x512x27648.rank)

variable [Facts]

def fn {F : FTy → Type} [FloatOps F] (main_arg0 : FVec F S1x512x27648 .bf16) (main_arg1 : FVec F S27648x5120 .fp8e4m3) (main_arg2 : FVec F S5120 .f32) (main_arg3 : FVec F S4x27648x16 .bf16) (main_arg4 : FVec F S4x16x5120 .bf16) (main_arg5 : IVec S1x512 32) : IVec S1x512x27648 1 :=
  let main_v0 : FVec F S1x512x27648 .f32 := (extf .f32 · bitsLt_bf16_f32) main_arg0
  let main_v1 : FVec F S1x512x27648 .f32 := Host.absf main_v0
  let main_cst : FVec F S_ .f32 := constant S_ .f32 0x7F7FFFFF#32
  let main_v2 : FVec F S1x512x27648 .f32 := broadcastInDim S1x512x27648 ![] bcast_S_S1x512x27648 main_cst
  let main_v3 : IVec S1x512x27648 1 := cmpf .ole main_v1 main_v2
  main_v3
-- ==== Kernel.lean ====
abbrev S1x512x27648 : Shape := ⟨3, ![1, 512, 27648]⟩
abbrev S27648x5120 : Shape := ⟨2, ![27648, 5120]⟩
abbrev S5120 : Shape := ⟨1, ![5120]⟩
abbrev S4x27648x16 : Shape := ⟨3, ![4, 27648, 16]⟩
abbrev S4x16x5120 : Shape := ⟨3, ![4, 16, 5120]⟩
abbrev S1x512 : Shape := ⟨2, ![1, 512]⟩
abbrev S512x27648 : Shape := ⟨2, ![512, 27648]⟩
abbrev S4x16x27648 : Shape := ⟨3, ![4, 16, 27648]⟩
abbrev S64x27648 : Shape := ⟨2, ![64, 27648]⟩
abbrev S64x5120 : Shape := ⟨2, ![64, 5120]⟩
abbrev S1x5120 : Shape := ⟨2, ![1, 5120]⟩
abbrev S512x64 : Shape := ⟨2, ![512, 64]⟩
abbrev S512x1024 : Shape := ⟨2, ![512, 1024]⟩
abbrev S64x1024 : Shape := ⟨2, ![64, 1024]⟩
abbrev S512x128 : Shape := ⟨2, ![512, 128]⟩
abbrev S128x128 : Shape := ⟨2, ![128, 128]⟩
abbrev S128 : Shape := ⟨1, ![128]⟩
abbrev S128x1 : Shape := ⟨2, ![128, 1]⟩
abbrev S1x128 : Shape := ⟨2, ![1, 128]⟩
abbrev S128x64 : Shape := ⟨2, ![128, 64]⟩
abbrev S512x5120 : Shape := ⟨2, ![512, 5120]⟩
abbrev S512x3072 : Shape := ⟨2, ![512, 3072]⟩
abbrev S3072x512 : Shape := ⟨2, ![3072, 512]⟩
abbrev S64x512 : Shape := ⟨2, ![64, 512]⟩
abbrev S512x512 : Shape := ⟨2, ![512, 512]⟩

abbrev nBuf : Space → Nat
  | .hbm => 15
  | .vmem => 27
  | .smem => 0
  | _ => 0

abbrev bufTy : (tb : Table) → Fin (tcTables nBuf tb) → BufTy
  | .hbm, ⟨0, _⟩ => ⟨S1x512x27648, .bf16⟩
  | .hbm, ⟨1, _⟩ => ⟨S27648x5120, .fp8e4m3⟩
  | .hbm, ⟨2, _⟩ => ⟨S5120, .f32⟩
  | .hbm, ⟨3, _⟩ => ⟨S4x27648x16, .bf16⟩
  | .hbm, ⟨4, _⟩ => ⟨S4x16x5120, .bf16⟩
  | .hbm, ⟨5, _⟩ => ⟨S1x512, .i32⟩
  | .hbm, ⟨6, _⟩ => ⟨S512x27648, .bf16⟩
  | .hbm, ⟨7, _⟩ => ⟨S4x16x27648, .bf16⟩
  | .hbm, ⟨8, _⟩ => ⟨S64x27648, .bf16⟩
  | .hbm, ⟨9, _⟩ => ⟨S64x5120, .bf16⟩
  | .hbm, ⟨10, _⟩ => ⟨S1x5120, .f32⟩
  | .hbm, ⟨11, _⟩ => ⟨S1x512, .f32⟩
  | .hbm, ⟨12, _⟩ => ⟨S512x64, .bf16⟩
  | .hbm, ⟨13, _⟩ => ⟨S512x5120, .bf16⟩
  | .hbm, ⟨14, _⟩ => ⟨S512x27648, .fp8e4m3⟩
  | .local _ .vmem, ⟨0, _⟩ => ⟨S512x1024, .bf16⟩
  | .local _ .vmem, ⟨1, _⟩ => ⟨S512x1024, .bf16⟩
  | .local _ .vmem, ⟨2, _⟩ => ⟨S64x1024, .bf16⟩
  | .local _ .vmem, ⟨3, _⟩ => ⟨S64x1024, .bf16⟩
  | .local _ .vmem, ⟨4, _⟩ => ⟨S1x512, .i32⟩
  | .local _ .vmem, ⟨5, _⟩ => ⟨S1x512, .f32⟩
  | .local _ .vmem, ⟨6, _⟩ => ⟨S512x64, .bf16⟩
  | .local _ .vmem, ⟨7, _⟩ => ⟨S512x128, .bf16⟩
  | .local _ .vmem, ⟨8, _⟩ => ⟨S512x64, .f32⟩
  | .local _ .vmem, ⟨9, _⟩ => ⟨S512x3072, .bf16⟩
  | .local _ .vmem, ⟨10, _⟩ => ⟨S512x3072, .bf16⟩
  | .local _ .vmem, ⟨11, _⟩ => ⟨S3072x512, .fp8e4m3⟩
  | .local _ .vmem, ⟨12, _⟩ => ⟨S3072x512, .fp8e4m3⟩
  | .local _ .vmem, ⟨13, _⟩ => ⟨S1x512, .f32⟩
  | .local _ .vmem, ⟨14, _⟩ => ⟨S1x512, .f32⟩
  | .local _ .vmem, ⟨15, _⟩ => ⟨S1x512, .f32⟩
  | .local _ .vmem, ⟨16, _⟩ => ⟨S512x64, .bf16⟩
  | .local _ .vmem, ⟨17, _⟩ => ⟨S64x512, .bf16⟩
  | .local _ .vmem, ⟨18, _⟩ => ⟨S64x512, .bf16⟩
  | .local _ .vmem, ⟨19, _⟩ => ⟨S512x512, .bf16⟩
  | .local _ .vmem, ⟨20, _⟩ => ⟨S512x512, .bf16⟩
  | .local _ .vmem, ⟨21, _⟩ => ⟨S512x3072, .fp8e4m3⟩
  | .local _ .vmem, ⟨22, _⟩ => ⟨S512x3072, .fp8e4m3⟩
  | .local _ .vmem, ⟨23, _⟩ => ⟨S512x27648, .fp8e4m3⟩
  | .local _ .vmem, ⟨24, _⟩ => ⟨S512x512, .f32⟩
  | .local _ .vmem, ⟨25, _⟩ => ⟨S512x128, .f32⟩
  | .local _ .vmem, ⟨26, _⟩ => ⟨S512x128, .bf16⟩
  | _, _ => ⟨S1x512x27648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg3_1 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_scratch0 : Ref sig .tc := ⟨.vmem, 23, rfl⟩
abbrev cc1_scratch1 : Ref sig .tc := ⟨.vmem, 24, rfl⟩
abbrev cc1_scratch2 : Ref sig .tc := ⟨.vmem, 25, rfl⟩
abbrev cc1_scratch3 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem5_1 : DmaSem sig := 16
abbrev cc1_sem6_0 : DmaSem sig := 17
abbrev cc1_sem6_1 : DmaSem sig := 18
abbrev cc1_sem7_0 : DmaSem sig := 19
abbrev cc1_sem7_1 : DmaSem sig := 20

abbrev nD : Nat := 1
abbrev τ : Topo := Topo.v7x

variable {F : FTy → Type} [FloatOps F]

abbrev grid0 : Pipeline.Grid := ⟨1, ![27], ![false]⟩

def k0_cond2 (i : grid0.Coords) : BitVec 1 :=
  let arg0 : BitVec 32 := BitVec.ofNat 32 (i 0).val
  let c26_i32 : BitVec 32 := 26#32
  let v41 : BitVec 1 := Scalar.cmpi .eq arg0 c26_i32
  let v42 : BitVec 32 := Scalar.extui v41
  let c0_i32_12 : BitVec 32 := 0#32
  let v43 : BitVec 1 := Scalar.cmpi .ne v42 c0_i32_12
  v43

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev grid1 : Pipeline.Grid := ⟨2, ![10, 9], ![false, false]⟩

def k1_cond2 (i : grid1.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k1_mult1 (i : grid1.Coords) : BitVec 32 :=
  let arg1 : BitVec 32 := BitVec.ofNat 32 (i 1).val
  let c3072_i32_19 : BitVec 32 := 3072#32
  let v36 : BitVec 32 := Scalar.muli arg1 c3072_i32_19
  let c0_i32_20 : BitVec 32 := 0#32
  let v37 : BitVec 32 := Scalar.addi v36 c0_i32_20
  v37
def k1_off1 (i : grid1.Coords) (c0_i32_20 : BitVec 32) : Fin 2 → Nat :=
  let c0_21 : Index := 0#32
  let arg1 : BitVec 32 := BitVec.ofNat 32 (i 1).val
  let c3072_i32_19 : BitVec 32 := 3072#32
  let v36 : BitVec 32 := Scalar.muli arg1 c3072_i32_19
  let v37 : BitVec 32 := Scalar.addi v36 c0_i32_20
  let v38 : BitVec 32 := v37
  let v39 : Index := Scalar.indexCast v38
  ![0, v39.toNat]
def k1_mult2 (i : grid1.Coords) : BitVec 32 :=
  let arg1 : BitVec 32 := BitVec.ofNat 32 (i 1).val
  let c3072_i32_29 : BitVec 32 := 3072#32
  let v55 : BitVec 32 := Scalar.muli arg1 c3072_i32_29
  let c128_i32 : BitVec 32 := 128#32
  let v56 : BitVec 32 := Scalar.addi v55 c128_i32
  v56
def k1_mult3 (i : grid1.Coords) : BitVec 32 :=
  let arg1 : BitVec 32 := BitVec.ofNat 32 (i 1).val
  let c3072_i32_38 : BitVec 32 := 3072#32
  let v74 : BitVec 32 := Scalar.muli arg1 c3072_i32_38
  let c256_i32 : BitVec 32 := 256#32
  let v75 : BitVec 32 := Scalar.addi v74 c256_i32
  v75
def k1_mult4 (i : grid1.Coords) : BitVec 32 :=
  let arg1 : BitVec 32 := BitVec.ofNat 32 (i 1).val
  let c3072_i32_47 : BitVec 32 := 3072#32
  let v93 : BitVec 32 := Scalar.muli arg1 c3072_i32_47
  let c384_i32 : BitVec 32 := 384#32
  let v94 : BitVec 32 := Scalar.addi v93 c384_i32
  v94
def k1_mult5 (i : grid1.Coords) : BitVec 32 :=
  let arg1 : BitVec 32 := BitVec.ofNat 32 (i 1).val
  let c3072_i32_56 : BitVec 32 := 3072#32
  let v112 : BitVec 32 := Scalar.muli arg1 c3072_i32_56
  let c512_i32 : BitVec 32 := 512#32
  let v113 : BitVec 32 := Scalar.addi v112 c512_i32
  v113
def k1_mult6 (i : grid1.Coords) : BitVec 32 :=
  let arg1 : BitVec 32 := BitVec.ofNat 32 (i 1).val
  let c3072_i32_65 : BitVec 32 := 3072#32
  let v131 : BitVec 32 := Scalar.muli arg1 c3072_i32_65
  let c640_i32 : BitVec 32 := 640#32
  let v132 : BitVec 32 := Scalar.addi v131 c640_i32
  v132
def k1_mult7 (i : grid1.Coords) : BitVec 32 :=
  let arg1 : BitVec 32 := BitVec.ofNat 32 (i 1).val
  let c3072_i32_74 : BitVec 32 := 3072#32
  let v150 : BitVec 32 := Scalar.muli arg1 c3072_i32_74
  let c768_i32 : BitVec 32 := 768#32
  let v151 : BitVec 32 := Scalar.addi v150 c768_i32
  v151
def k1_mult8 (i : grid1.Coords) : BitVec 32 :=
  let arg1 : BitVec 32 := BitVec.ofNat 32 (i 1).val
  let c3072_i32_83 : BitVec 32 := 3072#32
  let v169 : BitVec 32 := Scalar.muli arg1 c3072_i32_83
  let c896_i32 : BitVec 32 := 896#32
  let v170 : BitVec 32 := Scalar.addi v169 c896_i32
  v170
def k1_mult9 (i : grid1.Coords) : BitVec 32 :=
  let arg1 : BitVec 32 := BitVec.ofNat 32 (i 1).val
  let c3072_i32_92 : BitVec 32 := 3072#32
  let v188 : BitVec 32 := Scalar.muli arg1 c3072_i32_92
  let c1024_i32 : BitVec 32 := 1024#32
  let v189 : BitVec 32 := Scalar.addi v188 c1024_i32
  v189
def k1_mult10 (i : grid1.Coords) : BitVec 32 :=
  let arg1 : BitVec 32 := BitVec.ofNat 32 (i 1).val
  let c3072_i32_101 : BitVec 32 := 3072#32
  let v207 : BitVec 32 := Scalar.muli arg1 c3072_i32_101
  let c1152_i32 : BitVec 32 := 1152#32
  let v208 : BitVec 32 := Scalar.addi v207 c1152_i32
  v208
def k1_mult11 (i : grid1.Coords) : BitVec 32 :=
  let arg1 : BitVec 32 := BitVec.ofNat 32 (i 1).val
  let c3072_i32_110 : BitVec 32 := 3072#32
  let v226 : BitVec 32 := Scalar.muli arg1 c3072_i32_110
  let c1280_i32 : BitVec 32 := 1280#32
  let v227 : BitVec 32 := Scalar.addi v226 c1280_i32
  v227
def k1_mult12 (i : grid1.Coords) : BitVec 32 :=
  let arg1 : BitVec 32 := BitVec.ofNat 32 (i 1).val
  let c3072_i32_119 : BitVec 32 := 3072#32
  let v245 : BitVec 32 := Scalar.muli arg1 c3072_i32_119
  let c1408_i32 : BitVec 32 := 1408#32
  let v246 : BitVec 32 := Scalar.addi v245 c1408_i32
  v246
def k1_mult13 (i : grid1.Coords) : BitVec 32 :=
  let arg1 : BitVec 32 := BitVec.ofNat 32 (i 1).val
  let c3072_i32_128 : BitVec 32 := 3072#32
  let v264 : BitVec 32 := Scalar.muli arg1 c3072_i32_128
  let c1536_i32 : BitVec 32 := 1536#32
  let v265 : BitVec 32 := Scalar.addi v264 c1536_i32
  v265
def k1_mult14 (i : grid1.Coords) : BitVec 32 :=
  let arg1 : BitVec 32 := BitVec.ofNat 32 (i 1).val
  let c3072_i32_137 : BitVec 32 := 3072#32
  let v283 : BitVec 32 := Scalar.muli arg1 c3072_i32_137
  let c1664_i32 : BitVec 32 := 1664#32
  let v284 : BitVec 32 := Scalar.addi v283 c1664_i32
  v284
def k1_mult15 (i : grid1.Coords) : BitVec 32 :=
  let arg1 : BitVec 32 := BitVec.ofNat 32 (i 1).val
  let c3072_i32_146 : BitVec 32 := 3072#32
  let v302 : BitVec 32 := Scalar.muli arg1 c3072_i32_146
  let c1792_i32 : BitVec 32 := 1792#32
  let v303 : BitVec 32 := Scalar.addi v302 c1792_i32
  v303
def k1_mult16 (i : grid1.Coords) : BitVec 32 :=
  let arg1 : BitVec 32 := BitVec.ofNat 32 (i 1).val
  let c3072_i32_155 : BitVec 32 := 3072#32
  let v321 : BitVec 32 := Scalar.muli arg1 c3072_i32_155
  let c1920_i32 : BitVec 32 := 1920#32
  let v322 : BitVec 32 := Scalar.addi v321 c1920_i32
  v322
def k1_mult17 (i : grid1.Coords) : BitVec 32 :=
  let arg1 : BitVec 32 := BitVec.ofNat 32 (i 1).val
  let c3072_i32_164 : BitVec 32 := 3072#32
  let v340 : BitVec 32 := Scalar.muli arg1 c3072_i32_164
  let c2048_i32 : BitVec 32 := 2048#32
  let v341 : BitVec 32 := Scalar.addi v340 c2048_i32
  v341
def k1_mult18 (i : grid1.Coords) : BitVec 32 :=
  let arg1 : BitVec 32 := BitVec.ofNat 32 (i 1).val
  let c3072_i32_173 : BitVec 32 := 3072#32
  let v359 : BitVec 32 := Scalar.muli arg1 c3072_i32_173
  let c2176_i32 : BitVec 32 := 2176#32
  let v360 : BitVec 32 := Scalar.addi v359 c2176_i32
  v360
def k1_mult19 (i : grid1.Coords) : BitVec 32 :=
  let arg1 : BitVec 32 := BitVec.ofNat 32 (i 1).val
  let c3072_i32_182 : BitVec 32 := 3072#32
  let v378 : BitVec 32 := Scalar.muli arg1 c3072_i32_182
  let c2304_i32 : BitVec 32 := 2304#32
  let v379 : BitVec 32 := Scalar.addi v378 c2304_i32
  v379
def k1_mult20 (i : grid1.Coords) : BitVec 32 :=
  let arg1 : BitVec 32 := BitVec.ofNat 32 (i 1).val
  let c3072_i32_191 : BitVec 32 := 3072#32
  let v397 : BitVec 32 := Scalar.muli arg1 c3072_i32_191
  let c2432_i32 : BitVec 32 := 2432#32
  let v398 : BitVec 32 := Scalar.addi v397 c2432_i32
  v398
def k1_mult21 (i : grid1.Coords) : BitVec 32 :=
  let arg1 : BitVec 32 := BitVec.ofNat 32 (i 1).val
  let c3072_i32_200 : BitVec 32 := 3072#32
  let v416 : BitVec 32 := Scalar.muli arg1 c3072_i32_200
  let c2560_i32 : BitVec 32 := 2560#32
  let v417 : BitVec 32 := Scalar.addi v416 c2560_i32
  v417
def k1_mult22 (i : grid1.Coords) : BitVec 32 :=
  let arg1 : BitVec 32 := BitVec.ofNat 32 (i 1).val
  let c3072_i32_209 : BitVec 32 := 3072#32
  let v435 : BitVec 32 := Scalar.muli arg1 c3072_i32_209
  let c2688_i32 : BitVec 32 := 2688#32
  let v436 : BitVec 32 := Scalar.addi v435 c2688_i32
  v436
def k1_mult23 (i : grid1.Coords) : BitVec 32 :=
  let arg1 : BitVec 32 := BitVec.ofNat 32 (i 1).val
  let c3072_i32_218 : BitVec 32 := 3072#32
  let v454 : BitVec 32 := Scalar.muli arg1 c3072_i32_218
  let c2816_i32 : BitVec 32 := 2816#32
  let v455 : BitVec 32 := Scalar.addi v454 c2816_i32
  v455
def k1_mult24 (i : grid1.Coords) : BitVec 32 :=
  let arg1 : BitVec 32 := BitVec.ofNat 32 (i 1).val
  let c3072_i32_227 : BitVec 32 := 3072#32
  let v473 : BitVec 32 := Scalar.muli arg1 c3072_i32_227
  let c2944_i32 : BitVec 32 := 2944#32
  let v474 : BitVec 32 := Scalar.addi v473 c2944_i32
  v474
def k1_mult25 (i : grid1.Coords) : BitVec 32 :=
  let arg1 : BitVec 32 := BitVec.ofNat 32 (i 1).val
  let c3072_i32 : BitVec 32 := 3072#32
  let v11 : BitVec 32 := Scalar.muli arg1 c3072_i32
  v11
def k1_off2 (i : grid1.Coords) : Fin 2 → Nat :=
  let c0 : Index := 0#32
  let arg1 : BitVec 32 := BitVec.ofNat 32 (i 1).val
  let c3072_i32 : BitVec 32 := 3072#32
  let v11 : BitVec 32 := Scalar.muli arg1 c3072_i32
  let v12 : BitVec 32 := v11
  let v13 : Index := Scalar.indexCast v12
  ![0, v13.toNat]
def k1_cond4 (i : grid1.Coords) : BitVec 1 :=
  let arg1 : BitVec 32 := BitVec.ofNat 32 (i 1).val
  let c8_i32 : BitVec 32 := 8#32
  let v22 : BitVec 1 := Scalar.cmpi .eq arg1 c8_i32
  let v23 : BitVec 32 := Scalar.extui v22
  let c0_i32_12 : BitVec 32 := 0#32
  let v24 : BitVec 1 := Scalar.cmpi .ne v23 c0_i32_12
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let v1 : BitVec 32 := Scalar.select v0 arg1 c8_i32
  let c0_i32_0 : BitVec 32 := 0#32
  let c0_i32_1 : BitVec 32 := 0#32
  ![c0_i32_0.toNat, v1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c8_i32 : BitVec 32 := 8#32
  let v1 : BitVec 32 := Scalar.select v0 arg1 c8_i32
  let c0_i32_0 : BitVec 32 := 0#32
  let c0_i32_1 : BitVec 32 := 0#32
  ![c0_i32_0.toNat, v1.toNat]

abbrev stage1_0 : Fin 2 → Memref sig .tc .vmem S512x3072 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S3072x512 .fp8e4m3 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S512x64 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S64x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x3072 .fp8e4m3 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]
-- ==== ReferenceIdeal.lean ====
abbrev S1x512x27648 : Shape := ⟨3, ![1, 512, 27648]⟩
abbrev S27648x5120 : Shape := ⟨2, ![27648, 5120]⟩
abbrev S5120 : Shape := ⟨1, ![5120]⟩
abbrev S4x27648x16 : Shape := ⟨3, ![4, 27648, 16]⟩
abbrev S4x16x5120 : Shape := ⟨3, ![4, 16, 5120]⟩
abbrev S1x512 : Shape := ⟨2, ![1, 512]⟩
abbrev S_ : Shape := ⟨0, ![]⟩
abbrev S1x512x1 : Shape := ⟨3, ![1, 512, 1]⟩
abbrev S254 : Shape := ⟨1, ![254]⟩
abbrev S1x1x254 : Shape := ⟨3, ![1, 1, 254]⟩
abbrev S1x512x254 : Shape := ⟨3, ![1, 512, 254]⟩
abbrev S1x512x4x16 : Shape := ⟨4, ![1, 512, 4, 16]⟩
abbrev S4 : Shape := ⟨1, ![4]⟩
abbrev S1x1x4 : Shape := ⟨3, ![1, 1, 4]⟩
abbrev S1x512x4 : Shape := ⟨3, ![1, 512, 4]⟩
abbrev S1x512x4x1 : Shape := ⟨4, ![1, 512, 4, 1]⟩
abbrev S1x512x5120 : Shape := ⟨3, ![1, 512, 5120]⟩
abbrev S512x27648 : Shape := ⟨2, ![512, 27648]⟩
abbrev S512x1 : Shape := ⟨2, ![512, 1]⟩
abbrev S1x5120 : Shape := ⟨2, ![1, 5120]⟩
abbrev S512x5120 : Shape := ⟨2, ![512, 5120]⟩

abbrev nBuf : Space → Nat
  | .hbm => 68
  | .vmem => 8
  | .smem => 0
  | _ => 0

abbrev bufTy : (tb : Table) → Fin (tcTables nBuf tb) → BufTy
  | .hbm, ⟨0, _⟩ => ⟨S1x512x27648, .bf16⟩
  | .hbm, ⟨1, _⟩ => ⟨S27648x5120, .fp8e4m3⟩
  | .hbm, ⟨2, _⟩ => ⟨S5120, .f32⟩
  | .hbm, ⟨3, _⟩ => ⟨S4x27648x16, .bf16⟩
  | .hbm, ⟨4, _⟩ => ⟨S4x16x5120, .bf16⟩
  | .hbm, ⟨5, _⟩ => ⟨S1x512, .i32⟩
  | .hbm, ⟨6, _⟩ => ⟨S1x512x27648, .f32⟩
  | .hbm, ⟨7, _⟩ => ⟨S1x512x27648, .f32⟩
  | .hbm, ⟨8, _⟩ => ⟨S_, .f32⟩
  | .hbm, ⟨9, _⟩ => ⟨S1x512, .f32⟩
  | .hbm, ⟨10, _⟩ => ⟨S1x512x1, .f32⟩
  | .hbm, ⟨11, _⟩ => ⟨S254, .f32⟩
  | .hbm, ⟨12, _⟩ => ⟨S_, .f32⟩
  | .hbm, ⟨13, _⟩ => ⟨S254, .f32⟩
  | .hbm, ⟨14, _⟩ => ⟨S254, .f32⟩
  | .hbm, ⟨15, _⟩ => ⟨S_, .f32⟩
  | .hbm, ⟨16, _⟩ => ⟨S254, .f32⟩
  | .hbm, ⟨17, _⟩ => ⟨S254, .f32⟩
  | .hbm, ⟨18, _⟩ => ⟨S_, .f32⟩
  | .hbm, ⟨19, _⟩ => ⟨S1x512x1, .f32⟩
  | .hbm, ⟨20, _⟩ => ⟨S1x512x1, .f32⟩
  | .hbm, ⟨21, _⟩ => ⟨S1x1x254, .f32⟩
  | .hbm, ⟨22, _⟩ => ⟨S1x512x254, .f32⟩
  | .hbm, ⟨23, _⟩ => ⟨S1x512x254, .f32⟩
  | .hbm, ⟨24, _⟩ => ⟨S1x512x254, .i1⟩
  | .hbm, ⟨25, _⟩ => ⟨S_, .f32⟩
  | .hbm, ⟨26, _⟩ => ⟨S_, .f32⟩
  | .hbm, ⟨27, _⟩ => ⟨S1x512x254, .f32⟩
  | .hbm, ⟨28, _⟩ => ⟨S1x512x254, .f32⟩
  | .hbm, ⟨29, _⟩ => ⟨S1x512x254, .f32⟩
  | .hbm, ⟨30, _⟩ => ⟨S_, .f32⟩
  | .hbm, ⟨31, _⟩ => ⟨S1x512, .f32⟩
  | .hbm, ⟨32, _⟩ => ⟨S1x512x1, .f32⟩
  | .hbm, ⟨33, _⟩ => ⟨S_, .f32⟩
  | .hbm, ⟨34, _⟩ => ⟨S1x512x1, .f32⟩
  | .hbm, ⟨35, _⟩ => ⟨S1x512x1, .i1⟩
  | .hbm, ⟨36, _⟩ => ⟨S_, .f32⟩
  | .hbm, ⟨37, _⟩ => ⟨S1x512x1, .f32⟩
  | .hbm, ⟨38, _⟩ => ⟨S1x512x1, .f32⟩
  | .hbm, ⟨39, _⟩ => ⟨S_, .f32⟩
  | .hbm, ⟨40, _⟩ => ⟨S_, .f32⟩
  | .hbm, ⟨41, _⟩ => ⟨S1x512x1, .f32⟩
  | .hbm, ⟨42, _⟩ => ⟨S1x512x1, .f32⟩
  | .hbm, ⟨43, _⟩ => ⟨S_, .f32⟩
  | .hbm, ⟨44, _⟩ => ⟨S1x512x1, .f32⟩
  | .hbm, ⟨45, _⟩ => ⟨S1x512x1, .f32⟩
  | .hbm, ⟨46, _⟩ => ⟨S1x512, .f32⟩
  | .hbm, ⟨47, _⟩ => ⟨S1x512x4x16, .f32⟩
  | .hbm, ⟨48, _⟩ => ⟨S1x512x4x16, .bf16⟩
  | .hbm, ⟨49, _⟩ => ⟨S1x512x1, .i32⟩
  | .hbm, ⟨50, _⟩ => ⟨S4, .i32⟩
  | .hbm, ⟨51, _⟩ => ⟨S1x1x4, .i32⟩
  | .hbm, ⟨52, _⟩ => ⟨S1x512x4, .i32⟩
  | .hbm, ⟨53, _⟩ => ⟨S1x512x4, .i32⟩
  | .hbm, ⟨54, _⟩ => ⟨S1x512x4, .i1⟩
  | .hbm, ⟨55, _⟩ => ⟨S1x512x4x1, .i1⟩
  | .hbm, ⟨56, _⟩ => ⟨S_, .bf16⟩
  | .hbm, ⟨57, _⟩ => ⟨S1x512x4x16, .i1⟩
  | .hbm, ⟨58, _⟩ => ⟨S1x512x4x16, .bf16⟩
  | .hbm, ⟨59, _⟩ => ⟨S1x512x4x16, .bf16⟩
  | .hbm, ⟨60, _⟩ => ⟨S1x512x5120, .f32⟩
  | .hbm, ⟨61, _⟩ => ⟨S512x27648, .bf16⟩
  | .hbm, ⟨62, _⟩ => ⟨S512x1, .f32⟩
  | .hbm, ⟨63, _⟩ => ⟨S512x1, .f32⟩
  | .hbm, ⟨64, _⟩ => ⟨S1x5120, .f32⟩
  | .hbm, ⟨65, _⟩ => ⟨S512x5120, .f32⟩
  | .hbm, ⟨66, _⟩ => ⟨S512x5120, .bf16⟩
  | .hbm, ⟨67, _⟩ => ⟨S512x27648, .fp8e4m3⟩
  | .local _ .vmem, ⟨0, _⟩ => ⟨S512x27648, .bf16⟩
  | .local _ .vmem, ⟨1, _⟩ => ⟨S512x1, .f32⟩
  | .local _ .vmem, ⟨2, _⟩ => ⟨S27648x5120, .fp8e4m3⟩
  | .local _ .vmem, ⟨3, _⟩ => ⟨S512x1, .f32⟩
  | .local _ .vmem, ⟨4, _⟩ => ⟨S1x5120, .f32⟩
  | .local _ .vmem, ⟨5, _⟩ => ⟨S512x5120, .f32⟩
  | .local _ .vmem, ⟨6, _⟩ => ⟨S512x5120, .bf16⟩
  | .local _ .vmem, ⟨7, _⟩ => ⟨S512x27648, .fp8e4m3⟩
  | _, _ => ⟨S1x512x27648, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v15 : Ref sig .tc := ⟨.hbm, 29, rfl⟩
abbrev main_cst_4 : Ref sig .tc := ⟨.hbm, 30, rfl⟩
abbrev main_v16 : Ref sig .tc := ⟨.hbm, 31, rfl⟩
abbrev main_v17 : Ref sig .tc := ⟨.hbm, 32, rfl⟩
abbrev main_cst_5 : Ref sig .tc := ⟨.hbm, 33, rfl⟩
abbrev main_v18 : Ref sig .tc := ⟨.hbm, 34, rfl⟩
abbrev main_v19 : Ref sig .tc := ⟨.hbm, 35, rfl⟩
abbrev main_cst_6 : Ref sig .tc := ⟨.hbm, 36, rfl⟩
abbrev main_v20 : Ref sig .tc := ⟨.hbm, 37, rfl⟩
abbrev main_v21 : Ref sig .tc := ⟨.hbm, 38, rfl⟩
abbrev main_cst_7 : Ref sig .tc := ⟨.hbm, 39, rfl⟩
abbrev main_call1_v0 : Ref sig .tc := ⟨.hbm, 40, rfl⟩
abbrev main_call1_v1 : Ref sig .tc := ⟨.hbm, 41, rfl⟩
abbrev main_v22 : Ref sig .tc := ⟨.hbm, 42, rfl⟩
abbrev main_cst_8 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_cst_9 : Ref sig .tc := ⟨.hbm, 56, rfl⟩
abbrev main_call2_v0 : Ref sig .tc := ⟨.hbm, 57, rfl⟩
abbrev main_call2_v1 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42_0 : Ref sig .tc := ⟨.hbm, 66, rfl⟩
abbrev main_v42_1 : Ref sig .tc := ⟨.hbm, 67, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S512x27648 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S27648x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x5120 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S512x27648 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Kit.lean ====
module

public import Idealize.ShloMosaic.Lib.Pipeline.FrameBody
public import Idealize.ShloMosaic.Lib.Pipeline.ReadBack
public import Idealize.ShloMosaic.Lib.Pipeline.Value
public import Idealize.ShloMosaic.Lib.Ring
public import Idealize.ShloMosaic.Lib.WritesUnit

/-! Small facts about whole loads and whole stores, shared by every kernel body below. -/

@[expose] public section

noncomputable section

namespace Cert.Kit

open Idealize.ShloMosaic

/-- The zero offset of a rank-two rectangle. -/
theorem z2 : (![0, 0] : Fin 2 → ℕ) = fun _ => 0 := by
  funext a; fin_cases a <;> rfl

variable {sig : RefSig} {κ : Kind} {sp : Space} {s : Shape} {e : EltTy} {Val : EltTy → Type}

/-- An offset that vanishes on every axis. -/
theorem zero_of_forall {n : ℕ} {off : Fin n → ℕ} (h : ∀ a, off a = 0) : off = fun _ => 0 := funext h

/-- After a store over the whole shape, the buffer reads as what was stored, whatever came before. -/
theorem read_top [∀ e, Nonempty (Val e)] (v : View sig κ sp s e) (f : v.ty.Contents Val) {off : Fin s.rank → ℕ}
    (inb : ∀ a, off a + s.size a ≤ s.size a) (w : s.Idx → Val e) (L : List (View.Piece Val s e)) (h : ∀ a, off a = 0) :
    v.read Val (v.writes Val f (⟨Rect.unit off (no_index s.size) inb, w⟩ :: L)) = w := by
  have hc : ∀ y, ∃ p ∈ ((⟨Rect.unit off s.size inb, w⟩ : View.Piece Val s e) :: L), y ∈ p.1.set := by
    intro y
    exact ⟨_, List.mem_cons_self, View.mem_set_unit_zero (zero_of_forall h) inb y⟩
  rw [View.read_writes_eq_canon v f _ hc, View.canon_cons_unit_zero (zero_of_forall h)]

/-- A load over the whole shape reads everything. -/
theorem ld_top (X : s.Idx → Val e) {off : Fin s.rank → ℕ} (inb : ∀ a, off a + s.size a ≤ s.size a) (h : ∀ a, off a = 0) :
    View.ld X (Rect.unit off (no_index s.size) inb) = X :=
  View.ld_unit_zero (zero_of_forall h) inb X

/-- A load of any rectangle after a store over the whole shape reads what was stored there. -/
theorem readCov_top [∀ e, Nonempty (Val e)] (v : View sig κ sp s e) {off : Fin s.rank → ℕ}
    (inb : ∀ a, off a + s.size a ≤ s.size a) (w : s.Idx → Val e) (L : List (View.Piece Val s e)) (r : Rect s) (h : ∀ a, off a = 0) :
    v.readCov (⟨Rect.unit off (no_index s.size) inb, w⟩ :: L) r.toLoadRect = View.ld w r := by
  rw [View.readCov_eq_canon', View.canon_cons_unit_zero (zero_of_forall h)]

/-- What a buffer reads as after the stores `L` (the last first), from what it read before them. -/
def over (g : s.Idx → Val e) : List (View.Piece Val s e) → s.Idx → Val e
  | [] => g
  | p :: L => p.1.overlay (over g L) p.2

/-- The contents after a list of stores. -/
theorem read_writes_over (v : View sig κ sp s e) (f : v.ty.Contents Val) (L : List (View.Piece Val s e)) :
    v.read Val (v.writes Val f L) = over (v.read Val f) L := by
  induction L with
  | nil => rfl
  | cons p L ih =>
    funext y
    by_cases hy : y ∈ p.1.set
    · obtain ⟨x, rfl⟩ := p.1.exists_idx_of_mem hy
      show v.read Val (v.writes Val f (p :: L)) (p.1.emb x) = p.1.overlay (over (v.read Val f) L) p.2 (p.1.emb x)
      obtain ⟨r, w⟩ := p
      rw [View.read_writes_cons_emb, Rect.overlay_emb]
    · rw [View.read_writes_cons_miss v f p L y hy, ih]
      exact (Rect.overlay_of_not_mem p.1 _ _ hy).symm

/-- Stores that all agree with one function `G` leave `G` wherever one of them lies, -/
theorem over_in (g : s.Idx → Val e) (G : s.Idx → Val e) :
    ∀ (L : List (View.Piece Val s e)) (_ : ∀ p ∈ L, ∀ z : p.1.shape.Idx, p.2 z = G (p.1.emb z)) (y : s.Idx)
      (_ : ∃ p ∈ L, y ∈ p.1.set), over g L y = G y
  | [], _, _, hy => by obtain ⟨p, hp, _⟩ := hy; simp at hp
  | p :: L, hL, y, hy => by
    by_cases hm : y ∈ p.1.set
    · obtain ⟨x, rfl⟩ := p.1.exists_idx_of_mem hm
      exact (Rect.overlay_emb p.1 (over g L) p.2 x).trans (hL p (by simp) x)
    · refine (Rect.overlay_of_not_mem p.1 (over g L) p.2 hm).trans (over_in g G L (fun q hq => hL q (by simp [hq])) y ?_)
      obtain ⟨q, hq, hyq⟩ := hy
      rcases List.mem_cons.mp hq with rfl | hq'
      · exact absurd hyq hm
      · exact ⟨q, hq', hyq⟩

/-- and leave the rest as it was. -/
theorem over_out (g : s.Idx → Val e) :
    ∀ (L : List (View.Piece Val s e)) (y : s.Idx) (_ : ∀ p ∈ L, y ∉ p.1.set), over g L y = g y
  | [], _, _ => rfl
  | p :: L, y, hy => (Rect.overlay_of_not_mem p.1 (over g L) p.2 (hy p (by simp))).trans (over_out g L y fun q hq => hy q (by simp [hq]))

/-- A load of the whole shape, after stores that may not be one store over the whole. -/
theorem readCov_all [∀ e, Nonempty (Val e)] (v : View sig κ sp s e) (L : List (View.Piece Val s e)) {off : Fin s.rank → ℕ}
    (inb : ∀ a, off a + s.size a ≤ s.size a) (h : ∀ a, off a = 0) :
    v.readCov L (Rect.unit off (no_index s.size) inb).toLoadRect = View.canon L := by
  rw [View.readCov_eq_canon']
  exact View.ld_unit_zero (zero_of_forall h) inb (View.canon L)

/-- A load through any rectangle the stores cover reads their contents there. -/
theorem readCov_ld [∀ e, Nonempty (Val e)] (v : View sig κ sp s e) (L : List (View.Piece Val s e)) (r : Rect s) :
    v.readCov L r.toLoadRect = View.ld (View.canon L) r := by
  rw [View.readCov_eq_canon']

/-- Four pieces with equal payloads leave equal contents. -/
theorem canon4 [∀ e, Nonempty (Val e)] {r₁ r₂ r₃ r₄ : Rect s} {w₁ w₁' : r₁.shape.Idx → Val e} {w₂ w₂' : r₂.shape.Idx → Val e}
    {w₃ w₃' : r₃.shape.Idx → Val e} {w₄ w₄' : r₄.shape.Idx → Val e} (h₁ : w₁ = w₁') (h₂ : w₂ = w₂') (h₃ : w₃ = w₃') (h₄ : w₄ = w₄') :
    View.canon (Val := Val) (s := s) (e := e) [⟨r₁, w₁⟩, ⟨r₂, w₂⟩, ⟨r₃, w₃⟩, ⟨r₄, w₄⟩]
      = View.canon (Val := Val) (s := s) (e := e) [⟨r₁, w₁'⟩, ⟨r₂, w₂'⟩, ⟨r₃, w₃'⟩, ⟨r₄, w₄'⟩] := by
  subst h₁ h₂ h₃ h₄; rfl

/-- A load through any rectangle of a buffer reads the buffer's contents there. -/
theorem readAt_ld (v : View sig κ sp s e) (f : v.ty.Contents Val) (r : Rect s) :
    v.readAt Val r.toLoadRect f = View.ld (v.read Val f) r := rfl

end Cert.Kit

end
-- ==== Proof.P.Pay0.lean ====
module

public import proofs.«01_k».proof.Proof.Gen.Kernel.Launch
public import proofs.«01_k».proof.Proof.Gen.Kernel.Skeleton
public import proofs.«01_k».proof.Proof.Gen.Kernel.Points
public import proofs.«01_k».proof.Proof.Kit
public import Idealize.ShloMosaic.Lib.Tactic
public import Idealize.ShloMosaic.Lib.WordCmp

@[expose] public section

set_option maxRecDepth 16384

noncomputable section

namespace Cert.Kernel.Own

open Cert.Kernel Cert.Kernel.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One block of 128 tokens: the row of scales the kernel stores, from the block's running lane-wise maxima. -/
noncomputable def scaleBlk (a : Vec F S128x128 .bf16) : FVec F S1x128 .f32 :=
  k0_pay7 (F := F) (k0_pay5 (k0_pay3 a) (k0_pay4 a)) (k0_pay6 (k0_pay2 a))

/-- One block of 128 tokens: the shrunk activations kept at each token's own adapter. -/
noncomputable def shrinkBlk (tok : Vec F S1x128 .i32) (acc : Vec F S128x64 .f32) : FVec F S128x64 .bf16 :=
  k0_pay10 (k0_pay8 (F := F) tok) k0_pay9 acc

theorem scaleBlk0 (a : Vec F S128x128 .bf16) : k0_pay7 (F := F) (k0_pay5 (k0_pay3 a) (k0_pay4 a)) (k0_pay6 (k0_pay2 a)) = scaleBlk a := rfl
theorem scaleBlk1 (a : Vec F S128x128 .bf16) : k0_pay15 (F := F) (k0_pay11 a) (k0_pay14 (k0_pay12 a) (k0_pay13 a) 16#32) 0#32 = scaleBlk a := rfl
theorem scaleBlk2 (a : Vec F S128x128 .bf16) : k0_pay27 (F := F) (k0_pay21 a) (k0_pay22 a) (k0_pay25 (k0_pay22 a) (k0_pay23 a) k0_pay24) k0_pay26 = scaleBlk a := rfl
theorem scaleBlk3 (a : Vec F S128x128 .bf16) : k0_pay38 (F := F) (k0_pay32 a) (k0_pay33 a) (k0_pay36 (k0_pay33 a) (k0_pay34 a) (k0_pay35 a)) (k0_pay37 (k0_pay33 a) (k0_pay34 a) (k0_pay35 a)) = scaleBlk a := rfl
theorem shrinkBlk0 (tok : Vec F S1x128 .i32) (acc : Vec F S128x64 .f32) : k0_pay10 (k0_pay8 (F := F) tok) k0_pay9 acc = shrinkBlk tok acc := rfl
theorem shrinkBlk1 (tok : Vec F S1x128 .i32) (acc : Vec F S128x64 .f32) : k0_pay20 (k0_pay16 (F := F) tok) k0_pay17 k0_pay18 k0_pay19 acc = shrinkBlk tok acc := rfl
theorem shrinkBlk2 (tok : Vec F S1x128 .i32) (acc : Vec F S128x64 .f32) : k0_pay31 (k0_pay28 (F := F) tok) (iota .tc S128x64 32 [1] iota_S128x64_d1_w32) 16#32 k0_pay29 k0_pay30 acc = shrinkBlk tok acc := rfl
theorem shrinkBlk3 (tok : Vec F S1x128 .i32) (acc : Vec F S128x64 .f32) : k0_pay1 (k0_pay39 (F := F) tok) (iota .tc S128x64 32 [1] iota_S128x64_d1_w32) 16#32 acc = shrinkBlk tok acc := rfl

end Cert.Kernel.Own

end
-- ==== Proof.P.Run0.lean ====
module

public import proofs.«01_k».proof.Proof.P.Pay0

@[expose] public section

set_option maxRecDepth 16384

noncomputable section

namespace Cert.Kernel.Own

open Cert.Kernel Cert.Kernel.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel's body, case by case -/

/-- The first branch: the first block of the contraction. -/
abbrev cond0_0 (i : grid0.Coords) : Prop := (Scalar.cmpi .ne (Scalar.extui (Scalar.cmpi .eq (BitVec.ofNat 32 (i 0).val) 0#32)) 0#32) = 1#1
/-- The second branch: the last block of the contraction. -/
abbrev cond0_1 (i : grid0.Coords) : Prop := k0_cond2 i = 1#1

/-- The row of 512 scales, from the running maxima: four blocks of 128 tokens. -/
def scaleOut (a : Vec F S512x128 .bf16) : Vec F S1x512 .f32 :=
  View.canon (Val := Elt F) (s := S1x512) (e := .f32) [
    ⟨Rect.unit (s := S1x512) ![0, 384] S1x128.size inb_S1x512_S1x128_0_384, scaleBlk (View.ld (Val := Elt F) (e' := .bf16) a (Rect.unit (s := S512x128) ![384, 0] S128x128.size inb_S512x128_S128x128_384_0))⟩,
    ⟨Rect.unit (s := S1x512) ![0, 256] S1x128.size inb_S1x512_S1x128_0_256, scaleBlk (View.ld (Val := Elt F) (e' := .bf16) a (Rect.unit (s := S512x128) ![256, 0] S128x128.size inb_S512x128_S128x128_256_0))⟩,
    ⟨Rect.unit (s := S1x512) ![0, 128] S1x128.size inb_S1x512_S1x128_0_128, scaleBlk (View.ld (Val := Elt F) (e' := .bf16) a (Rect.unit (s := S512x128) ![128, 0] S128x128.size inb_S512x128_S128x128_128_0))⟩,
    ⟨Rect.unit (s := S1x512) ![0, 0] S1x128.size inb_S1x512_S1x128_0_0, scaleBlk (View.ld (Val := Elt F) (e' := .bf16) a (Rect.unit (s := S512x128) ![0, 0] S128x128.size inb_S512x128_S128x128_0_0))⟩]

/-- The shrunk activations, each token's kept at its own adapter: four blocks of 128 tokens. -/
def shrinkOut (tok : Vec F S1x512 .i32) (acc : Vec F S512x64 .f32) : Vec F S512x64 .bf16 :=
  View.canon (Val := Elt F) (s := S512x64) (e := .bf16) [
    ⟨Rect.unit (s := S512x64) ![384, 0] S128x64.size inb_S512x64_S128x64_384_0, shrinkBlk (View.ld (Val := Elt F) (e' := .i32) tok (Rect.unit (s := S1x512) ![0, 384] S1x128.size inb_S1x512_S1x128_0_384)) (View.ld (Val := Elt F) (e' := .f32) acc (Rect.unit (s := S512x64) ![384, 0] S128x64.size inb_S512x64_S128x64_384_0))⟩,
    ⟨Rect.unit (s := S512x64) ![256, 0] S128x64.size inb_S512x64_S128x64_256_0, shrinkBlk (View.ld (Val := Elt F) (e' := .i32) tok (Rect.unit (s := S1x512) ![0, 256] S1x128.size inb_S1x512_S1x128_0_256)) (View.ld (Val := Elt F) (e' := .f32) acc (Rect.unit (s := S512x64) ![256, 0] S128x64.size inb_S512x64_S128x64_256_0))⟩,
    ⟨Rect.unit (s := S512x64) ![128, 0] S128x64.size inb_S512x64_S128x64_128_0, shrinkBlk (View.ld (Val := Elt F) (e' := .i32) tok (Rect.unit (s := S1x512) ![0, 128] S1x128.size inb_S1x512_S1x128_0_128)) (View.ld (Val := Elt F) (e' := .f32) acc (Rect.unit (s := S512x64) ![128, 0] S128x64.size inb_S512x64_S128x64_128_0))⟩,
    ⟨Rect.unit (s := S512x64) ![0, 0] S128x64.size inb_S512x64_S128x64_0_0, shrinkBlk (View.ld (Val := Elt F) (e' := .i32) tok (Rect.unit (s := S1x512) ![0, 0] S1x128.size inb_S1x512_S1x128_0_0)) (View.ld (Val := Elt F) (e' := .f32) acc (Rect.unit (s := S512x64) ![0, 0] S128x64.size inb_S512x64_S128x64_0_0))⟩]

set_option maxHeartbeats 4000000 in
/-- The first block: both accumulators are cleared, then updated; nothing is written out. -/
theorem run0_A (c : Dev nD) (i : grid0.Coords) (arg1 : Memref sig .tc .vmem S512x1024 .bf16) (harg1 : arg1.IsWhole) (arg2 : Memref sig .tc .vmem S64x1024 .bf16) (harg2 : arg2.IsWhole) (arg3 : Memref sig .tc .vmem S1x512 .i32) (harg3 : arg3.IsWhole) (arg4 : Memref sig .tc .vmem S1x512 .f32) (harg4 : arg4.IsWhole) (arg5 : Memref sig .tc .vmem S512x64 .bf16) (harg5 : arg5.IsWhole) (arg6 : Memref sig .tc .vmem S512x128 .bf16) (harg6 : arg6.IsWhole) (arg7 : Memref sig .tc .vmem S512x64 .f32) (harg7 : arg7.IsWhole) (hc0 : cond0_0 i) (hc1 : ¬cond0_1 i)
    (x0 : Vec F S512x1024 .bf16) (x1 : Vec F S64x1024 .bf16) (x2 : Vec F S1x512 .i32) (xi3 : Vec F S1x512 .f32) (xi4 : Vec F S512x64 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare (k0_pay44 x0 (k0_pay40 (F := F))) ∗ owns (c : Thread nD τ) arg7 fullShare (k0_pay43 x0 (k0_pay41 (F := F)) x1)) -∗ K ⟨⟩))
      ⊢ wp frame (wpE (defs₀ (F := F)) Variants.none c none) E (cc0_token_stats i arg1 harg1 arg2 harg2 arg3 harg3 arg4 harg4 arg5 harg5 arg6 harg6 arg7 harg7) K := by
  simp only [cc0_token_stats_eq_skeleton]; unfold cc0_token_stats_skel
  simp only [k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3; obtain rfl := harg4.eq_unread hf4; obtain rfl := harg5.eq_unread hf5
  sl_exec (disch := first | sl_exact hc0 | sl_exact hc1)
  sl_step
  iapply Hk
  isplitl [H1]
  · iexists _; isplitr
    swap
    · iexact H1
    ipureintro
    exact harg1.read_unread _
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    (try sl_unfold_words)
    simp (disch := decide) only [readAt_ld, readCov_top, Memref.IsWhole.read_unread, ld_top, read_top]
  iexists _; isplitr
  swap
  · iexact H7
  ipureintro
  (try sl_unfold_words)
  simp (disch := decide) only [readAt_ld, readCov_top, Memref.IsWhole.read_unread, ld_top, read_top]

set_option maxHeartbeats 4000000 in
/-- A middle block: both accumulators are updated; nothing is written out. -/
theorem run0_B (c : Dev nD) (i : grid0.Coords) (arg1 : Memref sig .tc .vmem S512x1024 .bf16) (harg1 : arg1.IsWhole) (arg2 : Memref sig .tc .vmem S64x1024 .bf16) (harg2 : arg2.IsWhole) (arg3 : Memref sig .tc .vmem S1x512 .i32) (harg3 : arg3.IsWhole) (arg4 : Memref sig .tc .vmem S1x512 .f32) (harg4 : arg4.IsWhole) (arg5 : Memref sig .tc .vmem S512x64 .bf16) (harg5 : arg5.IsWhole) (arg6 : Memref sig .tc .vmem S512x128 .bf16) (harg6 : arg6.IsWhole) (arg7 : Memref sig .tc .vmem S512x64 .f32) (harg7 : arg7.IsWhole) (hc0 : ¬cond0_0 i) (hc1 : ¬cond0_1 i)
    (x0 : Vec F S512x1024 .bf16) (x1 : Vec F S64x1024 .bf16) (x2 : Vec F S1x512 .i32) (xi3 : Vec F S1x512 .f32) (xi4 : Vec F S512x64 .bf16) (s0 : Vec F S512x128 .bf16) (s1 : Vec F S512x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare (k0_pay44 x0 s0) ∗ owns (c : Thread nD τ) arg7 fullShare (k0_pay43 x0 s1 x1)) -∗ K ⟨⟩))
      ⊢ wp frame (wpE (defs₀ (F := F)) Variants.none c none) E (cc0_token_stats i arg1 harg1 arg2 harg2 arg3 harg3 arg4 harg4 arg5 harg5 arg6 harg6 arg7 harg7) K := by
  simp only [cc0_token_stats_eq_skeleton]; unfold cc0_token_stats_skel
  simp only [k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H1]
  · iexists _; isplitr
    swap
    · iexact H1
    ipureintro
    exact harg1.read_unread _
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    (try sl_unfold_words)
    simp (disch := decide) only [readAt_ld, readCov_top, Memref.IsWhole.read_unread, ld_top, read_top]
  iexists _; isplitr
  swap
  · iexact H7
  ipureintro
  (try sl_unfold_words)
  simp (disch := decide) only [readAt_ld, readCov_top, Memref.IsWhole.read_unread, ld_top, read_top]

end Cert.Kernel.Own

end
-- ==== Proof.P.Run0C.lean ====
module

public import proofs.«01_k».proof.Proof.P.Run0

@[expose] public section

set_option maxRecDepth 16384

noncomputable section

namespace Cert.Kernel.Own

open Cert.Kernel Cert.Kernel.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last block: both accumulators are updated, then the scales and the selected activations are written out. -/
theorem run0_C (c : Dev nD) (i : grid0.Coords) (arg1 : Memref sig .tc .vmem S512x1024 .bf16) (harg1 : arg1.IsWhole) (arg2 : Memref sig .tc .vmem S64x1024 .bf16) (harg2 : arg2.IsWhole) (arg3 : Memref sig .tc .vmem S1x512 .i32) (harg3 : arg3.IsWhole) (arg4 : Memref sig .tc .vmem S1x512 .f32) (harg4 : arg4.IsWhole) (arg5 : Memref sig .tc .vmem S512x64 .bf16) (harg5 : arg5.IsWhole) (arg6 : Memref sig .tc .vmem S512x128 .bf16) (harg6 : arg6.IsWhole) (arg7 : Memref sig .tc .vmem S512x64 .f32) (harg7 : arg7.IsWhole) (hc0 : ¬cond0_0 i) (hc1 : cond0_1 i)
    (x0 : Vec F S512x1024 .bf16) (x1 : Vec F S64x1024 .bf16) (x2 : Vec F S1x512 .i32) (s0 : Vec F S512x128 .bf16) (s1 : Vec F S512x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2 ∗ owns (c : Thread nD τ) arg4 fullShare (scaleOut (k0_pay44 x0 s0)) ∗ owns (c : Thread nD τ) arg5 fullShare (shrinkOut x2 (k0_pay43 x0 s1 x1)) ∗ owns (c : Thread nD τ) arg6 fullShare (k0_pay44 x0 s0) ∗ owns (c : Thread nD τ) arg7 fullShare (k0_pay43 x0 s1 x1)) -∗ K ⟨⟩))
      ⊢ wp frame (wpE (defs₀ (F := F)) Variants.none c none) E (cc0_token_stats i arg1 harg1 arg2 harg2 arg3 harg3 arg4 harg4 arg5 harg5 arg6 harg6 arg7 harg7) K := by
  simp only [cc0_token_stats_eq_skeleton]; unfold cc0_token_stats_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg1.eq_unread hf1; obtain rfl := harg2.eq_unread hf2; obtain rfl := harg3.eq_unread hf3; obtain rfl := harg6.eq_unread hf6; obtain rfl := harg7.eq_unread hf7
  sl_exec (disch := first | sl_exact hc0 | sl_exact hc1)
  sl_step
  iapply Hk
  isplitl [H1]
  · iexists _; isplitr
    swap
    · iexact H1
    ipureintro
    exact harg1.read_unread _
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    refine (View.read_writes_eq_canon _ _ _ (View.cover_of_tiledL _ ![1, 128] (by sl_kernel_rfl))).trans ?_
    sl_unfold_words
    simp (disch := decide) only [readAt_ld, readCov_top, Memref.IsWhole.read_unread, ld_top, read_top]
    exact canon4 (scaleBlk3 _) (scaleBlk2 _) (scaleBlk1 _) (scaleBlk0 _)
  isplitl [H5]
  · iexists _; isplitr
    swap
    · iexact H5
    ipureintro
    refine (View.read_writes_eq_canon _ _ _ (View.cover_of_tiledL _ ![128, 64] (by sl_kernel_rfl))).trans ?_
    sl_unfold_words
    simp (disch := decide) only [readAt_ld, readCov_top, Memref.IsWhole.read_unread, ld_top, read_top]
    exact canon4 (shrinkBlk3 _ _) (shrinkBlk2 _ _) (shrinkBlk1 _ _) (shrinkBlk0 _ _)
  isplitl [H6]
  · iexists _; isplitr
    swap
    · iexact H6
    ipureintro
    (try sl_unfold_words)
    simp (disch := decide) only [readAt_ld, readCov_top, Memref.IsWhole.read_unread, ld_top, read_top]
  iexists _; isplitr
  swap
  · iexact H7
  ipureintro
  (try sl_unfold_words)
  simp (disch := decide) only [readAt_ld, readCov_top, Memref.IsWhole.read_unread, ld_top, read_top]

end Cert.Kernel.Own

end
-- ==== Proof.P.Data0.lean ====
module

public import proofs.«01_k».proof.Proof.P.Run0C
public import Idealize.ShloMosaic.Lib.Pipeline.FrameBody

@[expose] public section

set_option maxRecDepth 16384

noncomputable section

namespace Cert.Kernel.Own

open Cert.Kernel Cert.Kernel.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The token statistics region: its proof data -/

variable (W : Dev nD → Valuation τ sig (Elt F))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- Point number `n` (wrapped round). -/
def pt0 (n : ℕ) : Fin cfg0.N := ⟨n % 27, lt_of_lt_of_eq (Nat.mod_lt _ (by omega)) (show 27 = cfg0.N from N_0.symm)⟩

theorem pt0_val (t : Fin cfg0.N) : pt0 t.val = t :=
  Fin.ext (Nat.mod_eq_of_lt (lt_of_lt_of_eq t.isLt (show cfg0.N = 27 from N_0)))

/-- What the two scratch buffers hold after `n` points: the running maxima, and the running product. -/
def st0 (c : Dev nD) : ℕ → Vec F S512x128 .bf16 × Vec F S512x64 .f32
  | 0 => (k0_pay40, k0_pay41)
  | n + 1 => (k0_pay44 (iblk0 W c 0 (pt0 n)) (st0 c n).1, k0_pay43 (iblk0 W c 0 (pt0 n)) (st0 c n).2 (iblk0 W c 1 (pt0 n)))

theorem st0_zero (c : Dev nD) : st0 W c 0 = (k0_pay40, k0_pay41) := rfl
theorem st0_succ (c : Dev nD) (t : Fin cfg0.N) :
    st0 W c (t.val + 1) = (k0_pay44 (iblk0 W c 0 t) (st0 W c t.val).1, k0_pay43 (iblk0 W c 0 t) (st0 W c t.val).2 (iblk0 W c 1 t)) := by
  show (k0_pay44 (iblk0 W c 0 (pt0 t.val)) (st0 W c t.val).1, k0_pay43 (iblk0 W c 0 (pt0 t.val)) (st0 W c t.val).2 (iblk0 W c 1 (pt0 t.val))) = _
  rw [pt0_val]

abbrev scM0_0 : Memref sig .tc .vmem S512x128 .bf16 := Memref.whole cc0_scratch0
abbrev scM0_1 : Memref sig .tc .vmem S512x64 .f32 := Memref.whole cc0_scratch1

/-- The two scratch buffers before point `n`. -/
def scr0 (c : Dev nD) : ℕ → sProp 𝕄
  | 0 => iprop((∃ d, owns (c : Thread nD τ) scM0_0 fullShare d) ∗ (∃ d, owns (c : Thread nD τ) scM0_1 fullShare d))
  | n + 1 => iprop(owns (c : Thread nD τ) scM0_0 fullShare (st0 W c (n + 1)).1 ∗ owns (c : Thread nD τ) scM0_1 fullShare (st0 W c (n + 1)).2)

/-- The other scoped buffers: the second kernel's. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))

theorem scr0_zero (c : Dev nD) : scr0 W c 0 = iprop((∃ d, owns (c : Thread nD τ) scM0_0 fullShare d) ∗ (∃ d, owns (c : Thread nD τ) scM0_1 fullShare d)) := rfl
theorem scr0_pos (c : Dev nD) (n : ℕ) (h : n ≠ 0) :
    scr0 W c n = iprop(owns (c : Thread nD τ) scM0_0 fullShare (st0 W c n).1 ∗ owns (c : Thread nD τ) scM0_1 fullShare (st0 W c n).2) := by
  cases n with
  | zero => exact absurd rfl h
  | succ n => rfl

/-- The region's proof data: the arrays as `W` has them; each input's buffer keeps its block; the two outputs hold, after
    the last point, the scales and the product; between points the two scratch buffers hold `st0`. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => iblk0 W c 2 t
    | ⟨3, _⟩ => scaleOut (st0 W c (t.val + 1)).1
    | ⟨4, _⟩ => shrinkOut (iblk0 W c 2 t) (st0 W c (t.val + 1)).2
  Φ t := iprop(scr0 W c t.val ∗ rest0 c)
  q _ := fullShare
  owed _ := 0

theorem A0_eq (c : Dev nD) (w : Fin cfg0.W) : (dat0 W c).A w = W c (Proc.devRef .tc (Pipeline.arrRef spec0 w)) := by
  dsimp only [dat0]
theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = scaleOut (st0 W c (t.val + 1)).1 := by dsimp only [dat0]
theorem after0_4 (c : Dev nD) (t : Fin cfg0.N) : (dat0 W c).after 4 t = shrinkOut (iblk0 W c 2 t) (st0 W c (t.val + 1)).2 := by dsimp only [dat0]
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 W c).before 2 t d = iblk0 W c 2 t :=
  ((dat0 W c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)

/-! ## Where the branches are taken, where the outputs are idle -/

theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 1 % 27 := Pipeline.Grid.coords_val t 0 (by decide) rfl
    simp only [cond0_0, e0]
    word_cmp
   : ∀ t : Fin grid0.N, cond0_0 (grid0.coords t) ↔ t.val % 27 = 0)
theorem hcond0_1 : ∀ t : Fin cfg0.N, cond0_1 (grid0.coords t) ↔ t.val % 27 = 26 :=
  (fun t => by
    have ht : t.val < 27 := Nat.lt_of_lt_of_eq t.isLt N_0
    have e0 : (grid0.coords t 0).val = t.val / 1 % 27 := Pipeline.Grid.coords_val t 0 (by decide) rfl
    simp only [cond0_1, k0_cond2, e0]
    word_cmp
   : ∀ t : Fin grid0.N, cond0_1 (grid0.coords t) ↔ t.val % 27 = 26)
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The body at a point -/

abbrev stg0 (w : Fin cfg0.W) (t : Fin cfg0.N) := (cfg0.win w).stage (cfg0.slots t w)

def bodyPre0 (c : Dev nD) (t : Fin cfg0.N) : sProp 𝕄 :=
  iprop((dat0 W c).Φ t.castSucc ∗ (dat0 W c).owesAt () t.castSucc
    ∗ (∃ d, owns (c : Thread nD τ) (stg0 0 t) fullShare ((dat0 W c).before 0 t d))
    ∗ (∃ d, owns (c : Thread nD τ) (stg0 1 t) fullShare ((dat0 W c).before 1 t d))
    ∗ (∃ d, owns (c : Thread nD τ) (stg0 2 t) fullShare ((dat0 W c).before 2 t d))
    ∗ (∃ d, owns (c : Thread nD τ) (stg0 3 t) fullShare ((dat0 W c).before 3 t d))
    ∗ (∃ d, owns (c : Thread nD τ) (stg0 4 t) fullShare ((dat0 W c).before 4 t d)))

def bodyPost0 (c : Dev nD) (t : Fin cfg0.N) : sProp 𝕄 :=
  iprop((dat0 W c).Φ t.succ ∗ (dat0 W c).owesAt () t.succ
    ∗ (dat0 W c).leavesExact 0 t ∗ (dat0 W c).leavesExact 1 t ∗ (dat0 W c).leavesExact 2 t ∗ (dat0 W c).leavesExact 3 t ∗ (dat0 W c).leavesExact 4 t)

theorem leaves0_0 (c : Dev nD) (t : Fin cfg0.N) : (dat0 W c).leavesExact 0 t = owns (c : Thread nD τ) (stg0 0 t) fullShare (iblk0 W c 0 t) := by
  unfold Dat.leavesExact; rw [show cfg0.idle 0 (cfg0.grid.coords t) = false from rfl, after0_0]
theorem leaves0_1 (c : Dev nD) (t : Fin cfg0.N) : (dat0 W c).leavesExact 1 t = owns (c : Thread nD τ) (stg0 1 t) fullShare (iblk0 W c 1 t) := by
  unfold Dat.leavesExact; rw [show cfg0.idle 1 (cfg0.grid.coords t) = false from rfl, after0_1]
theorem leaves0_2 (c : Dev nD) (t : Fin cfg0.N) : (dat0 W c).leavesExact 2 t = owns (c : Thread nD τ) (stg0 2 t) fullShare (iblk0 W c 2 t) := by
  unfold Dat.leavesExact; rw [show cfg0.idle 2 (cfg0.grid.coords t) = false from rfl, after0_2]

set_option maxHeartbeats 4800000 in
/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2]
  rw [show (dat0 W c).owesAt () t.succ = (dat0 W c).owesAt () t.castSucc from rfl, leaves0_0, leaves0_1, leaves0_2]
  rw [show (dat0 W c).Φ t.succ = iprop(scr0 W c (t.val + 1) ∗ rest0 c) from rfl, show (dat0 W c).Φ t.castSucc = iprop(scr0 W c t.val ∗ rest0 c) from rfl]
  rw [scr0_pos W c (t.val + 1) (Nat.succ_ne_zero _), st0_succ W c t]
  have hN : t.val < 27 := lt_of_lt_of_eq t.isLt (show cfg0.N = 27 from N_0)
  by_cases h1 : t.val % 27 = 26
  · have hz : t.val ≠ 0 := by omega
    have hc0 : ¬cond0_0 (grid0.coords t) := fun h => by have := (hcond0_0 t).mp h; omega
    have hc1 : cond0_1 (grid0.coords t) := (hcond0_1 t).mpr h1
    rw [show (dat0 W c).leavesExact 3 t = owns (c : Thread nD τ) (stg0 3 t) fullShare ((dat0 W c).after 3 t) from by
      unfold Dat.leavesExact; rw [show cfg0.idle 3 (cfg0.grid.coords t) = false from liveAt0_3 t hc1], after0_3]
    rw [show (dat0 W c).leavesExact 4 t = owns (c : Thread nD τ) (stg0 4 t) fullShare ((dat0 W c).after 4 t) from by
      unfold Dat.leavesExact; rw [show cfg0.idle 4 (cfg0.grid.coords t) = false from liveAt0_4 t hc1], after0_4, st0_succ W c t]
    rw [scr0_pos W c t.val hz]
    iintro ⟨⟨⟨HS0, HS1⟩, Hg⟩, Ho, ⟨%d0, H0⟩, ⟨%d1, H1⟩, ⟨%d2, H2⟩, ⟨%d3, H3⟩, ⟨%d4, H4⟩⟩
    iapply (run0_C c (grid0.coords t) _ _ _ _ _ _ _ _ _ _ _ _ _ _ hc0 hc1 (iblk0 W c 0 t) (iblk0 W c 1 t) (iblk0 W c 2 t) _ _ Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4
  · have hc1 : ¬cond0_1 (grid0.coords t) := fun h => h1 ((hcond0_1 t).mp h)
    rw [Dat.leavesExact_idle (dat0 W c) 3 t (idleAt0_3 t hc1) (noFlush0_3 t hc1), Dat.leavesExact_idle (dat0 W c) 4 t (idleAt0_4 t hc1) (noFlush0_4 t hc1)]
    by_cases hz : t.val = 0
    · have hc0 : cond0_0 (grid0.coords t) := (hcond0_0 t).mpr (by omega)
      rw [hz, scr0_zero, st0_zero]
      iintro ⟨⟨⟨HS0, HS1⟩, Hg⟩, Ho, ⟨%d0, H0⟩, ⟨%d1, H1⟩, ⟨%d2, H2⟩, ⟨%d3, H3⟩, ⟨%d4, H4⟩⟩
      iapply (run0_A c (grid0.coords t) _ _ _ _ _ _ _ _ _ _ _ _ _ _ hc0 hc1 (iblk0 W c 0 t) (iblk0 W c 1 t) (iblk0 W c 2 t) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexists _; iexact H3
      iexists _; iexact H4
    · have hc0 : ¬cond0_0 (grid0.coords t) := fun h => by have := (hcond0_0 t).mp h; omega
      rw [scr0_pos W c t.val hz]
      iintro ⟨⟨⟨HS0, HS1⟩, Hg⟩, Ho, ⟨%d0, H0⟩, ⟨%d1, H1⟩, ⟨%d2, H2⟩, ⟨%d3, H3⟩, ⟨%d4, H4⟩⟩
      iapply (run0_B c (grid0.coords t) _ _ _ _ _ _ _ _ _ _ _ _ _ _ hc0 hc1 (iblk0 W c 0 t) (iblk0 W c 1 t) (iblk0 W c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexists _; iexact H3
      iexists _; iexact H4

theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

/-- The scoped buffers, with the scratch buffers named first. -/
theorem rest0_eq (c : Dev nD) : (Pipeline.scopedRest spec0 c : sProp 𝕄)
    = iprop((∃ d, owns (c : Thread nD τ) scM0_0 fullShare d) ∗ (∃ d, owns (c : Thread nD τ) scM0_1 fullShare d) ∗ rest0 c) := by
  rw [scopedRest0_eq]; simp only [scM0_0, scM0_1, owns_whole, rest0]; try rfl

theorem hin0 (c : Dev nD) : iprop(Pipeline.scopedRest spec0 c ∗ emp) ⊢ (dat0 W c).Φ 0 := by
  rw [show (dat0 W c).Φ 0 = iprop(scr0 W c 0 ∗ rest0 c) from rfl, scr0_zero, rest0_eq]
  iintro ⟨⟨HS0, HS1, Hg⟩, -⟩
  isplitl [HS0 HS1]
  · isplitl [HS0]; · iexact HS0
    iexact HS1
  iexact Hg

theorem hout0 (c : Dev nD) : (dat0 W c).Φ (Fin.last cfg0.N) ⊢ iprop(Pipeline.scopedRest spec0 c ∗ emp) := by
  rw [show (dat0 W c).Φ (Fin.last cfg0.N) = iprop(scr0 W c cfg0.N ∗ rest0 c) from rfl,
    scr0_pos W c cfg0.N (by rw [show cfg0.N = 27 from N_0]; omega), rest0_eq]
  iintro ⟨⟨HS0, HS1⟩, Hg⟩
  isplitl
  · isplitl [HS0]; · iexists _; iexact HS0
    isplitl [HS1]; · iexists _; iexact HS1
    iexact Hg
  iempintro

end Cert.Kernel.Own

end
-- ==== Proof.P.Pay1.lean ====
module

public import proofs.«01_k».proof.Proof.P.Pay0

@[expose] public section

set_option maxRecDepth 16384

noncomputable section

namespace Cert.Kernel.Own

open Cert.Kernel Cert.Kernel.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear kernel's body: its values and its branches -/

/-- The four branches: the very first point; the first sweep; the first block of columns; the last block of columns. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev cond1_1 (i : grid1.Coords) : Prop := k1_cond2 i = 1#1
abbrev cond1_2 (i : grid1.Coords) : Prop := (Scalar.cmpi .ne (Scalar.extui (Scalar.cmpi .eq (BitVec.ofNat 32 (i 1).val) 0#32)) 0#32) = 1#1
abbrev cond1_3 (i : grid1.Coords) : Prop := k1_cond4 i = 1#1

/-- One block of 128 scales, spread over a column block. -/
def sBlk (r : Vec F S1x128 .f32) : FVec F S128x128 .f32 := k1_pay9 r
/-- One block of 128 reciprocals, spread over a column block. -/
def iBlk (r : Vec F S1x128 .f32) : FVec F S128x128 .bf16 := k1_pay10 r
theorem sBlk0 (r : Vec F S1x128 .f32) : k1_pay9 r = sBlk r := rfl
theorem sBlk1 (r : Vec F S1x128 .f32) : k1_pay12 r = sBlk r := rfl
theorem sBlk2 (r : Vec F S1x128 .f32) : k1_pay15 r = sBlk r := rfl
theorem sBlk3 (r : Vec F S1x128 .f32) : k1_pay3 r = sBlk r := rfl
theorem iBlk0 (r : Vec F S1x128 .f32) : k1_pay10 r = iBlk r := rfl
theorem iBlk1 (r : Vec F S1x128 .f32) : k1_pay13 r = iBlk r := rfl
theorem iBlk2 (r : Vec F S1x128 .f32) : k1_pay1 (k1_pay14 r) (Scalar.ofBits .f32 0x3F800000#32) = iBlk r := rfl
theorem iBlk3 (r : Vec F S1x128 .f32) : k1_pay4 r = iBlk r := rfl

/-- One slice of 128 columns, quantised. -/
def qz (a b : Vec F S512x128 .bf16) : FVec F S512x128 .fp8e4m3 := k1_pay16 a b
theorem qz_a0 (a b : Vec F S512x128 .bf16) : k1_pay16 a b = qz a b := rfl
theorem qz_b0 (a b : Vec F S512x128 .bf16) : k1_pay17 a b = qz a b := shapeCast_self _ _
theorem qz_a1 (a b : Vec F S512x128 .bf16) : k1_pay18 a b = qz a b := rfl
theorem qz_b1 (a b : Vec F S512x128 .bf16) : k1_pay19 a b = qz a b := shapeCast_self _ _
theorem qz_a2 (a b : Vec F S512x128 .bf16) : k1_pay20 a b = qz a b := rfl
theorem qz_b2 (a b : Vec F S512x128 .bf16) : k1_pay21 a b = qz a b := shapeCast_self _ _
theorem qz_a3 (a b : Vec F S512x128 .bf16) : k1_pay22 a b = qz a b := rfl
theorem qz_b3 (v : FVec F S512x128 .fp8e4m3) : k1_pay23 v = v := shapeCast_self _ _
theorem qz_a4 (a b : Vec F S512x128 .bf16) : k1_pay24 a b = qz a b := rfl
theorem qz_b4 (a b : Vec F S512x128 .bf16) : k1_pay25 a b = qz a b := shapeCast_self _ _
theorem qz_a5 (a b : Vec F S512x128 .bf16) : k1_pay26 a b = qz a b := rfl
theorem qz_b5 (v : FVec F S512x128 .fp8e4m3) : k1_pay27 v = v := shapeCast_self _ _
theorem qz_a6 (a b : Vec F S512x128 .bf16) : k1_pay28 a b = qz a b := rfl
theorem qz_b6 (a b : Vec F S512x128 .bf16) : k1_pay29 a b = qz a b := shapeCast_self _ _
theorem qz_a7 (a b : Vec F S512x128 .bf16) : k1_pay31 (k1_pay30 a b) = qz a b := rfl
theorem qz_b7 (a b : Vec F S512x128 .bf16) : k1_pay32 (k1_pay30 a b) = qz a b := shapeCast_self _ _
theorem qz_a8 (a b : Vec F S512x128 .bf16) : k1_pay33 a b = qz a b := rfl
theorem qz_b8 (a b : Vec F S512x128 .bf16) : k1_pay34 a b = qz a b := shapeCast_self _ _
theorem qz_a9 (a b : Vec F S512x128 .bf16) : k1_pay37 (k1_pay35 a b) (Scalar.ofBits .f32 0x43E00000#32) (k1_pay36 (F := F)) = qz a b := rfl
theorem qz_b9 (a b : Vec F S512x128 .bf16) : k1_pay38 (k1_pay35 a b) (Scalar.ofBits .f32 0x43E00000#32) (k1_pay36 (F := F)) = qz a b := shapeCast_self _ _
theorem qz_a10 (a b : Vec F S512x128 .bf16) : k1_pay39 a b = qz a b := rfl
theorem qz_b10 (a b : Vec F S512x128 .bf16) : k1_pay40 a b = qz a b := shapeCast_self _ _
theorem qz_a11 (a b : Vec F S512x128 .bf16) : k1_pay42 (k1_pay41 a b) = qz a b := rfl
theorem qz_b11 (a b : Vec F S512x128 .bf16) : k1_pay43 (k1_pay41 a b) = qz a b := shapeCast_self _ _
theorem qz_a12 (a b : Vec F S512x128 .bf16) : k1_pay44 a b = qz a b := rfl
theorem qz_b12 (a b : Vec F S512x128 .bf16) : k1_pay45 a b = qz a b := shapeCast_self _ _
theorem qz_a13 (a b : Vec F S512x128 .bf16) : k1_pay47 (k1_pay46 a) b = qz a b := rfl
theorem qz_b13 (a b : Vec F S512x128 .bf16) : k1_pay48 (k1_pay46 a) b = qz a b := shapeCast_self _ _
theorem qz_a14 (a b : Vec F S512x128 .bf16) : k1_pay49 a b = qz a b := rfl
theorem qz_b14 (a b : Vec F S512x128 .bf16) : k1_pay50 a b = qz a b := shapeCast_self _ _
theorem qz_a15 (a b : Vec F S512x128 .bf16) : k1_pay51 a b = qz a b := rfl
theorem qz_b15 (a b : Vec F S512x128 .bf16) : k1_pay52 a b = qz a b := shapeCast_self _ _
theorem qz_a16 (a b : Vec F S512x128 .bf16) : k1_pay53 a b = qz a b := rfl
theorem qz_b16 (a b : Vec F S512x128 .bf16) : k1_pay54 a b = qz a b := shapeCast_self _ _
theorem qz_a17 (a b : Vec F S512x128 .bf16) : k1_pay55 a b = qz a b := rfl
theorem qz_b17 (a b : Vec F S512x128 .bf16) : k1_pay56 a b = qz a b := shapeCast_self _ _
theorem qz_a18 (a b : Vec F S512x128 .bf16) : k1_pay57 a b = qz a b := rfl
theorem qz_b18 (v : FVec F S512x128 .fp8e4m3) : k1_pay58 v = v := shapeCast_self _ _
theorem qz_a19 (a b : Vec F S512x128 .bf16) : k1_pay59 a b = qz a b := rfl
theorem qz_b19 (a b : Vec F S512x128 .bf16) : k1_pay60 a b = qz a b := shapeCast_self _ _
theorem qz_a20 (a b : Vec F S512x128 .bf16) : k1_pay61 a b = qz a b := rfl
theorem qz_b20 (v : FVec F S512x128 .fp8e4m3) : k1_pay62 v = v := shapeCast_self _ _
theorem qz_a21 (a b : Vec F S512x128 .bf16) : k1_pay63 a b = qz a b := rfl
theorem qz_b21 (a b : Vec F S512x128 .bf16) : k1_pay64 a b = qz a b := shapeCast_self _ _
theorem qz_a22 (a b : Vec F S512x128 .bf16) : k1_pay66 (k1_pay65 a b) = qz a b := rfl
theorem qz_b22 (a b : Vec F S512x128 .bf16) : k1_pay67 (k1_pay65 a b) = qz a b := shapeCast_self _ _
theorem qz_a23 (a b : Vec F S512x128 .bf16) : k1_pay68 a b = qz a b := rfl
theorem qz_b23 (a b : Vec F S512x128 .bf16) : k1_pay69 a b = qz a b := shapeCast_self _ _

/-- The scales, one row for each token, spread over 128 columns. -/
def sOut (sc : Vec F S1x512 .f32) : Vec F S512x128 .f32 :=
  View.canon (Val := Elt F) (s := S512x128) (e := .f32) [
    ⟨Rect.unit (s := S512x128) ![384, 0] S128x128.size inb_S512x128_S128x128_384_0, sBlk (View.ld (Val := Elt F) (e' := .f32) sc (Rect.unit (s := S1x512) ![0, 384] S1x128.size inb_S1x512_S1x128_0_384))⟩,
    ⟨Rect.unit (s := S512x128) ![256, 0] S128x128.size inb_S512x128_S128x128_256_0, sBlk (View.ld (Val := Elt F) (e' := .f32) sc (Rect.unit (s := S1x512) ![0, 256] S1x128.size inb_S1x512_S1x128_0_256))⟩,
    ⟨Rect.unit (s := S512x128) ![128, 0] S128x128.size inb_S512x128_S128x128_128_0, sBlk (View.ld (Val := Elt F) (e' := .f32) sc (Rect.unit (s := S1x512) ![0, 128] S1x128.size inb_S1x512_S1x128_0_128))⟩,
    ⟨Rect.unit (s := S512x128) ![0, 0] S128x128.size inb_S512x128_S128x128_0_0, sBlk (View.ld (Val := Elt F) (e' := .f32) sc (Rect.unit (s := S1x512) ![0, 0] S1x128.size inb_S1x512_S1x128_0_0))⟩]

/-- The reciprocals of the scales, likewise. -/
def invOut (sc : Vec F S1x512 .f32) : Vec F S512x128 .bf16 :=
  View.canon (Val := Elt F) (s := S512x128) (e := .bf16) [
    ⟨Rect.unit (s := S512x128) ![384, 0] S128x128.size inb_S512x128_S128x128_384_0, iBlk (View.ld (Val := Elt F) (e' := .f32) sc (Rect.unit (s := S1x512) ![0, 384] S1x128.size inb_S1x512_S1x128_0_384))⟩,
    ⟨Rect.unit (s := S512x128) ![256, 0] S128x128.size inb_S512x128_S128x128_256_0, iBlk (View.ld (Val := Elt F) (e' := .f32) sc (Rect.unit (s := S1x512) ![0, 256] S1x128.size inb_S1x512_S1x128_0_256))⟩,
    ⟨Rect.unit (s := S512x128) ![128, 0] S128x128.size inb_S512x128_S128x128_128_0, iBlk (View.ld (Val := Elt F) (e' := .f32) sc (Rect.unit (s := S1x512) ![0, 128] S1x128.size inb_S1x512_S1x128_0_128))⟩,
    ⟨Rect.unit (s := S512x128) ![0, 0] S128x128.size inb_S512x128_S128x128_0_0, iBlk (View.ld (Val := Elt F) (e' := .f32) sc (Rect.unit (s := S1x512) ![0, 0] S1x128.size inb_S1x512_S1x128_0_0))⟩]

/-- The block of 3072 columns, quantised: its 24 slices. -/
def qPieces (x : Vec F S512x3072 .bf16) (inv : Vec F S512x128 .bf16) : List (View.Piece (Elt F) S512x3072 .fp8e4m3) := [
    ⟨Rect.unit (s := S512x3072) ![0, 2944] S512x128.size inb_S512x3072_S512x128_0_2944, qz (View.ld (Val := Elt F) (e' := .bf16) x (Rect.unit (s := S512x3072) ![0, 2944] S512x128.size inb_S512x3072_S512x128_0_2944)) inv⟩,
    ⟨Rect.unit (s := S512x3072) ![0, 2816] S512x128.size inb_S512x3072_S512x128_0_2816, qz (View.ld (Val := Elt F) (e' := .bf16) x (Rect.unit (s := S512x3072) ![0, 2816] S512x128.size inb_S512x3072_S512x128_0_2816)) inv⟩,
    ⟨Rect.unit (s := S512x3072) ![0, 2688] S512x128.size inb_S512x3072_S512x128_0_2688, qz (View.ld (Val := Elt F) (e' := .bf16) x (Rect.unit (s := S512x3072) ![0, 2688] S512x128.size inb_S512x3072_S512x128_0_2688)) inv⟩,
    ⟨Rect.unit (s := S512x3072) ![0, 2560] S512x128.size inb_S512x3072_S512x128_0_2560, qz (View.ld (Val := Elt F) (e' := .bf16) x (Rect.unit (s := S512x3072) ![0, 2560] S512x128.size inb_S512x3072_S512x128_0_2560)) inv⟩,
    ⟨Rect.unit (s := S512x3072) ![0, 2432] S512x128.size inb_S512x3072_S512x128_0_2432, qz (View.ld (Val := Elt F) (e' := .bf16) x (Rect.unit (s := S512x3072) ![0, 2432] S512x128.size inb_S512x3072_S512x128_0_2432)) inv⟩,
    ⟨Rect.unit (s := S512x3072) ![0, 2304] S512x128.size inb_S512x3072_S512x128_0_2304, qz (View.ld (Val := Elt F) (e' := .bf16) x (Rect.unit (s := S512x3072) ![0, 2304] S512x128.size inb_S512x3072_S512x128_0_2304)) inv⟩,
    ⟨Rect.unit (s := S512x3072) ![0, 2176] S512x128.size inb_S512x3072_S512x128_0_2176, qz (View.ld (Val := Elt F) (e' := .bf16) x (Rect.unit (s := S512x3072) ![0, 2176] S512x128.size inb_S512x3072_S512x128_0_2176)) inv⟩,
    ⟨Rect.unit (s := S512x3072) ![0, 2048] S512x128.size inb_S512x3072_S512x128_0_2048, qz (View.ld (Val := Elt F) (e' := .bf16) x (Rect.unit (s := S512x3072) ![0, 2048] S512x128.size inb_S512x3072_S512x128_0_2048)) inv⟩,
    ⟨Rect.unit (s := S512x3072) ![0, 1920] S512x128.size inb_S512x3072_S512x128_0_1920, qz (View.ld (Val := Elt F) (e' := .bf16) x (Rect.unit (s := S512x3072) ![0, 1920] S512x128.size inb_S512x3072_S512x128_0_1920)) inv⟩,
    ⟨Rect.unit (s := S512x3072) ![0, 1792] S512x128.size inb_S512x3072_S512x128_0_1792, qz (View.ld (Val := Elt F) (e' := .bf16) x (Rect.unit (s := S512x3072) ![0, 1792] S512x128.size inb_S512x3072_S512x128_0_1792)) inv⟩,
    ⟨Rect.unit (s := S512x3072) ![0, 1664] S512x128.size inb_S512x3072_S512x128_0_1664, qz (View.ld (Val := Elt F) (e' := .bf16) x (Rect.unit (s := S512x3072) ![0, 1664] S512x128.size inb_S512x3072_S512x128_0_1664)) inv⟩,
    ⟨Rect.unit (s := S512x3072) ![0, 1536] S512x128.size inb_S512x3072_S512x128_0_1536, qz (View.ld (Val := Elt F) (e' := .bf16) x (Rect.unit (s := S512x3072) ![0, 1536] S512x128.size inb_S512x3072_S512x128_0_1536)) inv⟩,
    ⟨Rect.unit (s := S512x3072) ![0, 1408] S512x128.size inb_S512x3072_S512x128_0_1408, qz (View.ld (Val := Elt F) (e' := .bf16) x (Rect.unit (s := S512x3072) ![0, 1408] S512x128.size inb_S512x3072_S512x128_0_1408)) inv⟩,
    ⟨Rect.unit (s := S512x3072) ![0, 1280] S512x128.size inb_S512x3072_S512x128_0_1280, qz (View.ld (Val := Elt F) (e' := .bf16) x (Rect.unit (s := S512x3072) ![0, 1280] S512x128.size inb_S512x3072_S512x128_0_1280)) inv⟩,
    ⟨Rect.unit (s := S512x3072) ![0, 1152] S512x128.size inb_S512x3072_S512x128_0_1152, qz (View.ld (Val := Elt F) (e' := .bf16) x (Rect.unit (s := S512x3072) ![0, 1152] S512x128.size inb_S512x3072_S512x128_0_1152)) inv⟩,
    ⟨Rect.unit (s := S512x3072) ![0, 1024] S512x128.size inb_S512x3072_S512x128_0_1024, qz (View.ld (Val := Elt F) (e' := .bf16) x (Rect.unit (s := S512x3072) ![0, 1024] S512x128.size inb_S512x3072_S512x128_0_1024)) inv⟩,
    ⟨Rect.unit (s := S512x3072) ![0, 896] S512x128.size inb_S512x3072_S512x128_0_896, qz (View.ld (Val := Elt F) (e' := .bf16) x (Rect.unit (s := S512x3072) ![0, 896] S512x128.size inb_S512x3072_S512x128_0_896)) inv⟩,
    ⟨Rect.unit (s := S512x3072) ![0, 768] S512x128.size inb_S512x3072_S512x128_0_768, qz (View.ld (Val := Elt F) (e' := .bf16) x (Rect.unit (s := S512x3072) ![0, 768] S512x128.size inb_S512x3072_S512x128_0_768)) inv⟩,
    ⟨Rect.unit (s := S512x3072) ![0, 640] S512x128.size inb_S512x3072_S512x128_0_640, qz (View.ld (Val := Elt F) (e' := .bf16) x (Rect.unit (s := S512x3072) ![0, 640] S512x128.size inb_S512x3072_S512x128_0_640)) inv⟩,
    ⟨Rect.unit (s := S512x3072) ![0, 512] S512x128.size inb_S512x3072_S512x128_0_512, qz (View.ld (Val := Elt F) (e' := .bf16) x (Rect.unit (s := S512x3072) ![0, 512] S512x128.size inb_S512x3072_S512x128_0_512)) inv⟩,
    ⟨Rect.unit (s := S512x3072) ![0, 384] S512x128.size inb_S512x3072_S512x128_0_384, qz (View.ld (Val := Elt F) (e' := .bf16) x (Rect.unit (s := S512x3072) ![0, 384] S512x128.size inb_S512x3072_S512x128_0_384)) inv⟩,
    ⟨Rect.unit (s := S512x3072) ![0, 256] S512x128.size inb_S512x3072_S512x128_0_256, qz (View.ld (Val := Elt F) (e' := .bf16) x (Rect.unit (s := S512x3072) ![0, 256] S512x128.size inb_S512x3072_S512x128_0_256)) inv⟩,
    ⟨Rect.unit (s := S512x3072) ![0, 128] S512x128.size inb_S512x3072_S512x128_0_128, qz (View.ld (Val := Elt F) (e' := .bf16) x (Rect.unit (s := S512x3072) ![0, 128] S512x128.size inb_S512x3072_S512x128_0_128)) inv⟩,
    ⟨Rect.unit (s := S512x3072) ![0, 0] S512x128.size inb_S512x3072_S512x128_0_0, qz (View.ld (Val := Elt F) (e' := .bf16) x (Rect.unit (s := S512x3072) ![0, 0] S512x128.size inb_S512x3072_S512x128_0_0)) inv⟩]

/-- The block of 3072 columns, quantised. -/
def qOut (x : Vec F S512x3072 .bf16) (inv : Vec F S512x128 .bf16) : Vec F S512x3072 .fp8e4m3 := View.canon (qPieces x inv)

/-- The same 24 slices, at their places among all the columns. -/
def codesPieces (i : grid1.Coords) (h : k1_cond2 i = 1#1) (x : Vec F S512x3072 .bf16) (inv : Vec F S512x128 .bf16) : List (View.Piece (Elt F) S512x27648 .fp8e4m3) := [
    ⟨Rect.unit (s := S512x27648) (k1_off1 i 2944#32) S512x128.size (k1_off1_inb i h 23), qz (View.ld (Val := Elt F) (e' := .bf16) x (Rect.unit (s := S512x3072) ![0, 2944] S512x128.size inb_S512x3072_S512x128_0_2944)) inv⟩,
    ⟨Rect.unit (s := S512x27648) (k1_off1 i 2816#32) S512x128.size (k1_off1_inb i h 22), qz (View.ld (Val := Elt F) (e' := .bf16) x (Rect.unit (s := S512x3072) ![0, 2816] S512x128.size inb_S512x3072_S512x128_0_2816)) inv⟩,
    ⟨Rect.unit (s := S512x27648) (k1_off1 i 2688#32) S512x128.size (k1_off1_inb i h 21), qz (View.ld (Val := Elt F) (e' := .bf16) x (Rect.unit (s := S512x3072) ![0, 2688] S512x128.size inb_S512x3072_S512x128_0_2688)) inv⟩,
    ⟨Rect.unit (s := S512x27648) (k1_off1 i 2560#32) S512x128.size (k1_off1_inb i h 20), qz (View.ld (Val := Elt F) (e' := .bf16) x (Rect.unit (s := S512x3072) ![0, 2560] S512x128.size inb_S512x3072_S512x128_0_2560)) inv⟩,
    ⟨Rect.unit (s := S512x27648) (k1_off1 i 2432#32) S512x128.size (k1_off1_inb i h 19), qz (View.ld (Val := Elt F) (e' := .bf16) x (Rect.unit (s := S512x3072) ![0, 2432] S512x128.size inb_S512x3072_S512x128_0_2432)) inv⟩,
    ⟨Rect.unit (s := S512x27648) (k1_off1 i 2304#32) S512x128.size (k1_off1_inb i h 18), qz (View.ld (Val := Elt F) (e' := .bf16) x (Rect.unit (s := S512x3072) ![0, 2304] S512x128.size inb_S512x3072_S512x128_0_2304)) inv⟩,
    ⟨Rect.unit (s := S512x27648) (k1_off1 i 2176#32) S512x128.size (k1_off1_inb i h 17), qz (View.ld (Val := Elt F) (e' := .bf16) x (Rect.unit (s := S512x3072) ![0, 2176] S512x128.size inb_S512x3072_S512x128_0_2176)) inv⟩,
    ⟨Rect.unit (s := S512x27648) (k1_off1 i 2048#32) S512x128.size (k1_off1_inb i h 16), qz (View.ld (Val := Elt F) (e' := .bf16) x (Rect.unit (s := S512x3072) ![0, 2048] S512x128.size inb_S512x3072_S512x128_0_2048)) inv⟩,
    ⟨Rect.unit (s := S512x27648) (k1_off1 i 1920#32) S512x128.size (k1_off1_inb i h 15), qz (View.ld (Val := Elt F) (e' := .bf16) x (Rect.unit (s := S512x3072) ![0, 1920] S512x128.size inb_S512x3072_S512x128_0_1920)) inv⟩,
    ⟨Rect.unit (s := S512x27648) (k1_off1 i 1792#32) S512x128.size (k1_off1_inb i h 14), qz (View.ld (Val := Elt F) (e' := .bf16) x (Rect.unit (s := S512x3072) ![0, 1792] S512x128.size inb_S512x3072_S512x128_0_1792)) inv⟩,
    ⟨Rect.unit (s := S512x27648) (k1_off1 i 1664#32) S512x128.size (k1_off1_inb i h 13), qz (View.ld (Val := Elt F) (e' := .bf16) x (Rect.unit (s := S512x3072) ![0, 1664] S512x128.size inb_S512x3072_S512x128_0_1664)) inv⟩,
    ⟨Rect.unit (s := S512x27648) (k1_off1 i 1536#32) S512x128.size (k1_off1_inb i h 12), qz (View.ld (Val := Elt F) (e' := .bf16) x (Rect.unit (s := S512x3072) ![0, 1536] S512x128.size inb_S512x3072_S512x128_0_1536)) inv⟩,
    ⟨Rect.unit (s := S512x27648) (k1_off1 i 1408#32) S512x128.size (k1_off1_inb i h 11), qz (View.ld (Val := Elt F) (e' := .bf16) x (Rect.unit (s := S512x3072) ![0, 1408] S512x128.size inb_S512x3072_S512x128_0_1408)) inv⟩,
    ⟨Rect.unit (s := S512x27648) (k1_off1 i 1280#32) S512x128.size (k1_off1_inb i h 10), qz (View.ld (Val := Elt F) (e' := .bf16) x (Rect.unit (s := S512x3072) ![0, 1280] S512x128.size inb_S512x3072_S512x128_0_1280)) inv⟩,
    ⟨Rect.unit (s := S512x27648) (k1_off1 i 1152#32) S512x128.size (k1_off1_inb i h 9), qz (View.ld (Val := Elt F) (e' := .bf16) x (Rect.unit (s := S512x3072) ![0, 1152] S512x128.size inb_S512x3072_S512x128_0_1152)) inv⟩,
    ⟨Rect.unit (s := S512x27648) (k1_off1 i 1024#32) S512x128.size (k1_off1_inb i h 8), qz (View.ld (Val := Elt F) (e' := .bf16) x (Rect.unit (s := S512x3072) ![0, 1024] S512x128.size inb_S512x3072_S512x128_0_1024)) inv⟩,
    ⟨Rect.unit (s := S512x27648) (k1_off1 i 896#32) S512x128.size (k1_off1_inb i h 7), qz (View.ld (Val := Elt F) (e' := .bf16) x (Rect.unit (s := S512x3072) ![0, 896] S512x128.size inb_S512x3072_S512x128_0_896)) inv⟩,
    ⟨Rect.unit (s := S512x27648) (k1_off1 i 768#32) S512x128.size (k1_off1_inb i h 6), qz (View.ld (Val := Elt F) (e' := .bf16) x (Rect.unit (s := S512x3072) ![0, 768] S512x128.size inb_S512x3072_S512x128_0_768)) inv⟩,
    ⟨Rect.unit (s := S512x27648) (k1_off1 i 640#32) S512x128.size (k1_off1_inb i h 5), qz (View.ld (Val := Elt F) (e' := .bf16) x (Rect.unit (s := S512x3072) ![0, 640] S512x128.size inb_S512x3072_S512x128_0_640)) inv⟩,
    ⟨Rect.unit (s := S512x27648) (k1_off1 i 512#32) S512x128.size (k1_off1_inb i h 4), qz (View.ld (Val := Elt F) (e' := .bf16) x (Rect.unit (s := S512x3072) ![0, 512] S512x128.size inb_S512x3072_S512x128_0_512)) inv⟩,
    ⟨Rect.unit (s := S512x27648) (k1_off1 i 384#32) S512x128.size (k1_off1_inb i h 3), qz (View.ld (Val := Elt F) (e' := .bf16) x (Rect.unit (s := S512x3072) ![0, 384] S512x128.size inb_S512x3072_S512x128_0_384)) inv⟩,
    ⟨Rect.unit (s := S512x27648) (k1_off1 i 256#32) S512x128.size (k1_off1_inb i h 2), qz (View.ld (Val := Elt F) (e' := .bf16) x (Rect.unit (s := S512x3072) ![0, 256] S512x128.size inb_S512x3072_S512x128_0_256)) inv⟩,
    ⟨Rect.unit (s := S512x27648) (k1_off1 i 128#32) S512x128.size (k1_off1_inb i h 1), qz (View.ld (Val := Elt F) (e' := .bf16) x (Rect.unit (s := S512x3072) ![0, 128] S512x128.size inb_S512x3072_S512x128_0_128)) inv⟩,
    ⟨Rect.unit (s := S512x27648) (k1_off1 i 0#32) S512x128.size (k1_off1_inb i h 0), qz (View.ld (Val := Elt F) (e' := .bf16) x (Rect.unit (s := S512x3072) ![0, 0] S512x128.size inb_S512x3072_S512x128_0_0)) inv⟩]

/-- All the columns' codes after this block's are put in. -/
def codesPut (i : grid1.Coords) (h : k1_cond2 i = 1#1) (x : Vec F S512x3072 .bf16) (inv : Vec F S512x128 .bf16) (codes : Vec F S512x27648 .fp8e4m3) : Vec F S512x27648 .fp8e4m3 :=
  over codes (codesPieces i h x inv)

end Cert.Kernel.Own

end
-- ==== Proof.P.Codes.lean ====
module

public import proofs.«01_k».proof.Proof.P.Pay1
public import Idealize.ShloMosaic.Lib.ValueIdxCore

@[expose] public section

set_option maxRecDepth 16384

noncomputable section

namespace Cert.Kernel.Own

open Cert.Kernel Cert.Kernel.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The codes: one formula for every quantised element -/

/-- One element quantised: times the reciprocal of its token's scale, held within ±448, rounded to eight bits. -/
def qelt (a b : Elt F .bf16) : Elt F .fp8e4m3 := qz (fun _ => a) (fun _ => b) (ix2 0 0)

theorem qz_apply (a b : Vec F S512x128 .bf16) (z : S512x128.Idx) : qz a b z = qelt (a z) (b z) := by
  unfold qelt qz k1_pay16
  simp only [shapeCast_self]
  rfl

/-- The reciprocals are spread over 128 columns: column `n` reads column `n % 128`. -/
abbrev ivx {n : ℕ} (y : (⟨2, ![512, n]⟩ : Shape).Idx) : S512x128.Idx :=
  ix2 (y 0) (⟨(y 1).val % 128, Nat.mod_lt _ (by omega)⟩ : Fin 128)

/-- Among all the columns, column `n` of a block of 3072 is column `n % 3072` of the block. -/
abbrev blx (y : S512x27648.Idx) : S512x3072.Idx :=
  ix2 (y 0) (⟨(y 1).val % 3072, Nat.mod_lt _ (by omega)⟩ : Fin 3072)

/-- The quantised block, element by element. -/
def qG (x : Vec F S512x3072 .bf16) (inv : Vec F S512x128 .bf16) (y : S512x3072.Idx) : Elt F .fp8e4m3 :=
  qelt (x y) (inv (ivx (n := 3072) y))

/-- The same, addressed among all the columns. -/
def qB (x : Vec F S512x3072 .bf16) (inv : Vec F S512x128 .bf16) (y : S512x27648.Idx) : Elt F .fp8e4m3 :=
  qelt (x (blx y)) (inv (ivx (n := 27648) y))

theorem kdim_lt (i : grid1.Coords) : (i 1).val < 9 := (i 1).isLt

theorem off1_eq (i : grid1.Coords) (n : ℕ) (hn : n < 3072) : k1_off1 i (BitVec.ofNat 32 n) = ![0, 3072 * (i 1).val + n] := by
  have h9 := kdim_lt i
  unfold k1_off1
  show ![0, ((BitVec.ofNat 32 (i 1).val * 3072#32) + BitVec.ofNat 32 n).toNat] = _
  congr 2
  simp only [BitVec.toNat_add, BitVec.toNat_mul, BitVec.toNat_ofNat]
  omega

theorem off2_eq (i : grid1.Coords) : k1_off2 i = ![0, 3072 * (i 1).val] := by
  have h9 := kdim_lt i
  unfold k1_off2
  show ![0, (BitVec.ofNat 32 (i 1).val * 3072#32).toNat] = _
  congr 2
  simp only [BitVec.toNat_mul, BitVec.toNat_ofNat]
  omega

/-- One slice's codes, in the block. -/
theorem piece_q (x : Vec F S512x3072 .bf16) (inv : Vec F S512x128 .bf16) (j : ℕ) (hj : j < 24)
    (inb : ∀ a, (![0, 128 * j] : Fin 2 → ℕ) a + S512x128.size a ≤ S512x3072.size a) (z : S512x128.Idx) :
    qz (View.ld (Val := Elt F) (e' := .bf16) x (Rect.unit (s := S512x3072) ![0, 128 * j] S512x128.size inb)) inv z
      = qG x inv ((Rect.unit (s := S512x3072) ![0, 128 * j] S512x128.size inb).emb z) := by
  rw [qz_apply]
  unfold qG
  refine congrArg₂ qelt rfl (congrArg inv ?_)
  funext a
  match a with
  | ⟨0, _⟩ => exact Fin.ext (show (z 0).val = 0 + 1 * (z 0).val by omega)
  | ⟨1, _⟩ =>
    have := idx2_lt1 (n0 := 512) (n1 := 128) z
    exact Fin.ext (show (z 1).val = (128 * j + 1 * (z 1).val) % 128 by omega)

/-- One slice's codes, among all the columns. -/
theorem piece_b (i : grid1.Coords) (x : Vec F S512x3072 .bf16) (inv : Vec F S512x128 .bf16) (j : ℕ) (hj : j < 24)
    (inb' : ∀ a, (![0, 128 * j] : Fin 2 → ℕ) a + S512x128.size a ≤ S512x3072.size a)
    (off : Fin 2 → ℕ) (heq : off = ![0, 3072 * (i 1).val + 128 * j]) (inb : ∀ a, off a + S512x128.size a ≤ S512x27648.size a)
    (z : S512x128.Idx) :
    qz (View.ld (Val := Elt F) (e' := .bf16) x (Rect.unit (s := S512x3072) ![0, 128 * j] S512x128.size inb')) inv z
      = qB x inv ((Rect.unit (s := S512x27648) off S512x128.size inb).emb z) := by
  subst heq
  rw [qz_apply]
  unfold qB
  have h1 := idx2_lt1 (n0 := 512) (n1 := 128) z
  have h9 := kdim_lt i
  refine congrArg₂ qelt (congrArg x ?_) (congrArg inv ?_)
  · funext a
    match a with
    | ⟨0, _⟩ => exact Fin.ext (show 0 + 1 * (z 0).val = 0 + 1 * (z 0).val by omega)
    | ⟨1, _⟩ => exact Fin.ext (show 128 * j + 1 * (z 1).val = (3072 * (i 1).val + 128 * j + 1 * (z 1).val) % 3072 by omega)
  · funext a
    match a with
    | ⟨0, _⟩ => exact Fin.ext (show (z 0).val = 0 + 1 * (z 0).val by omega)
    | ⟨1, _⟩ => exact Fin.ext (show (z 1).val = (3072 * (i 1).val + 128 * j + 1 * (z 1).val) % 128 by omega)

theorem mem_b (i : grid1.Coords) (j : ℕ) (off : Fin 2 → ℕ) (heq : off = ![0, 3072 * (i 1).val + 128 * j])
    (inb : ∀ a, off a + S512x128.size a ≤ S512x27648.size a) (y : S512x27648.Idx)
    (h : 3072 * (i 1).val + 128 * j ≤ (y 1).val ∧ (y 1).val < 3072 * (i 1).val + 128 * j + 128) :
    y ∈ (Rect.unit (s := S512x27648) off S512x128.size inb).set := by
  subst heq
  rw [Rect.mem_set_unit]
  intro a
  match a with
  | ⟨0, _⟩ => exact ⟨Nat.zero_le _, show (y 0).val < 0 + 512 by have := idx2_lt0 (n0 := 512) (n1 := 27648) y; omega⟩
  | ⟨1, _⟩ => exact h

theorem not_mem_b (i : grid1.Coords) (j : ℕ) (hj : j < 24) (off : Fin 2 → ℕ) (heq : off = ![0, 3072 * (i 1).val + 128 * j])
    (inb : ∀ a, off a + S512x128.size a ≤ S512x27648.size a) (y : S512x27648.Idx)
    (h : ¬(3072 * (i 1).val ≤ (y 1).val ∧ (y 1).val < 3072 * (i 1).val + 3072)) :
    y ∉ (Rect.unit (s := S512x27648) off S512x128.size inb).set := by
  subst heq
  rw [Rect.mem_set_unit]
  intro hall
  have h1 : 3072 * (i 1).val + 128 * j ≤ (y 1).val ∧ (y 1).val < 3072 * (i 1).val + 128 * j + 128 := hall 1
  omega

theorem qOut_apply (x : Vec F S512x3072 .bf16) (inv : Vec F S512x128 .bf16) (y : S512x3072.Idx) : qOut x inv y = qG x inv y := by
  refine View.canon_apply_of_pieces (qG x inv) (qPieces x inv) ?_ y (View.cover_of_tiledL _ ![512, 128] (by sl_kernel_rfl) y)
  exact List.forall_mem_cons.2 ⟨fun z => piece_q x inv 23 (by omega) _ z,
    List.forall_mem_cons.2 ⟨fun z => piece_q x inv 22 (by omega) _ z,
    List.forall_mem_cons.2 ⟨fun z => piece_q x inv 21 (by omega) _ z,
    List.forall_mem_cons.2 ⟨fun z => piece_q x inv 20 (by omega) _ z,
    List.forall_mem_cons.2 ⟨fun z => piece_q x inv 19 (by omega) _ z,
    List.forall_mem_cons.2 ⟨fun z => piece_q x inv 18 (by omega) _ z,
    List.forall_mem_cons.2 ⟨fun z => piece_q x inv 17 (by omega) _ z,
    List.forall_mem_cons.2 ⟨fun z => piece_q x inv 16 (by omega) _ z,
    List.forall_mem_cons.2 ⟨fun z => piece_q x inv 15 (by omega) _ z,
    List.forall_mem_cons.2 ⟨fun z => piece_q x inv 14 (by omega) _ z,
    List.forall_mem_cons.2 ⟨fun z => piece_q x inv 13 (by omega) _ z,
    List.forall_mem_cons.2 ⟨fun z => piece_q x inv 12 (by omega) _ z,
    List.forall_mem_cons.2 ⟨fun z => piece_q x inv 11 (by omega) _ z,
    List.forall_mem_cons.2 ⟨fun z => piece_q x inv 10 (by omega) _ z,
    List.forall_mem_cons.2 ⟨fun z => piece_q x inv 9 (by omega) _ z,
    List.forall_mem_cons.2 ⟨fun z => piece_q x inv 8 (by omega) _ z,
    List.forall_mem_cons.2 ⟨fun z => piece_q x inv 7 (by omega) _ z,
    List.forall_mem_cons.2 ⟨fun z => piece_q x inv 6 (by omega) _ z,
    List.forall_mem_cons.2 ⟨fun z => piece_q x inv 5 (by omega) _ z,
    List.forall_mem_cons.2 ⟨fun z => piece_q x inv 4 (by omega) _ z,
    List.forall_mem_cons.2 ⟨fun z => piece_q x inv 3 (by omega) _ z,
    List.forall_mem_cons.2 ⟨fun z => piece_q x inv 2 (by omega) _ z,
    List.forall_mem_cons.2 ⟨fun z => piece_q x inv 1 (by omega) _ z,
    List.forall_mem_cons.2 ⟨fun z => piece_q x inv 0 (by omega) _ z,
    List.forall_mem_nil _⟩⟩⟩⟩⟩⟩⟩⟩⟩⟩⟩⟩⟩⟩⟩⟩⟩⟩⟩⟩⟩⟩⟩⟩

theorem codes_pieces (i : grid1.Coords) (h : k1_cond2 i = 1#1) (x : Vec F S512x3072 .bf16) (inv : Vec F S512x128 .bf16) :
    ∀ p ∈ codesPieces i h x inv, ∀ z : p.1.shape.Idx, p.2 z = qB x inv (p.1.emb z) :=
  List.forall_mem_cons.2 ⟨fun z => piece_b i x inv 23 (by omega) _ _ (off1_eq i 2944 (by omega)) (k1_off1_inb i h 23) z,
    List.forall_mem_cons.2 ⟨fun z => piece_b i x inv 22 (by omega) _ _ (off1_eq i 2816 (by omega)) (k1_off1_inb i h 22) z,
    List.forall_mem_cons.2 ⟨fun z => piece_b i x inv 21 (by omega) _ _ (off1_eq i 2688 (by omega)) (k1_off1_inb i h 21) z,
    List.forall_mem_cons.2 ⟨fun z => piece_b i x inv 20 (by omega) _ _ (off1_eq i 2560 (by omega)) (k1_off1_inb i h 20) z,
    List.forall_mem_cons.2 ⟨fun z => piece_b i x inv 19 (by omega) _ _ (off1_eq i 2432 (by omega)) (k1_off1_inb i h 19) z,
    List.forall_mem_cons.2 ⟨fun z => piece_b i x inv 18 (by omega) _ _ (off1_eq i 2304 (by omega)) (k1_off1_inb i h 18) z,
    List.forall_mem_cons.2 ⟨fun z => piece_b i x inv 17 (by omega) _ _ (off1_eq i 2176 (by omega)) (k1_off1_inb i h 17) z,
    List.forall_mem_cons.2 ⟨fun z => piece_b i x inv 16 (by omega) _ _ (off1_eq i 2048 (by omega)) (k1_off1_inb i h 16) z,
    List.forall_mem_cons.2 ⟨fun z => piece_b i x inv 15 (by omega) _ _ (off1_eq i 1920 (by omega)) (k1_off1_inb i h 15) z,
    List.forall_mem_cons.2 ⟨fun z => piece_b i x inv 14 (by omega) _ _ (off1_eq i 1792 (by omega)) (k1_off1_inb i h 14) z,
    List.forall_mem_cons.2 ⟨fun z => piece_b i x inv 13 (by omega) _ _ (off1_eq i 1664 (by omega)) (k1_off1_inb i h 13) z,
    List.forall_mem_cons.2 ⟨fun z => piece_b i x inv 12 (by omega) _ _ (off1_eq i 1536 (by omega)) (k1_off1_inb i h 12) z,
    List.forall_mem_cons.2 ⟨fun z => piece_b i x inv 11 (by omega) _ _ (off1_eq i 1408 (by omega)) (k1_off1_inb i h 11) z,
    List.forall_mem_cons.2 ⟨fun z => piece_b i x inv 10 (by omega) _ _ (off1_eq i 1280 (by omega)) (k1_off1_inb i h 10) z,
    List.forall_mem_cons.2 ⟨fun z => piece_b i x inv 9 (by omega) _ _ (off1_eq i 1152 (by omega)) (k1_off1_inb i h 9) z,
    List.forall_mem_cons.2 ⟨fun z => piece_b i x inv 8 (by omega) _ _ (off1_eq i 1024 (by omega)) (k1_off1_inb i h 8) z,
    List.forall_mem_cons.2 ⟨fun z => piece_b i x inv 7 (by omega) _ _ (off1_eq i 896 (by omega)) (k1_off1_inb i h 7) z,
    List.forall_mem_cons.2 ⟨fun z => piece_b i x inv 6 (by omega) _ _ (off1_eq i 768 (by omega)) (k1_off1_inb i h 6) z,
    List.forall_mem_cons.2 ⟨fun z => piece_b i x inv 5 (by omega) _ _ (off1_eq i 640 (by omega)) (k1_off1_inb i h 5) z,
    List.forall_mem_cons.2 ⟨fun z => piece_b i x inv 4 (by omega) _ _ (off1_eq i 512 (by omega)) (k1_off1_inb i h 4) z,
    List.forall_mem_cons.2 ⟨fun z => piece_b i x inv 3 (by omega) _ _ (off1_eq i 384 (by omega)) (k1_off1_inb i h 3) z,
    List.forall_mem_cons.2 ⟨fun z => piece_b i x inv 2 (by omega) _ _ (off1_eq i 256 (by omega)) (k1_off1_inb i h 2) z,
    List.forall_mem_cons.2 ⟨fun z => piece_b i x inv 1 (by omega) _ _ (off1_eq i 128 (by omega)) (k1_off1_inb i h 1) z,
    List.forall_mem_cons.2 ⟨fun z => piece_b i x inv 0 (by omega) _ _ (off1_eq i 0 (by omega)) (k1_off1_inb i h 0) z,
    List.forall_mem_nil _⟩⟩⟩⟩⟩⟩⟩⟩⟩⟩⟩⟩⟩⟩⟩⟩⟩⟩⟩⟩⟩⟩⟩⟩

theorem codes_cover (i : grid1.Coords) (h : k1_cond2 i = 1#1) (x : Vec F S512x3072 .bf16) (inv : Vec F S512x128 .bf16) (y : S512x27648.Idx)
    (hy : 3072 * (i 1).val ≤ (y 1).val ∧ (y 1).val < 3072 * (i 1).val + 3072) : ∃ p ∈ codesPieces i h x inv, y ∈ p.1.set := by
  obtain ⟨j, hj, hy'⟩ : ∃ j, j < 24 ∧ 3072 * (i 1).val + 128 * j ≤ (y 1).val ∧ (y 1).val < 3072 * (i 1).val + 128 * j + 128 :=
    ⟨((y 1).val - 3072 * (i 1).val) / 128, by omega, by omega, by omega⟩
  match j, hj, hy' with
  | 0, _, hy' => exact ⟨_, List.mem_of_getElem? (i := 23) rfl, mem_b i 0 _ (off1_eq i 0 (by omega)) (k1_off1_inb i h 0) y hy'⟩
  | 1, _, hy' => exact ⟨_, List.mem_of_getElem? (i := 22) rfl, mem_b i 1 _ (off1_eq i 128 (by omega)) (k1_off1_inb i h 1) y hy'⟩
  | 2, _, hy' => exact ⟨_, List.mem_of_getElem? (i := 21) rfl, mem_b i 2 _ (off1_eq i 256 (by omega)) (k1_off1_inb i h 2) y hy'⟩
  | 3, _, hy' => exact ⟨_, List.mem_of_getElem? (i := 20) rfl, mem_b i 3 _ (off1_eq i 384 (by omega)) (k1_off1_inb i h 3) y hy'⟩
  | 4, _, hy' => exact ⟨_, List.mem_of_getElem? (i := 19) rfl, mem_b i 4 _ (off1_eq i 512 (by omega)) (k1_off1_inb i h 4) y hy'⟩
  | 5, _, hy' => exact ⟨_, List.mem_of_getElem? (i := 18) rfl, mem_b i 5 _ (off1_eq i 640 (by omega)) (k1_off1_inb i h 5) y hy'⟩
  | 6, _, hy' => exact ⟨_, List.mem_of_getElem? (i := 17) rfl, mem_b i 6 _ (off1_eq i 768 (by omega)) (k1_off1_inb i h 6) y hy'⟩
  | 7, _, hy' => exact ⟨_, List.mem_of_getElem? (i := 16) rfl, mem_b i 7 _ (off1_eq i 896 (by omega)) (k1_off1_inb i h 7) y hy'⟩
  | 8, _, hy' => exact ⟨_, List.mem_of_getElem? (i := 15) rfl, mem_b i 8 _ (off1_eq i 1024 (by omega)) (k1_off1_inb i h 8) y hy'⟩
  | 9, _, hy' => exact ⟨_, List.mem_of_getElem? (i := 14) rfl, mem_b i 9 _ (off1_eq i 1152 (by omega)) (k1_off1_inb i h 9) y hy'⟩
  | 10, _, hy' => exact ⟨_, List.mem_of_getElem? (i := 13) rfl, mem_b i 10 _ (off1_eq i 1280 (by omega)) (k1_off1_inb i h 10) y hy'⟩
  | 11, _, hy' => exact ⟨_, List.mem_of_getElem? (i := 12) rfl, mem_b i 11 _ (off1_eq i 1408 (by omega)) (k1_off1_inb i h 11) y hy'⟩
  | 12, _, hy' => exact ⟨_, List.mem_of_getElem? (i := 11) rfl, mem_b i 12 _ (off1_eq i 1536 (by omega)) (k1_off1_inb i h 12) y hy'⟩
  | 13, _, hy' => exact ⟨_, List.mem_of_getElem? (i := 10) rfl, mem_b i 13 _ (off1_eq i 1664 (by omega)) (k1_off1_inb i h 13) y hy'⟩
  | 14, _, hy' => exact ⟨_, List.mem_of_getElem? (i := 9) rfl, mem_b i 14 _ (off1_eq i 1792 (by omega)) (k1_off1_inb i h 14) y hy'⟩
  | 15, _, hy' => exact ⟨_, List.mem_of_getElem? (i := 8) rfl, mem_b i 15 _ (off1_eq i 1920 (by omega)) (k1_off1_inb i h 15) y hy'⟩
  | 16, _, hy' => exact ⟨_, List.mem_of_getElem? (i := 7) rfl, mem_b i 16 _ (off1_eq i 2048 (by omega)) (k1_off1_inb i h 16) y hy'⟩
  | 17, _, hy' => exact ⟨_, List.mem_of_getElem? (i := 6) rfl, mem_b i 17 _ (off1_eq i 2176 (by omega)) (k1_off1_inb i h 17) y hy'⟩
  | 18, _, hy' => exact ⟨_, List.mem_of_getElem? (i := 5) rfl, mem_b i 18 _ (off1_eq i 2304 (by omega)) (k1_off1_inb i h 18) y hy'⟩
  | 19, _, hy' => exact ⟨_, List.mem_of_getElem? (i := 4) rfl, mem_b i 19 _ (off1_eq i 2432 (by omega)) (k1_off1_inb i h 19) y hy'⟩
  | 20, _, hy' => exact ⟨_, List.mem_of_getElem? (i := 3) rfl, mem_b i 20 _ (off1_eq i 2560 (by omega)) (k1_off1_inb i h 20) y hy'⟩
  | 21, _, hy' => exact ⟨_, List.mem_of_getElem? (i := 2) rfl, mem_b i 21 _ (off1_eq i 2688 (by omega)) (k1_off1_inb i h 21) y hy'⟩
  | 22, _, hy' => exact ⟨_, List.mem_of_getElem? (i := 1) rfl, mem_b i 22 _ (off1_eq i 2816 (by omega)) (k1_off1_inb i h 22) y hy'⟩
  | 23, _, hy' => exact ⟨_, List.mem_of_getElem? (i := 0) rfl, mem_b i 23 _ (off1_eq i 2944 (by omega)) (k1_off1_inb i h 23) y hy'⟩
  | n + 24, h, _ => exact absurd h (by omega)

theorem codes_off (i : grid1.Coords) (h : k1_cond2 i = 1#1) (x : Vec F S512x3072 .bf16) (inv : Vec F S512x128 .bf16) (y : S512x27648.Idx)
    (hy : ¬(3072 * (i 1).val ≤ (y 1).val ∧ (y 1).val < 3072 * (i 1).val + 3072)) : ∀ p ∈ codesPieces i h x inv, y ∉ p.1.set :=
  List.forall_mem_cons.2 ⟨not_mem_b i 23 (by omega) _ (off1_eq i 2944 (by omega)) (k1_off1_inb i h 23) y hy,
    List.forall_mem_cons.2 ⟨not_mem_b i 22 (by omega) _ (off1_eq i 2816 (by omega)) (k1_off1_inb i h 22) y hy,
    List.forall_mem_cons.2 ⟨not_mem_b i 21 (by omega) _ (off1_eq i 2688 (by omega)) (k1_off1_inb i h 21) y hy,
    List.forall_mem_cons.2 ⟨not_mem_b i 20 (by omega) _ (off1_eq i 2560 (by omega)) (k1_off1_inb i h 20) y hy,
    List.forall_mem_cons.2 ⟨not_mem_b i 19 (by omega) _ (off1_eq i 2432 (by omega)) (k1_off1_inb i h 19) y hy,
    List.forall_mem_cons.2 ⟨not_mem_b i 18 (by omega) _ (off1_eq i 2304 (by omega)) (k1_off1_inb i h 18) y hy,
    List.forall_mem_cons.2 ⟨not_mem_b i 17 (by omega) _ (off1_eq i 2176 (by omega)) (k1_off1_inb i h 17) y hy,
    List.forall_mem_cons.2 ⟨not_mem_b i 16 (by omega) _ (off1_eq i 2048 (by omega)) (k1_off1_inb i h 16) y hy,
    List.forall_mem_cons.2 ⟨not_mem_b i 15 (by omega) _ (off1_eq i 1920 (by omega)) (k1_off1_inb i h 15) y hy,
    List.forall_mem_cons.2 ⟨not_mem_b i 14 (by omega) _ (off1_eq i 1792 (by omega)) (k1_off1_inb i h 14) y hy,
    List.forall_mem_cons.2 ⟨not_mem_b i 13 (by omega) _ (off1_eq i 1664 (by omega)) (k1_off1_inb i h 13) y hy,
    List.forall_mem_cons.2 ⟨not_mem_b i 12 (by omega) _ (off1_eq i 1536 (by omega)) (k1_off1_inb i h 12) y hy,
    List.forall_mem_cons.2 ⟨not_mem_b i 11 (by omega) _ (off1_eq i 1408 (by omega)) (k1_off1_inb i h 11) y hy,
    List.forall_mem_cons.2 ⟨not_mem_b i 10 (by omega) _ (off1_eq i 1280 (by omega)) (k1_off1_inb i h 10) y hy,
    List.forall_mem_cons.2 ⟨not_mem_b i 9 (by omega) _ (off1_eq i 1152 (by omega)) (k1_off1_inb i h 9) y hy,
    List.forall_mem_cons.2 ⟨not_mem_b i 8 (by omega) _ (off1_eq i 1024 (by omega)) (k1_off1_inb i h 8) y hy,
    List.forall_mem_cons.2 ⟨not_mem_b i 7 (by omega) _ (off1_eq i 896 (by omega)) (k1_off1_inb i h 7) y hy,
    List.forall_mem_cons.2 ⟨not_mem_b i 6 (by omega) _ (off1_eq i 768 (by omega)) (k1_off1_inb i h 6) y hy,
    List.forall_mem_cons.2 ⟨not_mem_b i 5 (by omega) _ (off1_eq i 640 (by omega)) (k1_off1_inb i h 5) y hy,
    List.forall_mem_cons.2 ⟨not_mem_b i 4 (by omega) _ (off1_eq i 512 (by omega)) (k1_off1_inb i h 4) y hy,
    List.forall_mem_cons.2 ⟨not_mem_b i 3 (by omega) _ (off1_eq i 384 (by omega)) (k1_off1_inb i h 3) y hy,
    List.forall_mem_cons.2 ⟨not_mem_b i 2 (by omega) _ (off1_eq i 256 (by omega)) (k1_off1_inb i h 2) y hy,
    List.forall_mem_cons.2 ⟨not_mem_b i 1 (by omega) _ (off1_eq i 128 (by omega)) (k1_off1_inb i h 1) y hy,
    List.forall_mem_cons.2 ⟨not_mem_b i 0 (by omega) _ (off1_eq i 0 (by omega)) (k1_off1_inb i h 0) y hy,
    List.forall_mem_nil _⟩⟩⟩⟩⟩⟩⟩⟩⟩⟩⟩⟩⟩⟩⟩⟩⟩⟩⟩⟩⟩⟩⟩⟩

/-- The codes after a block is put in: the block's own where it lies, the old ones elsewhere. -/
theorem codesPut_in (i : grid1.Coords) (h : k1_cond2 i = 1#1) (x : Vec F S512x3072 .bf16) (inv : Vec F S512x128 .bf16) (g : Vec F S512x27648 .fp8e4m3)
    (y : S512x27648.Idx) (hy : 3072 * (i 1).val ≤ (y 1).val ∧ (y 1).val < 3072 * (i 1).val + 3072) : codesPut i h x inv g y = qB x inv y :=
  over_in g (qB x inv) _ (codes_pieces i h x inv) y (codes_cover i h x inv y hy)

theorem codesPut_out (i : grid1.Coords) (h : k1_cond2 i = 1#1) (x : Vec F S512x3072 .bf16) (inv : Vec F S512x128 .bf16) (g : Vec F S512x27648 .fp8e4m3)
    (y : S512x27648.Idx) (hy : ¬(3072 * (i 1).val ≤ (y 1).val ∧ (y 1).val < 3072 * (i 1).val + 3072)) : codesPut i h x inv g y = g y :=
  over_out g _ y (codes_off i h x inv y hy)

/-- Loading block `k` of codes that are the quantised block there gives the quantised block. -/
theorem ld_codes (i : grid1.Coords) (x : Vec F S512x3072 .bf16) (inv : Vec F S512x128 .bf16) (g : Vec F S512x27648 .fp8e4m3)
    (hg : ∀ y : S512x27648.Idx, 3072 * (i 1).val ≤ (y 1).val ∧ (y 1).val < 3072 * (i 1).val + 3072 → g y = qB x inv y)
    (inb : ∀ a, k1_off2 i a + S512x3072.size a ≤ S512x27648.size a) :
    View.ld (Val := Elt F) (e' := .fp8e4m3) g (Rect.unit (s := S512x27648) (k1_off2 i) S512x3072.size inb) = qOut x inv := by
  funext z
  rw [qOut_apply]
  have h1 : (z 1).val < 3072 := idx2_lt1 (n0 := 512) (n1 := 3072) z
  have e0 : k1_off2 i 0 = 0 := by rw [off2_eq]; rfl
  have e1 : k1_off2 i 1 = 3072 * (i 1).val := by rw [off2_eq]; rfl
  have v0 : ((Rect.unit (s := S512x27648) (k1_off2 i) S512x3072.size inb).emb z 0).val = (z 0).val := by
    show k1_off2 i 0 + 1 * (z 0).val = _; omega
  have v1 : ((Rect.unit (s := S512x27648) (k1_off2 i) S512x3072.size inb).emb z 1).val = 3072 * (i 1).val + (z 1).val := by
    show k1_off2 i 1 + 1 * (z 1).val = _; omega
  refine (hg ((Rect.unit (s := S512x27648) (k1_off2 i) S512x3072.size inb).emb z) ⟨by omega, by omega⟩).trans ?_
  unfold qB qG
  refine congrArg₂ qelt (congrArg x ?_) (congrArg inv ?_)
  · funext a
    match a with
    | ⟨0, _⟩ => exact Fin.ext v0
    | ⟨1, _⟩ => exact Fin.ext ((congrArg (· % 3072) v1).trans (by show (3072 * (i 1).val + (z 1).val) % 3072 = (z 1).val; omega))
  · funext a
    match a with
    | ⟨0, _⟩ => exact Fin.ext v0
    | ⟨1, _⟩ => exact Fin.ext ((congrArg (· % 128) v1).trans (by show (3072 * (i 1).val + (z 1).val) % 128 = (z 1).val % 128; omega))

theorem ld_codes_canon (i : grid1.Coords) (h : k1_cond2 i = 1#1) (x : Vec F S512x3072 .bf16) (inv : Vec F S512x128 .bf16)
    (inb : ∀ a, k1_off2 i a + S512x3072.size a ≤ S512x27648.size a) :
    View.ld (Val := Elt F) (e' := .fp8e4m3) (View.canon (codesPieces i h x inv)) (Rect.unit (s := S512x27648) (k1_off2 i) S512x3072.size inb) = qOut x inv :=
  ld_codes i x inv _ (fun y hy => View.canon_apply_of_pieces (qB x inv) _ (codes_pieces i h x inv) y (codes_cover i h x inv y hy)) inb

end Cert.Kernel.Own

end
-- ==== Proof.P.Data1.lean ====
module

public import proofs.«01_k».proof.Proof.P.Codes
public import Idealize.ShloMosaic.Lib.Pipeline.FrameBody
public import Idealize.ShloMosaic.Lib.Pipeline.TableIdle

@[expose] public section

set_option maxRecDepth 16384

noncomputable section

namespace Cert.Kernel.Own

open Cert.Kernel Cert.Kernel.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear region: its proof data -/

variable (W : Dev nD → Valuation τ sig (Elt F))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- Point number `n` (wrapped round). -/
def pt1 (n : ℕ) : Fin cfg1.N := ⟨n % 90, lt_of_lt_of_eq (Nat.mod_lt _ (by omega)) (show 90 = cfg1.N from N_1.symm)⟩

theorem pt1_val (t : Fin cfg1.N) : pt1 t.val = t :=
  Fin.ext (Nat.mod_eq_of_lt (lt_of_lt_of_eq t.isLt (show cfg1.N = 90 from N_1)))

/-- The scales, and their reciprocals, as the first point lays them out. -/
def sB (c : Dev nD) : Vec F S512x128 .f32 := sOut (iblk1 W c 2 (pt1 0))
def invB (c : Dev nD) : Vec F S512x128 .bf16 := invOut (iblk1 W c 2 (pt1 0))
/-- Block `k` of the quantised matrix. -/
def qk (c : Dev nD) (k : ℕ) : Vec F S512x3072 .fp8e4m3 := qOut (iblk1 W c 0 (pt1 k)) (invB W c)

/-- What the accumulator holds after `n` points. -/
def acc1 (c : Dev nD) : ℕ → Vec F S512x512 .f32
  | 0 => k1_pay5
  | n + 1 => k1_pay6 (qk W c (n % 9)) (if n % 9 = 0 then k1_pay5 else acc1 c n) (iblk1 W c 1 (pt1 n))

theorem acc1_first (c : Dev nD) (t : Fin cfg1.N) (h : t.val % 9 = 0) :
    acc1 W c (t.val + 1) = k1_pay6 (qk W c (t.val % 9)) k1_pay5 (iblk1 W c 1 t) := by
  show k1_pay6 (qk W c (t.val % 9)) (if t.val % 9 = 0 then k1_pay5 else acc1 W c t.val) (iblk1 W c 1 (pt1 t.val)) = _
  rw [pt1_val, if_pos h]
theorem acc1_later (c : Dev nD) (t : Fin cfg1.N) (h : t.val % 9 ≠ 0) :
    acc1 W c (t.val + 1) = k1_pay6 (qk W c (t.val % 9)) (acc1 W c t.val) (iblk1 W c 1 t) := by
  show k1_pay6 (qk W c (t.val % 9)) (if t.val % 9 = 0 then k1_pay5 else acc1 W c t.val) (iblk1 W c 1 (pt1 t.val)) = _
  rw [pt1_val, if_neg h]

/-- The codes hold the first `n` blocks of the quantised matrix. -/
def Good (c : Dev nD) (n : ℕ) (codes : Vec F S512x27648 .fp8e4m3) : Prop :=
  ∀ y : S512x27648.Idx, (y 1).val < 3072 * min 9 n → codes y = qB (iblk1 W c 0 (pt1 ((y 1).val / 3072))) (invB W c) y

abbrev scM1_0 : Memref sig .tc .vmem S512x27648 .fp8e4m3 := Memref.whole cc1_scratch0
abbrev scM1_1 : Memref sig .tc .vmem S512x512 .f32 := Memref.whole cc1_scratch1
abbrev scM1_2 : Memref sig .tc .vmem S512x128 .f32 := Memref.whole cc1_scratch2
abbrev scM1_3 : Memref sig .tc .vmem S512x128 .bf16 := Memref.whole cc1_scratch3

/-- The four scratch buffers before point `n`. -/
def scr1 (c : Dev nD) : ℕ → sProp 𝕄
  | 0 => iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d))
  | n + 1 => iprop((∃ codes, ⌜Good W c (n + 1) codes⌝ ∗ owns (c : Thread nD τ) scM1_0 fullShare codes) ∗ owns (c : Thread nD τ) scM1_1 fullShare (acc1 W c (n + 1)) ∗ owns (c : Thread nD τ) scM1_2 fullShare (sB W c) ∗ owns (c : Thread nD τ) scM1_3 fullShare (invB W c))

theorem scr1_zero (c : Dev nD) : scr1 W c 0 = iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) := rfl
theorem scr1_pos (c : Dev nD) (n : ℕ) (h : n ≠ 0) :
    scr1 W c n = iprop((∃ codes, ⌜Good W c n codes⌝ ∗ owns (c : Thread nD τ) scM1_0 fullShare codes) ∗ owns (c : Thread nD τ) scM1_1 fullShare (acc1 W c n) ∗ owns (c : Thread nD τ) scM1_2 fullShare (sB W c) ∗ owns (c : Thread nD τ) scM1_3 fullShare (invB W c)) := by
  cases n with
  | zero => exact absurd rfl h
  | succ n => rfl

/-- The other scoped buffers: the first kernel's. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The region's proof data: the arrays as `W` has them; each input's buffer keeps its block; the first output's buffer
    holds, at the last point of a column block, the finished block; the second's the quantised block. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => k1_pay7 (iblk1 W c 4 t) (iblk1 W c 5 t) (sB W c) (acc1 W c (t.val + 1)) (iblk1 W c 3 t)
    | ⟨7, _⟩ => qk W c (min t.val 8)
  Φ t := iprop(scr1 W c t.val ∗ rest1 c)
  q _ := fullShare
  owed _ := 0

theorem A1_eq (c : Dev nD) (w : Fin cfg1.W) : (dat1 W c).A w = W c (Proc.devRef .tc (Pipeline.arrRef spec1 w)) := by
  dsimp only [dat1]
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = iblk1 W c 5 t := by dsimp only [dat1]
theorem after1_6 (c : Dev nD) (t : Fin cfg1.N) : (dat1 W c).after 6 t = k1_pay7 (iblk1 W c 4 t) (iblk1 W c 5 t) (sB W c) (acc1 W c (t.val + 1)) (iblk1 W c 3 t) := by dsimp only [dat1]
theorem after1_7 (c : Dev nD) (t : Fin cfg1.N) : (dat1 W c).after 7 t = qk W c (min t.val 8) := by dsimp only [dat1]
theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 W c).before 3 t d = iblk1 W c 3 t :=
  ((dat1 W c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dat1 W c).before 4 t d = iblk1 W c 4 t :=
  ((dat1 W c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)
theorem before1_5 (c : Dev nD) (t : Fin cfg1.N) (d) : (dat1 W c).before 5 t d = iblk1 W c 5 t :=
  ((dat1 W c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)

/-! ## Where the branches are taken, where the outputs are idle -/

theorem hcond1_0 : ∀ t : Fin cfg1.N, cond1_0 (grid1.coords t) ↔ t.val = 0 :=
  (fun t => by
    have ht : t.val < 90 := Nat.lt_of_lt_of_eq t.isLt N_1
    have e0 : (grid1.coords t 0).val = t.val / 9 % 10 := Pipeline.Grid.coords_val t 0 (by decide) rfl
    have e1 : (grid1.coords t 1).val = t.val / 1 % 9 := Pipeline.Grid.coords_val t 1 (by decide) rfl
    simp only [cond1_0, e0, e1]
    word_cmp
   : ∀ t : Fin grid1.N, cond1_0 (grid1.coords t) ↔ t.val = 0)
theorem hcond1_1 : ∀ t : Fin cfg1.N, cond1_1 (grid1.coords t) ↔ t.val < 9 :=
  (fun t => by
    have ht : t.val < 90 := Nat.lt_of_lt_of_eq t.isLt N_1
    have e0 : (grid1.coords t 0).val = t.val / 9 % 10 := Pipeline.Grid.coords_val t 0 (by decide) rfl
    have e1 : (grid1.coords t 1).val = t.val / 1 % 9 := Pipeline.Grid.coords_val t 1 (by decide) rfl
    simp only [cond1_1, k1_cond2, e0, e1]
    word_cmp
   : ∀ t : Fin grid1.N, cond1_1 (grid1.coords t) ↔ t.val < 9)
theorem hcond1_2 : ∀ t : Fin cfg1.N, cond1_2 (grid1.coords t) ↔ t.val % 9 = 0 :=
  (fun t => by
    have ht : t.val < 90 := Nat.lt_of_lt_of_eq t.isLt N_1
    have e0 : (grid1.coords t 0).val = t.val / 9 % 10 := Pipeline.Grid.coords_val t 0 (by decide) rfl
    have e1 : (grid1.coords t 1).val = t.val / 1 % 9 := Pipeline.Grid.coords_val t 1 (by decide) rfl
    simp only [cond1_2, e0, e1]
    word_cmp
   : ∀ t : Fin grid1.N, cond1_2 (grid1.coords t) ↔ t.val % 9 = 0)
theorem hcond1_3 : ∀ t : Fin cfg1.N, cond1_3 (grid1.coords t) ↔ t.val % 9 = 8 :=
  (fun t => by
    have ht : t.val < 90 := Nat.lt_of_lt_of_eq t.isLt N_1
    have e0 : (grid1.coords t 0).val = t.val / 9 % 10 := Pipeline.Grid.coords_val t 0 (by decide) rfl
    have e1 : (grid1.coords t 1).val = t.val / 1 % 9 := Pipeline.Grid.coords_val t 1 (by decide) rfl
    simp only [cond1_3, k1_cond4, e0, e1]
    word_cmp
   : ∀ t : Fin grid1.N, cond1_3 (grid1.coords t) ↔ t.val % 9 = 8)
theorem coord1_1 (t : Fin cfg1.N) : (grid1.coords t 1).val = t.val % 9 :=
  ((Pipeline.Grid.coords_val (G := grid1) t 1 (by decide) rfl : (grid1.coords t 1).val = t.val / 1 % 9)).trans (by rw [Nat.div_one])
theorem idleAt1_6 : ∀ t : Fin cfg1.N, ¬cond1_3 (grid1.coords t) → cfg1.idle 6 (grid1.coords t) = true := by decide +kernel
theorem noFlush1_6 : ∀ t : Fin cfg1.N, ¬cond1_3 (grid1.coords t) → (cfg1.win 6).flush t = false := by decide +kernel
theorem liveAt1_6 : ∀ t : Fin cfg1.N, cond1_3 (grid1.coords t) → cfg1.idle 6 (grid1.coords t) = false := by decide +kernel
theorem idleAt1_7 : ∀ t : Fin cfg1.N, ¬cond1_1 (grid1.coords t) → cfg1.idle 7 (grid1.coords t) = true := by decide +kernel
theorem liveAt1_7 : ∀ t : Fin cfg1.N, cond1_1 (grid1.coords t) → cfg1.idle 7 (grid1.coords t) = false := by decide +kernel
theorem idle_late1_7 : ∀ t : Fin cfg1.N, cfg1.idle 7 (grid1.coords t) = true → 9 ≤ t.val := by decide +kernel
theorem fresh1_7 : ∀ t : Fin cfg1.N, 9 ≤ t.val → cfg1.fresh 7 t.val = false := by decide +kernel

/-- From point 9 on the second output's buffer is left alone: it holds the last quantised block. -/
theorem before1_7 (c : Dev nD) (t : Fin cfg1.N) (ht : 9 ≤ t.val) (d) : (dat1 W c).before 7 t d = qk W c 8 := by
  rw [(dat1 W c).before_out_traj 7 rfl (fun _ _ => rfl) (fun u hu hi hf => by
    have h9 := idle_late1_7 u hi
    rw [after1_7, after1_7]
    exact congrArg (qk W c) (by show min u.val 8 = min (u.val - 1) 8; omega)) t.val t rfl d, fresh1_7 t ht]
  rw [if_neg Bool.false_ne_true, after1_7]
  exact congrArg (qk W c) (by show min (t.val - 1) 8 = 8; omega)

theorem leaves1_7_late (c : Dev nD) (t : Fin cfg1.N) (ht : 9 ≤ t.val) (hi : cfg1.idle 7 (grid1.coords t) = true) :
    owns (c : Thread nD τ) ((cfg1.win 7).stage (cfg1.slots t 7)) fullShare (qk W c 8) ⊢ ((dat1 W c).leavesExact 7 t : sProp 𝕄) := by
  by_cases hf : (cfg1.win 7).flush t = true
  · rw [show (dat1 W c).leavesExact 7 t = owns (c : Thread nD τ) ((cfg1.win 7).stage (cfg1.slots t 7)) fullShare ((dat1 W c).after 7 t) from by
      unfold Dat.leavesExact; rw [hf, show cfg1.idle 7 (cfg1.grid.coords t) = true from hi], after1_7, show min t.val 8 = 8 by omega]
  · rw [Dat.leavesExact_idle (dat1 W c) 7 t hi (by simpa using hf)]
    simp only [before1_7 W c t ht]
    iintro H
    iexists (fun _ => default)
    iexact H

/-! ## The codes, point by point -/

theorem good_put (c : Dev nD) (t : Fin cfg1.N) (h : k1_cond2 (grid1.coords t) = 1#1) (ht : t.val < 9) (codes : Vec F S512x27648 .fp8e4m3)
    (hg : t.val ≠ 0 → Good W c t.val codes) : Good W c (t.val + 1) (codesPut (grid1.coords t) h (iblk1 W c 0 t) (invB W c) codes) := by
  intro y hy
  have e1 := coord1_1 t
  by_cases hin : 3072 * (grid1.coords t 1).val ≤ (y 1).val ∧ (y 1).val < 3072 * (grid1.coords t 1).val + 3072
  · rw [codesPut_in (grid1.coords t) h _ _ _ y hin, show (y 1).val / 3072 = t.val by omega, pt1_val]
  · rw [codesPut_out (grid1.coords t) h _ _ _ y hin]
    exact hg (by omega) y (by omega)

theorem good_late (c : Dev nD) (n : ℕ) (hn : 9 ≤ n) (codes : Vec F S512x27648 .fp8e4m3) (hg : Good W c n codes) : Good W c (n + 1) codes :=
  fun y hy => hg y (by omega)

theorem ld_early (c : Dev nD) (t : Fin cfg1.N) (h : k1_cond2 (grid1.coords t) = 1#1) (ht : t.val < 9)
    (inb : ∀ a, k1_off2 (grid1.coords t) a + S512x3072.size a ≤ S512x27648.size a) :
    View.ld (Val := Elt F) (e' := .fp8e4m3) (View.canon (codesPieces (grid1.coords t) h (iblk1 W c 0 t) (invB W c))) (Rect.unit (s := S512x27648) (k1_off2 (grid1.coords t)) S512x3072.size inb) = qk W c (t.val % 9) := by
  rw [ld_codes_canon, qk, show t.val % 9 = t.val by omega, pt1_val]

theorem ld_late (c : Dev nD) (t : Fin cfg1.N) (ht : 9 ≤ t.val) (codes : Vec F S512x27648 .fp8e4m3) (hg : Good W c t.val codes)
    (inb : ∀ a, k1_off2 (grid1.coords t) a + S512x3072.size a ≤ S512x27648.size a) :
    View.ld (Val := Elt F) (e' := .fp8e4m3) codes (Rect.unit (s := S512x27648) (k1_off2 (grid1.coords t)) S512x3072.size inb) = qk W c (t.val % 9) := by
  have e1 := coord1_1 t
  have h9 : t.val % 9 < 9 := Nat.mod_lt _ (by omega)
  refine ld_codes (grid1.coords t) (iblk1 W c 0 (pt1 (t.val % 9))) (invB W c) codes (fun y hy => ?_) inb
  rw [hg y (by omega), show (y 1).val / 3072 = t.val % 9 by omega]

/-! ## The body at a point -/

abbrev stg1 (w : Fin cfg1.W) (t : Fin cfg1.N) := (cfg1.win w).stage (cfg1.slots t w)

def bodyPre1 (c : Dev nD) (t : Fin cfg1.N) : sProp 𝕄 :=
  iprop((dat1 W c).Φ t.castSucc ∗ (dat1 W c).owesAt () t.castSucc
    ∗ (∃ d, owns (c : Thread nD τ) (stg1 0 t) fullShare ((dat1 W c).before 0 t d))
    ∗ (∃ d, owns (c : Thread nD τ) (stg1 1 t) fullShare ((dat1 W c).before 1 t d))
    ∗ (∃ d, owns (c : Thread nD τ) (stg1 2 t) fullShare ((dat1 W c).before 2 t d))
    ∗ (∃ d, owns (c : Thread nD τ) (stg1 3 t) fullShare ((dat1 W c).before 3 t d))
    ∗ (∃ d, owns (c : Thread nD τ) (stg1 4 t) fullShare ((dat1 W c).before 4 t d))
    ∗ (∃ d, owns (c : Thread nD τ) (stg1 5 t) fullShare ((dat1 W c).before 5 t d))
    ∗ (∃ d, owns (c : Thread nD τ) (stg1 6 t) fullShare ((dat1 W c).before 6 t d))
    ∗ (∃ d, owns (c : Thread nD τ) (stg1 7 t) fullShare ((dat1 W c).before 7 t d)))

def bodyPost1 (c : Dev nD) (t : Fin cfg1.N) : sProp 𝕄 :=
  iprop((dat1 W c).Φ t.succ ∗ (dat1 W c).owesAt () t.succ
    ∗ (dat1 W c).leavesExact 0 t ∗ (dat1 W c).leavesExact 1 t ∗ (dat1 W c).leavesExact 2 t ∗ (dat1 W c).leavesExact 3 t ∗ (dat1 W c).leavesExact 4 t ∗ (dat1 W c).leavesExact 5 t ∗ (dat1 W c).leavesExact 6 t ∗ (dat1 W c).leavesExact 7 t)

theorem leaves1_0 (c : Dev nD) (t : Fin cfg1.N) : (dat1 W c).leavesExact 0 t = owns (c : Thread nD τ) (stg1 0 t) fullShare (iblk1 W c 0 t) := by
  unfold Dat.leavesExact; rw [show cfg1.idle 0 (cfg1.grid.coords t) = false from rfl, after1_0]
theorem leaves1_1 (c : Dev nD) (t : Fin cfg1.N) : (dat1 W c).leavesExact 1 t = owns (c : Thread nD τ) (stg1 1 t) fullShare (iblk1 W c 1 t) := by
  unfold Dat.leavesExact; rw [show cfg1.idle 1 (cfg1.grid.coords t) = false from rfl, after1_1]
theorem leaves1_2 (c : Dev nD) (t : Fin cfg1.N) : (dat1 W c).leavesExact 2 t = owns (c : Thread nD τ) (stg1 2 t) fullShare (iblk1 W c 2 t) := by
  unfold Dat.leavesExact; rw [show cfg1.idle 2 (cfg1.grid.coords t) = false from rfl, after1_2]
theorem leaves1_3 (c : Dev nD) (t : Fin cfg1.N) : (dat1 W c).leavesExact 3 t = owns (c : Thread nD τ) (stg1 3 t) fullShare (iblk1 W c 3 t) := by
  unfold Dat.leavesExact; rw [show cfg1.idle 3 (cfg1.grid.coords t) = false from rfl, after1_3]
theorem leaves1_4 (c : Dev nD) (t : Fin cfg1.N) : (dat1 W c).leavesExact 4 t = owns (c : Thread nD τ) (stg1 4 t) fullShare (iblk1 W c 4 t) := by
  unfold Dat.leavesExact; rw [show cfg1.idle 4 (cfg1.grid.coords t) = false from rfl, after1_4]
theorem leaves1_5 (c : Dev nD) (t : Fin cfg1.N) : (dat1 W c).leavesExact 5 t = owns (c : Thread nD τ) (stg1 5 t) fullShare (iblk1 W c 5 t) := by
  unfold Dat.leavesExact; rw [show cfg1.idle 5 (cfg1.grid.coords t) = false from rfl, after1_5]
theorem leaves1_6 (c : Dev nD) (t : Fin cfg1.N) (h : cond1_3 (grid1.coords t)) : (dat1 W c).leavesExact 6 t = owns (c : Thread nD τ) (stg1 6 t) fullShare (k1_pay7 (iblk1 W c 4 t) (iblk1 W c 5 t) (sB W c) (acc1 W c (t.val + 1)) (iblk1 W c 3 t)) := by
  unfold Dat.leavesExact; rw [show cfg1.idle 6 (cfg1.grid.coords t) = false from liveAt1_6 t h, after1_6]
theorem leaves1_7 (c : Dev nD) (t : Fin cfg1.N) (ht : t.val < 9) (h : cond1_1 (grid1.coords t)) : (dat1 W c).leavesExact 7 t = owns (c : Thread nD τ) (stg1 7 t) fullShare (qOut (iblk1 W c 0 t) (invB W c)) := by
  unfold Dat.leavesExact; rw [show cfg1.idle 7 (cfg1.grid.coords t) = false from liveAt1_7 t h, after1_7]
  rw [show min t.val 8 = t.val by omega, qk, pt1_val]

end Cert.Kernel.Own

end
-- ==== Proof.P.Run1A.lean ====
module

public import proofs.«01_k».proof.Proof.P.Pay1

@[expose] public section

set_option maxRecDepth 16384

noncomputable section

namespace Cert.Kernel.Own

open Cert.Kernel Cert.Kernel.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The very first point: the scales are spread out, the first block of columns quantised, the first product taken. -/
theorem run1_A (c : Dev nD) (i : grid1.Coords) (arg2 : Memref sig .tc .vmem S512x3072 .bf16) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x64 .bf16) (harg6 : arg6.IsWhole) (arg7 : Memref sig .tc .vmem S64x512 .bf16) (harg7 : arg7.IsWhole) (arg8 : Memref sig .tc .vmem S512x512 .bf16) (harg8 : arg8.IsWhole) (arg9 : Memref sig .tc .vmem S512x3072 .fp8e4m3) (harg9 : arg9.IsWhole) (arg10 : Memref sig .tc .vmem S512x27648 .fp8e4m3) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .bf16) (harg13 : arg13.IsWhole) (hc0 : cond1_0 i) (hc1 : cond1_1 i) (hc2 : cond1_2 i) (hc3 : ¬cond1_3 i)
    (x : Vec F S512x3072 .bf16) (w : Vec F S3072x512 .fp8e4m3) (sc : Vec F S1x512 .f32) (ws : Vec F S1x512 .f32) (t : Vec F S512x64 .bf16) (b : Vec F S64x512 .bf16) (o8 : Vec F S512x512 .bf16) (codes : Vec F S512x27648 .fp8e4m3) (E : Set ℕ) (K : PUnit → sProp 𝕄) :
    iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ (∃ d, owns (c : Thread nD τ) arg9 fullShare d) ∗ owns (c : Thread nD τ) arg10 fullShare codes ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ owns (c : Thread nD τ) arg9 fullShare (qOut x (invOut sc)) ∗ owns (c : Thread nD τ) arg10 fullShare (codesPut i hc1 x (invOut sc) codes) ∗ owns (c : Thread nD τ) arg11 fullShare (k1_pay6 (View.ld (Val := Elt F) (e' := .fp8e4m3) (View.canon (codesPieces i hc1 x (invOut sc))) (Rect.unit (s := S512x27648) (k1_off2 i) S512x3072.size (k1_off2_inb i))) (k1_pay5 (F := F)) w) ∗ owns (c : Thread nD τ) arg12 fullShare (sOut sc) ∗ owns (c : Thread nD τ) arg13 fullShare (invOut sc)) -∗ K ⟨⟩))
      ⊢ wp frame (wpE (defs₀ (F := F)) Variants.none c none) E (cc1_fp8_linear i arg2 harg2 arg3 harg3 arg4 harg4 arg5 harg5 arg6 harg6 arg7 harg7 arg8 harg8 arg9 harg9 arg10 harg10 arg11 harg11 arg12 harg12 arg13 harg13) K := by
  simp only [cc1_fp8_linear_eq_skeleton]; unfold cc1_fp8_linear_skel
  simp only [k1_part14_eq_skeleton]; unfold k1_part14_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10
  sl_exec (disch := first | sl_exact hc0 | sl_exact hc1 | sl_exact hc2 | sl_exact hc3)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H8]
  · iexists _; isplitr
    swap
    · iexact H8
    ipureintro
    exact harg8.read_unread _
  isplitl [H9]
  · iexists _; isplitr
    swap
    · iexact H9
    ipureintro
    refine (View.read_writes_eq_canon _ _ _ (View.cover_of_tiledL _ ![512, 128] (by sl_kernel_rfl))).trans ?_
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H10]
  · iexists _; isplitr
    swap
    · iexact H10
    ipureintro
    refine (read_writes_over _ _ _).trans ?_
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H11]
  · iexists _; isplitr
    swap
    · iexact H11
    ipureintro
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H12]
  · iexists _; isplitr
    swap
    · iexact H12
    ipureintro
    refine (View.read_writes_eq_canon _ _ _ (View.cover_of_tiledL _ ![128, 128] (by sl_kernel_rfl))).trans ?_
    (try sl_unfold_words)
    simp (disch := decide) only [readAt_ld, readCov_top, Memref.IsWhole.read_unread, ld_top, read_top]
    exact canon4 (sBlk3 _) (sBlk2 _) (sBlk1 _) (sBlk0 _)
  iexists _; isplitr
  swap
  · iexact H13
  ipureintro
  refine (View.read_writes_eq_canon _ _ _ (View.cover_of_tiledL _ ![128, 128] (by sl_kernel_rfl))).trans ?_
  (try sl_unfold_words)
  simp (disch := decide) only [readAt_ld, readCov_top, Memref.IsWhole.read_unread, ld_top, read_top]
  exact canon4 (iBlk3 _) (iBlk2 _) (iBlk1 _) (iBlk0 _)

end Cert.Kernel.Own

end
-- ==== Proof.P.Run1B.lean ====
module

public import proofs.«01_k».proof.Proof.P.Pay1

@[expose] public section

set_option maxRecDepth 16384

noncomputable section

namespace Cert.Kernel.Own

open Cert.Kernel Cert.Kernel.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- A middle block of columns in the first sweep: quantised, then multiplied. -/
theorem run1_B (c : Dev nD) (i : grid1.Coords) (arg2 : Memref sig .tc .vmem S512x3072 .bf16) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x64 .bf16) (harg6 : arg6.IsWhole) (arg7 : Memref sig .tc .vmem S64x512 .bf16) (harg7 : arg7.IsWhole) (arg8 : Memref sig .tc .vmem S512x512 .bf16) (harg8 : arg8.IsWhole) (arg9 : Memref sig .tc .vmem S512x3072 .fp8e4m3) (harg9 : arg9.IsWhole) (arg10 : Memref sig .tc .vmem S512x27648 .fp8e4m3) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .bf16) (harg13 : arg13.IsWhole) (hc0 : ¬cond1_0 i) (hc1 : cond1_1 i) (hc2 : ¬cond1_2 i) (hc3 : ¬cond1_3 i)
    (x : Vec F S512x3072 .bf16) (w : Vec F S3072x512 .fp8e4m3) (sc : Vec F S1x512 .f32) (ws : Vec F S1x512 .f32) (t : Vec F S512x64 .bf16) (b : Vec F S64x512 .bf16) (o8 : Vec F S512x512 .bf16) (codes : Vec F S512x27648 .fp8e4m3) (acc : Vec F S512x512 .f32) (s : Vec F S512x128 .f32) (inv : Vec F S512x128 .bf16) (E : Set ℕ) (K : PUnit → sProp 𝕄) :
    iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ (∃ d, owns (c : Thread nD τ) arg9 fullShare d) ∗ owns (c : Thread nD τ) arg10 fullShare codes ∗ owns (c : Thread nD τ) arg11 fullShare acc ∗ owns (c : Thread nD τ) arg12 fullShare s ∗ owns (c : Thread nD τ) arg13 fullShare inv
        ∗ (iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ owns (c : Thread nD τ) arg9 fullShare (qOut x inv) ∗ owns (c : Thread nD τ) arg10 fullShare (codesPut i hc1 x inv codes) ∗ owns (c : Thread nD τ) arg11 fullShare (k1_pay6 (View.ld (Val := Elt F) (e' := .fp8e4m3) (View.canon (codesPieces i hc1 x inv)) (Rect.unit (s := S512x27648) (k1_off2 i) S512x3072.size (k1_off2_inb i))) acc w) ∗ owns (c : Thread nD τ) arg12 fullShare s ∗ owns (c : Thread nD τ) arg13 fullShare inv) -∗ K ⟨⟩))
      ⊢ wp frame (wpE (defs₀ (F := F)) Variants.none c none) E (cc1_fp8_linear i arg2 harg2 arg3 harg3 arg4 harg4 arg5 harg5 arg6 harg6 arg7 harg7 arg8 harg8 arg9 harg9 arg10 harg10 arg11 harg11 arg12 harg12 arg13 harg13) K := by
  simp only [cc1_fp8_linear_eq_skeleton]; unfold cc1_fp8_linear_skel
  simp only [k1_part14_eq_skeleton]; unfold k1_part14_skel
  simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12; obtain rfl := harg13.eq_unread hf13
  sl_exec (disch := first | sl_exact hc0 | sl_exact hc1 | sl_exact hc2 | sl_exact hc3)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H8]
  · iexists _; isplitr
    swap
    · iexact H8
    ipureintro
    exact harg8.read_unread _
  isplitl [H9]
  · iexists _; isplitr
    swap
    · iexact H9
    ipureintro
    refine (View.read_writes_eq_canon _ _ _ (View.cover_of_tiledL _ ![512, 128] (by sl_kernel_rfl))).trans ?_
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H10]
  · iexists _; isplitr
    swap
    · iexact H10
    ipureintro
    refine (read_writes_over _ _ _).trans ?_
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H11]
  · iexists _; isplitr
    swap
    · iexact H11
    ipureintro
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H12]
  · iexists _; isplitr
    swap
    · iexact H12
    ipureintro
    exact harg12.read_unread _
  iexists _; isplitr
  swap
  · iexact H13
  ipureintro
  exact harg13.read_unread _

end Cert.Kernel.Own

end
-- ==== Proof.P.Run1C.lean ====
module

public import proofs.«01_k».proof.Proof.P.Pay1

@[expose] public section

set_option maxRecDepth 16384

noncomputable section

namespace Cert.Kernel.Own

open Cert.Kernel Cert.Kernel.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The last block of columns in the first sweep: quantised, multiplied, and the result block written out. -/
theorem run1_C (c : Dev nD) (i : grid1.Coords) (arg2 : Memref sig .tc .vmem S512x3072 .bf16) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x64 .bf16) (harg6 : arg6.IsWhole) (arg7 : Memref sig .tc .vmem S64x512 .bf16) (harg7 : arg7.IsWhole) (arg8 : Memref sig .tc .vmem S512x512 .bf16) (harg8 : arg8.IsWhole) (arg9 : Memref sig .tc .vmem S512x3072 .fp8e4m3) (harg9 : arg9.IsWhole) (arg10 : Memref sig .tc .vmem S512x27648 .fp8e4m3) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .bf16) (harg13 : arg13.IsWhole) (hc0 : ¬cond1_0 i) (hc1 : cond1_1 i) (hc2 : ¬cond1_2 i) (hc3 : cond1_3 i)
    (x : Vec F S512x3072 .bf16) (w : Vec F S3072x512 .fp8e4m3) (sc : Vec F S1x512 .f32) (ws : Vec F S1x512 .f32) (t : Vec F S512x64 .bf16) (b : Vec F S64x512 .bf16) (codes : Vec F S512x27648 .fp8e4m3) (acc : Vec F S512x512 .f32) (s : Vec F S512x128 .f32) (inv : Vec F S512x128 .bf16) (E : Set ℕ) (K : PUnit → sProp 𝕄) :
    iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ (∃ d, owns (c : Thread nD τ) arg8 fullShare d) ∗ (∃ d, owns (c : Thread nD τ) arg9 fullShare d) ∗ owns (c : Thread nD τ) arg10 fullShare codes ∗ owns (c : Thread nD τ) arg11 fullShare acc ∗ owns (c : Thread nD τ) arg12 fullShare s ∗ owns (c : Thread nD τ) arg13 fullShare inv
        ∗ (iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare (k1_pay7 t b s (k1_pay6 (View.ld (Val := Elt F) (e' := .fp8e4m3) (View.canon (codesPieces i hc1 x inv)) (Rect.unit (s := S512x27648) (k1_off2 i) S512x3072.size (k1_off2_inb i))) acc w) ws) ∗ owns (c : Thread nD τ) arg9 fullShare (qOut x inv) ∗ owns (c : Thread nD τ) arg10 fullShare (codesPut i hc1 x inv codes) ∗ owns (c : Thread nD τ) arg11 fullShare (k1_pay6 (View.ld (Val := Elt F) (e' := .fp8e4m3) (View.canon (codesPieces i hc1 x inv)) (Rect.unit (s := S512x27648) (k1_off2 i) S512x3072.size (k1_off2_inb i))) acc w) ∗ owns (c : Thread nD τ) arg12 fullShare s ∗ owns (c : Thread nD τ) arg13 fullShare inv) -∗ K ⟨⟩))
      ⊢ wp frame (wpE (defs₀ (F := F)) Variants.none c none) E (cc1_fp8_linear i arg2 harg2 arg3 harg3 arg4 harg4 arg5 harg5 arg6 harg6 arg7 harg7 arg8 harg8 arg9 harg9 arg10 harg10 arg11 harg11 arg12 harg12 arg13 harg13) K := by
  simp only [cc1_fp8_linear_eq_skeleton]; unfold cc1_fp8_linear_skel
  simp only [k1_part14_eq_skeleton]; unfold k1_part14_skel
  simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11; obtain rfl := harg12.eq_unread hf12; obtain rfl := harg13.eq_unread hf13
  sl_exec (disch := first | sl_exact hc0 | sl_exact hc1 | sl_exact hc2 | sl_exact hc3)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H8]
  · iexists _; isplitr
    swap
    · iexact H8
    ipureintro
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H9]
  · iexists _; isplitr
    swap
    · iexact H9
    ipureintro
    refine (View.read_writes_eq_canon _ _ _ (View.cover_of_tiledL _ ![512, 128] (by sl_kernel_rfl))).trans ?_
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H10]
  · iexists _; isplitr
    swap
    · iexact H10
    ipureintro
    refine (read_writes_over _ _ _).trans ?_
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H11]
  · iexists _; isplitr
    swap
    · iexact H11
    ipureintro
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H12]
  · iexists _; isplitr
    swap
    · iexact H12
    ipureintro
    exact harg12.read_unread _
  iexists _; isplitr
  swap
  · iexact H13
  ipureintro
  exact harg13.read_unread _

end Cert.Kernel.Own

end
-- ==== Proof.P.Run1D.lean ====
module

public import proofs.«01_k».proof.Proof.P.Pay1

@[expose] public section

set_option maxRecDepth 16384

noncomputable section

namespace Cert.Kernel.Own

open Cert.Kernel Cert.Kernel.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The first block of columns in a later sweep: the product restarts from zero. -/
theorem run1_D (c : Dev nD) (i : grid1.Coords) (arg2 : Memref sig .tc .vmem S512x3072 .bf16) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x64 .bf16) (harg6 : arg6.IsWhole) (arg7 : Memref sig .tc .vmem S64x512 .bf16) (harg7 : arg7.IsWhole) (arg8 : Memref sig .tc .vmem S512x512 .bf16) (harg8 : arg8.IsWhole) (arg9 : Memref sig .tc .vmem S512x3072 .fp8e4m3) (harg9 : arg9.IsWhole) (arg10 : Memref sig .tc .vmem S512x27648 .fp8e4m3) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .bf16) (harg13 : arg13.IsWhole) (hc0 : ¬cond1_0 i) (hc1 : ¬cond1_1 i) (hc2 : cond1_2 i) (hc3 : ¬cond1_3 i)
    (x : Vec F S512x3072 .bf16) (w : Vec F S3072x512 .fp8e4m3) (sc : Vec F S1x512 .f32) (ws : Vec F S1x512 .f32) (t : Vec F S512x64 .bf16) (b : Vec F S64x512 .bf16) (o8 : Vec F S512x512 .bf16) (o9 : Vec F S512x3072 .fp8e4m3) (codes : Vec F S512x27648 .fp8e4m3) (s : Vec F S512x128 .f32) (inv : Vec F S512x128 .bf16) (E : Set ℕ) (K : PUnit → sProp 𝕄) :
    iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ owns (c : Thread nD τ) arg9 fullShare o9 ∗ owns (c : Thread nD τ) arg10 fullShare codes ∗ (∃ d, owns (c : Thread nD τ) arg11 fullShare d) ∗ owns (c : Thread nD τ) arg12 fullShare s ∗ owns (c : Thread nD τ) arg13 fullShare inv
        ∗ (iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ owns (c : Thread nD τ) arg9 fullShare o9 ∗ owns (c : Thread nD τ) arg10 fullShare codes ∗ owns (c : Thread nD τ) arg11 fullShare (k1_pay6 (View.ld (Val := Elt F) (e' := .fp8e4m3) codes (Rect.unit (s := S512x27648) (k1_off2 i) S512x3072.size (k1_off2_inb i))) (k1_pay5 (F := F)) w) ∗ owns (c : Thread nD τ) arg12 fullShare s ∗ owns (c : Thread nD τ) arg13 fullShare inv) -∗ K ⟨⟩))
      ⊢ wp frame (wpE (defs₀ (F := F)) Variants.none c none) E (cc1_fp8_linear i arg2 harg2 arg3 harg3 arg4 harg4 arg5 harg5 arg6 harg6 arg7 harg7 arg8 harg8 arg9 harg9 arg10 harg10 arg11 harg11 arg12 harg12 arg13 harg13) K := by
  simp only [cc1_fp8_linear_eq_skeleton]; unfold cc1_fp8_linear_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13
  sl_exec (disch := first | sl_exact hc0 | sl_exact hc1 | sl_exact hc2 | sl_exact hc3)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H8]
  · iexists _; isplitr
    swap
    · iexact H8
    ipureintro
    exact harg8.read_unread _
  isplitl [H9]
  · iexists _; isplitr
    swap
    · iexact H9
    ipureintro
    exact harg9.read_unread _
  isplitl [H10]
  · iexists _; isplitr
    swap
    · iexact H10
    ipureintro
    exact harg10.read_unread _
  isplitl [H11]
  · iexists _; isplitr
    swap
    · iexact H11
    ipureintro
    (try sl_unfold_words)
    simp (disch := decide) only [readAt_ld, readCov_top, Memref.IsWhole.read_unread, ld_top, read_top]
  isplitl [H12]
  · iexists _; isplitr
    swap
    · iexact H12
    ipureintro
    exact harg12.read_unread _
  iexists _; isplitr
  swap
  · iexact H13
  ipureintro
  exact harg13.read_unread _

set_option maxHeartbeats 20000000 in
/-- A middle block of columns in a later sweep. -/
theorem run1_G (c : Dev nD) (i : grid1.Coords) (arg2 : Memref sig .tc .vmem S512x3072 .bf16) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x64 .bf16) (harg6 : arg6.IsWhole) (arg7 : Memref sig .tc .vmem S64x512 .bf16) (harg7 : arg7.IsWhole) (arg8 : Memref sig .tc .vmem S512x512 .bf16) (harg8 : arg8.IsWhole) (arg9 : Memref sig .tc .vmem S512x3072 .fp8e4m3) (harg9 : arg9.IsWhole) (arg10 : Memref sig .tc .vmem S512x27648 .fp8e4m3) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .bf16) (harg13 : arg13.IsWhole) (hc0 : ¬cond1_0 i) (hc1 : ¬cond1_1 i) (hc2 : ¬cond1_2 i) (hc3 : ¬cond1_3 i)
    (x : Vec F S512x3072 .bf16) (w : Vec F S3072x512 .fp8e4m3) (sc : Vec F S1x512 .f32) (ws : Vec F S1x512 .f32) (t : Vec F S512x64 .bf16) (b : Vec F S64x512 .bf16) (o8 : Vec F S512x512 .bf16) (o9 : Vec F S512x3072 .fp8e4m3) (codes : Vec F S512x27648 .fp8e4m3) (acc : Vec F S512x512 .f32) (s : Vec F S512x128 .f32) (inv : Vec F S512x128 .bf16) (E : Set ℕ) (K : PUnit → sProp 𝕄) :
    iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ owns (c : Thread nD τ) arg9 fullShare o9 ∗ owns (c : Thread nD τ) arg10 fullShare codes ∗ owns (c : Thread nD τ) arg11 fullShare acc ∗ owns (c : Thread nD τ) arg12 fullShare s ∗ owns (c : Thread nD τ) arg13 fullShare inv
        ∗ (iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ owns (c : Thread nD τ) arg9 fullShare o9 ∗ owns (c : Thread nD τ) arg10 fullShare codes ∗ owns (c : Thread nD τ) arg11 fullShare (k1_pay6 (View.ld (Val := Elt F) (e' := .fp8e4m3) codes (Rect.unit (s := S512x27648) (k1_off2 i) S512x3072.size (k1_off2_inb i))) acc w) ∗ owns (c : Thread nD τ) arg12 fullShare s ∗ owns (c : Thread nD τ) arg13 fullShare inv) -∗ K ⟨⟩))
      ⊢ wp frame (wpE (defs₀ (F := F)) Variants.none c none) E (cc1_fp8_linear i arg2 harg2 arg3 harg3 arg4 harg4 arg5 harg5 arg6 harg6 arg7 harg7 arg8 harg8 arg9 harg9 arg10 harg10 arg11 harg11 arg12 harg12 arg13 harg13) K := by
  simp only [cc1_fp8_linear_eq_skeleton]; unfold cc1_fp8_linear_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1 | sl_exact hc2 | sl_exact hc3)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H8]
  · iexists _; isplitr
    swap
    · iexact H8
    ipureintro
    exact harg8.read_unread _
  isplitl [H9]
  · iexists _; isplitr
    swap
    · iexact H9
    ipureintro
    exact harg9.read_unread _
  isplitl [H10]
  · iexists _; isplitr
    swap
    · iexact H10
    ipureintro
    exact harg10.read_unread _
  isplitl [H11]
  · iexists _; isplitr
    swap
    · iexact H11
    ipureintro
    (try sl_unfold_words)
    simp (disch := decide) only [readAt_ld, readCov_top, Memref.IsWhole.read_unread, ld_top, read_top]
  isplitl [H12]
  · iexists _; isplitr
    swap
    · iexact H12
    ipureintro
    exact harg12.read_unread _
  iexists _; isplitr
  swap
  · iexact H13
  ipureintro
  exact harg13.read_unread _

set_option maxHeartbeats 20000000 in
/-- The last block of columns in a later sweep: the result block is written out. -/
theorem run1_H (c : Dev nD) (i : grid1.Coords) (arg2 : Memref sig .tc .vmem S512x3072 .bf16) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x64 .bf16) (harg6 : arg6.IsWhole) (arg7 : Memref sig .tc .vmem S64x512 .bf16) (harg7 : arg7.IsWhole) (arg8 : Memref sig .tc .vmem S512x512 .bf16) (harg8 : arg8.IsWhole) (arg9 : Memref sig .tc .vmem S512x3072 .fp8e4m3) (harg9 : arg9.IsWhole) (arg10 : Memref sig .tc .vmem S512x27648 .fp8e4m3) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .bf16) (harg13 : arg13.IsWhole) (hc0 : ¬cond1_0 i) (hc1 : ¬cond1_1 i) (hc2 : ¬cond1_2 i) (hc3 : cond1_3 i)
    (x : Vec F S512x3072 .bf16) (w : Vec F S3072x512 .fp8e4m3) (sc : Vec F S1x512 .f32) (ws : Vec F S1x512 .f32) (t : Vec F S512x64 .bf16) (b : Vec F S64x512 .bf16) (o9 : Vec F S512x3072 .fp8e4m3) (codes : Vec F S512x27648 .fp8e4m3) (acc : Vec F S512x512 .f32) (s : Vec F S512x128 .f32) (inv : Vec F S512x128 .bf16) (E : Set ℕ) (K : PUnit → sProp 𝕄) :
    iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ (∃ d, owns (c : Thread nD τ) arg8 fullShare d) ∗ owns (c : Thread nD τ) arg9 fullShare o9 ∗ owns (c : Thread nD τ) arg10 fullShare codes ∗ owns (c : Thread nD τ) arg11 fullShare acc ∗ owns (c : Thread nD τ) arg12 fullShare s ∗ owns (c : Thread nD τ) arg13 fullShare inv
        ∗ (iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare (k1_pay7 t b s (k1_pay6 (View.ld (Val := Elt F) (e' := .fp8e4m3) codes (Rect.unit (s := S512x27648) (k1_off2 i) S512x3072.size (k1_off2_inb i))) acc w) ws) ∗ owns (c : Thread nD τ) arg9 fullShare o9 ∗ owns (c : Thread nD τ) arg10 fullShare codes ∗ owns (c : Thread nD τ) arg11 fullShare (k1_pay6 (View.ld (Val := Elt F) (e' := .fp8e4m3) codes (Rect.unit (s := S512x27648) (k1_off2 i) S512x3072.size (k1_off2_inb i))) acc w) ∗ owns (c : Thread nD τ) arg12 fullShare s ∗ owns (c : Thread nD τ) arg13 fullShare inv) -∗ K ⟨⟩))
      ⊢ wp frame (wpE (defs₀ (F := F)) Variants.none c none) E (cc1_fp8_linear i arg2 harg2 arg3 harg3 arg4 harg4 arg5 harg5 arg6 harg6 arg7 harg7 arg8 harg8 arg9 harg9 arg10 harg10 arg11 harg11 arg12 harg12 arg13 harg13) K := by
  simp only [cc1_fp8_linear_eq_skeleton]; unfold cc1_fp8_linear_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1 | sl_exact hc2 | sl_exact hc3)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H8]
  · iexists _; isplitr
    swap
    · iexact H8
    ipureintro
    (try sl_unfold_words)
    simp (disch := decide) only [readAt_ld, readCov_top, Memref.IsWhole.read_unread, ld_top, read_top]
  isplitl [H9]
  · iexists _; isplitr
    swap
    · iexact H9
    ipureintro
    exact harg9.read_unread _
  isplitl [H10]
  · iexists _; isplitr
    swap
    · iexact H10
    ipureintro
    exact harg10.read_unread _
  isplitl [H11]
  · iexists _; isplitr
    swap
    · iexact H11
    ipureintro
    (try sl_unfold_words)
    simp (disch := decide) only [readAt_ld, readCov_top, Memref.IsWhole.read_unread, ld_top, read_top]
  isplitl [H12]
  · iexists _; isplitr
    swap
    · iexact H12
    ipureintro
    exact harg12.read_unread _
  iexists _; isplitr
  swap
  · iexact H13
  ipureintro
  exact harg13.read_unread _

end Cert.Kernel.Own

end
-- ==== Proof.P.Body1.lean ====
module

public import proofs.«01_k».proof.Proof.P.Data1
public import proofs.«01_k».proof.Proof.P.Run1A
public import proofs.«01_k».proof.Proof.P.Run1B
public import proofs.«01_k».proof.Proof.P.Run1C
public import proofs.«01_k».proof.Proof.P.Run1D

@[expose] public section

set_option maxRecDepth 16384

noncomputable section

namespace Cert.Kernel.Own

open Cert.Kernel Cert.Kernel.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear region: its body at every point -/

variable (W : Dev nD → Valuation τ sig (Elt F))

set_option maxHeartbeats 4800000 in
theorem sound1_A (c : Dev nD) (t : Fin cfg1.N) (h : t.val = 0) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5]
  rw [show (dat1 W c).owesAt () t.succ = (dat1 W c).owesAt () t.castSucc from rfl, leaves1_0, leaves1_1, leaves1_2, leaves1_3, leaves1_4, leaves1_5]
  rw [show (dat1 W c).Φ t.succ = iprop(scr1 W c (t.val + 1) ∗ rest1 c) from rfl, show (dat1 W c).Φ t.castSucc = iprop(scr1 W c t.val ∗ rest1 c) from rfl]
  rw [scr1_pos W c (t.val + 1) (Nat.succ_ne_zero _)]
  have hN : t.val < 90 := lt_of_lt_of_eq t.isLt (show cfg1.N = 90 from N_1)
  have hc0 : cond1_0 (grid1.coords t) := (hcond1_0 t).mpr (by omega)
  have hc1 : cond1_1 (grid1.coords t) := (hcond1_1 t).mpr (by omega)
  have hc2 : cond1_2 (grid1.coords t) := (hcond1_2 t).mpr (by omega)
  have hc3 : ¬cond1_3 (grid1.coords t) := fun hh => by have := (hcond1_3 t).mp hh; omega
  rw [show scr1 W c t.val = scr1 W c 0 by rw [h], scr1_zero]
  have hs : sOut (iblk1 W c 2 t) = sB W c := congrArg (fun u => sOut (iblk1 W c 2 u)) (Fin.ext (show t.val = 0 % 90 by omega))
  have hi : invOut (iblk1 W c 2 t) = invB W c := congrArg (fun u => invOut (iblk1 W c 2 u)) (Fin.ext (show t.val = 0 % 90 by omega))
  rw [Dat.leavesExact_idle (dat1 W c) 6 t (idleAt1_6 t hc3) (noFlush1_6 t hc3)]
  rw [leaves1_7 W c t (by omega) hc1]
  rw [acc1_first W c t (by omega)]
  rw [← ld_early W c t hc1 (by omega) (k1_off2_inb (grid1.coords t))]
  iintro ⟨⟨⟨⟨%codes, H10⟩, ⟨%d11, H11⟩, ⟨%d12, H12⟩, ⟨%d13, H13⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← hi, ← hs]
  iapply (run1_A c (grid1.coords t) _ _ _ _ _ _ _ _ _ _ _ _ _ _ _ _ _ _ _ _ _ _ _ _ hc0 hc1 hc2 hc3 (iblk1 W c 0 t) (iblk1 W c 1 t) (iblk1 W c 2 t) (iblk1 W c 3 t) (iblk1 W c 4 t) (iblk1 W c 5 t) _ codes Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H10]; · iexact H10
  isplitl [H11]; · iexists _; iexact H11
  isplitl [H12]; · iexists _; iexact H12
  isplitl [H13]; · iexists _; iexact H13
  iintro ⟨H0, H1, H2, H3, H4, H5, H6, H7, H10, H11, H12, H13⟩
  isplitl [H10 H11 H12 H13 Hg]
  · isplitl [H10 H11 H12 H13]
    · isplitl [H10]
      · iexists _; isplitr
        · ipureintro; exact hi.symm ▸ good_put W c t hc1 (by omega) codes (fun hh => absurd h hh)
        iexact H10
      isplitl [H11]; · iexact H11
      isplitl [H12]; · iexact H12
      iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexact H7

set_option maxHeartbeats 4800000 in
theorem sound1_B (c : Dev nD) (t : Fin cfg1.N) (h : t.val ≠ 0) (h8 : t.val < 8) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5]
  rw [show (dat1 W c).owesAt () t.succ = (dat1 W c).owesAt () t.castSucc from rfl, leaves1_0, leaves1_1, leaves1_2, leaves1_3, leaves1_4, leaves1_5]
  rw [show (dat1 W c).Φ t.succ = iprop(scr1 W c (t.val + 1) ∗ rest1 c) from rfl, show (dat1 W c).Φ t.castSucc = iprop(scr1 W c t.val ∗ rest1 c) from rfl]
  rw [scr1_pos W c (t.val + 1) (Nat.succ_ne_zero _)]
  have hN : t.val < 90 := lt_of_lt_of_eq t.isLt (show cfg1.N = 90 from N_1)
  have hc0 : ¬cond1_0 (grid1.coords t) := fun hh => by have := (hcond1_0 t).mp hh; omega
  have hc1 : cond1_1 (grid1.coords t) := (hcond1_1 t).mpr (by omega)
  have hc2 : ¬cond1_2 (grid1.coords t) := fun hh => by have := (hcond1_2 t).mp hh; omega
  have hc3 : ¬cond1_3 (grid1.coords t) := fun hh => by have := (hcond1_3 t).mp hh; omega
  rw [scr1_pos W c t.val (by omega)]
  rw [Dat.leavesExact_idle (dat1 W c) 6 t (idleAt1_6 t hc3) (noFlush1_6 t hc3)]
  rw [leaves1_7 W c t (by omega) hc1]
  rw [acc1_later W c t (by omega)]
  rw [← ld_early W c t hc1 (by omega) (k1_off2_inb (grid1.coords t))]
  iintro ⟨⟨⟨⟨%codes, %hg, H10⟩, H11, H12, H13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1_B c (grid1.coords t) _ _ _ _ _ _ _ _ _ _ _ _ _ _ _ _ _ _ _ _ _ _ _ _ hc0 hc1 hc2 hc3 (iblk1 W c 0 t) (iblk1 W c 1 t) (iblk1 W c 2 t) (iblk1 W c 3 t) (iblk1 W c 4 t) (iblk1 W c 5 t) _ codes (acc1 W c t.val) (sB W c) (invB W c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H10]; · iexact H10
  isplitl [H11]; · iexact H11
  isplitl [H12]; · iexact H12
  isplitl [H13]; · iexact H13
  iintro ⟨H0, H1, H2, H3, H4, H5, H6, H7, H10, H11, H12, H13⟩
  isplitl [H10 H11 H12 H13 Hg]
  · isplitl [H10 H11 H12 H13]
    · isplitl [H10]
      · iexists _; isplitr
        · ipureintro; exact good_put W c t hc1 (by omega) codes (fun hh => hg)
        iexact H10
      isplitl [H11]; · iexact H11
      isplitl [H12]; · iexact H12
      iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexact H7

set_option maxHeartbeats 4800000 in
theorem sound1_C (c : Dev nD) (t : Fin cfg1.N) (h : t.val = 8) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5]
  rw [show (dat1 W c).owesAt () t.succ = (dat1 W c).owesAt () t.castSucc from rfl, leaves1_0, leaves1_1, leaves1_2, leaves1_3, leaves1_4, leaves1_5]
  rw [show (dat1 W c).Φ t.succ = iprop(scr1 W c (t.val + 1) ∗ rest1 c) from rfl, show (dat1 W c).Φ t.castSucc = iprop(scr1 W c t.val ∗ rest1 c) from rfl]
  rw [scr1_pos W c (t.val + 1) (Nat.succ_ne_zero _)]
  have hN : t.val < 90 := lt_of_lt_of_eq t.isLt (show cfg1.N = 90 from N_1)
  have hc0 : ¬cond1_0 (grid1.coords t) := fun hh => by have := (hcond1_0 t).mp hh; omega
  have hc1 : cond1_1 (grid1.coords t) := (hcond1_1 t).mpr (by omega)
  have hc2 : ¬cond1_2 (grid1.coords t) := fun hh => by have := (hcond1_2 t).mp hh; omega
  have hc3 : cond1_3 (grid1.coords t) := (hcond1_3 t).mpr (by omega)
  rw [scr1_pos W c t.val (by omega)]
  rw [leaves1_6 W c t hc3]
  rw [leaves1_7 W c t (by omega) hc1]
  rw [acc1_later W c t (by omega)]
  rw [← ld_early W c t hc1 (by omega) (k1_off2_inb (grid1.coords t))]
  iintro ⟨⟨⟨⟨%codes, %hg, H10⟩, H11, H12, H13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1_C c (grid1.coords t) _ _ _ _ _ _ _ _ _ _ _ _ _ _ _ _ _ _ _ _ _ _ _ _ hc0 hc1 hc2 hc3 (iblk1 W c 0 t) (iblk1 W c 1 t) (iblk1 W c 2 t) (iblk1 W c 3 t) (iblk1 W c 4 t) (iblk1 W c 5 t) codes (acc1 W c t.val) (sB W c) (invB W c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H10]; · iexact H10
  isplitl [H11]; · iexact H11
  isplitl [H12]; · iexact H12
  isplitl [H13]; · iexact H13
  iintro ⟨H0, H1, H2, H3, H4, H5, H6, H7, H10, H11, H12, H13⟩
  isplitl [H10 H11 H12 H13 Hg]
  · isplitl [H10 H11 H12 H13]
    · isplitl [H10]
      · iexists _; isplitr
        · ipureintro; exact good_put W c t hc1 (by omega) codes (fun hh => hg)
        iexact H10
      isplitl [H11]; · iexact H11
      isplitl [H12]; · iexact H12
      iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4800000 in
theorem sound1_D (c : Dev nD) (t : Fin cfg1.N) (h : 9 ≤ t.val) (hk : t.val % 9 = 0) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5]
  rw [show (dat1 W c).owesAt () t.succ = (dat1 W c).owesAt () t.castSucc from rfl, leaves1_0, leaves1_1, leaves1_2, leaves1_3, leaves1_4, leaves1_5]
  rw [show (dat1 W c).Φ t.succ = iprop(scr1 W c (t.val + 1) ∗ rest1 c) from rfl, show (dat1 W c).Φ t.castSucc = iprop(scr1 W c t.val ∗ rest1 c) from rfl]
  rw [scr1_pos W c (t.val + 1) (Nat.succ_ne_zero _)]
  have hN : t.val < 90 := lt_of_lt_of_eq t.isLt (show cfg1.N = 90 from N_1)
  have hc0 : ¬cond1_0 (grid1.coords t) := fun hh => by have := (hcond1_0 t).mp hh; omega
  have hc1 : ¬cond1_1 (grid1.coords t) := fun hh => by have := (hcond1_1 t).mp hh; omega
  have hc2 : cond1_2 (grid1.coords t) := (hcond1_2 t).mpr (by omega)
  have hc3 : ¬cond1_3 (grid1.coords t) := fun hh => by have := (hcond1_3 t).mp hh; omega
  rw [scr1_pos W c t.val (by omega)]
  rw [Dat.leavesExact_idle (dat1 W c) 6 t (idleAt1_6 t hc3) (noFlush1_6 t hc3)]
  rw [acc1_first W c t (by omega)]
  simp only [before1_7 W c t h]
  iintro ⟨⟨⟨⟨%codes, %hg, H10⟩, H11, H12, H13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← ld_late W c t h codes hg (k1_off2_inb (grid1.coords t))]
  iapply (run1_D c (grid1.coords t) _ _ _ _ _ _ _ _ _ _ _ _ _ _ _ _ _ _ _ _ _ _ _ _ hc0 hc1 hc2 hc3 (iblk1 W c 0 t) (iblk1 W c 1 t) (iblk1 W c 2 t) (iblk1 W c 3 t) (iblk1 W c 4 t) (iblk1 W c 5 t) _ (qk W c 8) codes (sB W c) (invB W c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexists _; iexact H11
  isplitl [H12]; · iexact H12
  isplitl [H13]; · iexact H13
  iintro ⟨H0, H1, H2, H3, H4, H5, H6, H7, H10, H11, H12, H13⟩
  isplitl [H10 H11 H12 H13 Hg]
  · isplitl [H10 H11 H12 H13]
    · isplitl [H10]
      · iexists _; isplitr
        · ipureintro; exact good_late W c t.val h codes hg
        iexact H10
      isplitl [H11]; · iexact H11
      isplitl [H12]; · iexact H12
      iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iapply (leaves1_7_late W c t h (idleAt1_7 t hc1)) $$ H7

set_option maxHeartbeats 4800000 in
theorem sound1_G (c : Dev nD) (t : Fin cfg1.N) (h : 9 ≤ t.val) (hk : t.val % 9 ≠ 0) (hk8 : t.val % 9 ≠ 8) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5]
  rw [show (dat1 W c).owesAt () t.succ = (dat1 W c).owesAt () t.castSucc from rfl, leaves1_0, leaves1_1, leaves1_2, leaves1_3, leaves1_4, leaves1_5]
  rw [show (dat1 W c).Φ t.succ = iprop(scr1 W c (t.val + 1) ∗ rest1 c) from rfl, show (dat1 W c).Φ t.castSucc = iprop(scr1 W c t.val ∗ rest1 c) from rfl]
  rw [scr1_pos W c (t.val + 1) (Nat.succ_ne_zero _)]
  have hN : t.val < 90 := lt_of_lt_of_eq t.isLt (show cfg1.N = 90 from N_1)
  have hc0 : ¬cond1_0 (grid1.coords t) := fun hh => by have := (hcond1_0 t).mp hh; omega
  have hc1 : ¬cond1_1 (grid1.coords t) := fun hh => by have := (hcond1_1 t).mp hh; omega
  have hc2 : ¬cond1_2 (grid1.coords t) := fun hh => by have := (hcond1_2 t).mp hh; omega
  have hc3 : ¬cond1_3 (grid1.coords t) := fun hh => by have := (hcond1_3 t).mp hh; omega
  rw [scr1_pos W c t.val (by omega)]
  rw [Dat.leavesExact_idle (dat1 W c) 6 t (idleAt1_6 t hc3) (noFlush1_6 t hc3)]
  rw [acc1_later W c t (by omega)]
  simp only [before1_7 W c t h]
  iintro ⟨⟨⟨⟨%codes, %hg, H10⟩, H11, H12, H13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← ld_late W c t h codes hg (k1_off2_inb (grid1.coords t))]
  iapply (run1_G c (grid1.coords t) _ _ _ _ _ _ _ _ _ _ _ _ _ _ _ _ _ _ _ _ _ _ _ _ hc0 hc1 hc2 hc3 (iblk1 W c 0 t) (iblk1 W c 1 t) (iblk1 W c 2 t) (iblk1 W c 3 t) (iblk1 W c 4 t) (iblk1 W c 5 t) _ (qk W c 8) codes (acc1 W c t.val) (sB W c) (invB W c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [H13]; · iexact H13
  iintro ⟨H0, H1, H2, H3, H4, H5, H6, H7, H10, H11, H12, H13⟩
  isplitl [H10 H11 H12 H13 Hg]
  · isplitl [H10 H11 H12 H13]
    · isplitl [H10]
      · iexists _; isplitr
        · ipureintro; exact good_late W c t.val h codes hg
        iexact H10
      isplitl [H11]; · iexact H11
      isplitl [H12]; · iexact H12
      iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iapply (leaves1_7_late W c t h (idleAt1_7 t hc1)) $$ H7

set_option maxHeartbeats 4800000 in
theorem sound1_H (c : Dev nD) (t : Fin cfg1.N) (h : 9 ≤ t.val) (hk : t.val % 9 = 8) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5]
  rw [show (dat1 W c).owesAt () t.succ = (dat1 W c).owesAt () t.castSucc from rfl, leaves1_0, leaves1_1, leaves1_2, leaves1_3, leaves1_4, leaves1_5]
  rw [show (dat1 W c).Φ t.succ = iprop(scr1 W c (t.val + 1) ∗ rest1 c) from rfl, show (dat1 W c).Φ t.castSucc = iprop(scr1 W c t.val ∗ rest1 c) from rfl]
  rw [scr1_pos W c (t.val + 1) (Nat.succ_ne_zero _)]
  have hN : t.val < 90 := lt_of_lt_of_eq t.isLt (show cfg1.N = 90 from N_1)
  have hc0 : ¬cond1_0 (grid1.coords t) := fun hh => by have := (hcond1_0 t).mp hh; omega
  have hc1 : ¬cond1_1 (grid1.coords t) := fun hh => by have := (hcond1_1 t).mp hh; omega
  have hc2 : ¬cond1_2 (grid1.coords t) := fun hh => by have := (hcond1_2 t).mp hh; omega
  have hc3 : cond1_3 (grid1.coords t) := (hcond1_3 t).mpr (by omega)
  rw [scr1_pos W c t.val (by omega)]
  rw [leaves1_6 W c t hc3]
  rw [acc1_later W c t (by omega)]
  simp only [before1_7 W c t h]
  iintro ⟨⟨⟨⟨%codes, %hg, H10⟩, H11, H12, H13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← ld_late W c t h codes hg (k1_off2_inb (grid1.coords t))]
  iapply (run1_H c (grid1.coords t) _ _ _ _ _ _ _ _ _ _ _ _ _ _ _ _ _ _ _ _ _ _ _ _ hc0 hc1 hc2 hc3 (iblk1 W c 0 t) (iblk1 W c 1 t) (iblk1 W c 2 t) (iblk1 W c 3 t) (iblk1 W c 4 t) (iblk1 W c 5 t) (qk W c 8) codes (acc1 W c t.val) (sB W c) (invB W c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H10]; · iexact H10
  isplitl [H11]; · iexact H11
  isplitl [H12]; · iexact H12
  isplitl [H13]; · iexact H13
  iintro ⟨H0, H1, H2, H3, H4, H5, H6, H7, H10, H11, H12, H13⟩
  isplitl [H10 H11 H12 H13 Hg]
  · isplitl [H10 H11 H12 H13]
    · isplitl [H10]
      · iexists _; isplitr
        · ipureintro; exact good_late W c t.val h codes hg
        iexact H10
      isplitl [H11]; · iexact H11
      isplitl [H12]; · iexact H12
      iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves1_7_late W c t h (idleAt1_7 t hc1)) $$ H7

/-- The body at any point. -/
theorem sound_body1 (c : Dev nD) (t : Fin cfg1.N) :
    bodyPre1 W c t ⊢ wp frame (wpE (defs₀ (F := F)) Variants.none c none) Set.univ (bodyAt1 t) (fun _ => bodyPost1 W c t) := by
  by_cases h9 : 9 ≤ t.val
  · by_cases hk : t.val % 9 = 0
    · exact sound1_D W c t h9 hk
    · by_cases hk8 : t.val % 9 = 8
      · exact sound1_H W c t h9 hk8
      · exact sound1_G W c t h9 hk hk8
  · by_cases h0 : t.val = 0
    · exact sound1_A W c t h0
    · by_cases h8 : t.val < 8
      · exact sound1_B W c t h0 h8
      · exact sound1_C W c t (by omega)

theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

theorem hin1 (c : Dev nD) : iprop(Pipeline.scopedRest spec1 c ∗ emp) ⊢ (dat1 W c).Φ 0 := by
  rw [show (dat1 W c).Φ 0 = iprop(scr1 W c 0 ∗ rest1 c) from rfl, scr1_zero, scopedRest1_eq]
  simp only [scM1_0, scM1_1, scM1_2, scM1_3, owns_whole, rest1]
  iintro ⟨⟨G0, G1, G2, G3, G4, G5, G6, G7, G8, H0, H1, H2, H3⟩, -⟩
  isplitl [H0 H1 H2 H3]
  · isplitl [H0]; · iexact H0
    isplitl [H1]; · iexact H1
    isplitl [H2]; · iexact H2
    iexact H3
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iexact G8

theorem hout1 (c : Dev nD) : (dat1 W c).Φ (Fin.last cfg1.N) ⊢ iprop(Pipeline.scopedRest spec1 c ∗ emp) := by
  rw [show (dat1 W c).Φ (Fin.last cfg1.N) = iprop(scr1 W c cfg1.N ∗ rest1 c) from rfl,
    scr1_pos W c cfg1.N (by rw [show cfg1.N = 90 from N_1]; omega), scopedRest1_eq]
  simp only [scM1_0, scM1_1, scM1_2, scM1_3, owns_whole, rest1]
  iintro ⟨⟨⟨%codes, -, H0⟩, H1, H2, H3⟩, G0, G1, G2, G3, G4, G5, G6, G7, G8⟩
  isplitl
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [H0]; · iexists _; iexact H0
    isplitl [H1]; · iexists _; iexact H1
    isplitl [H2]; · iexists _; iexact H2
    iexists _; iexact H3
  iempintro

end Cert.Kernel.Own

end
-- ==== Proof.P.Run.lean ====
module

public import proofs.«01_k».proof.Proof.P.Data0
public import proofs.«01_k».proof.Proof.P.Body1
public import proofs.«01_k».proof.Proof.Gen.Kernel.Regions
public import Idealize.ShloMosaic.Lib.Pipeline.RegionArraysS

@[expose] public section

set_option maxRecDepth 16384

noncomputable section

namespace Cert.Kernel.Own

open Cert.Kernel Cert.Kernel.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! # The whole program: the host operations, then the two regions

Between two items a core holds every unscoped buffer whole: at `V0` at launch, `V1` after the host operations, `U2` after
the statistics region, `U3` after the linear region. -/

variable (m : (ℓ : Loc nD τ sig) → Buf (Elt F) ℓ)

/-- Core `c`'s unscoped buffers after the statistics region. -/
def U2 (c : Dev nD) : Valuation τ sig (Elt F) := Pipeline.afterRegion (dat0 (V1 m) c) (V1 m c)
/-- Core `c`'s unscoped buffers after the linear region. -/
def U3 (c : Dev nD) : Valuation τ sig (Elt F) := Pipeline.afterRegion (dat1 (U2 m) c) (U2 m c)

/-- Both regions' proof data. -/
def pdats : (p : Fin 2) → (c : Dev nD) → Dat τ (Elt F) Unit ℕ (UR sig nD τ) ℕ (cfgs p) c
  | ⟨0, _⟩, c => dat0 (V1 m) c
  | ⟨1, _⟩, c => dat1 (U2 m) c

/-- No waiting order is needed: one index at each TensorCore cell, at level zero. -/
def LL : GSem nD τ sig → Finset Unit := fun g => if g.1.2 = .tc then {()} else ∅
def lvl : GSem nD τ sig → Unit → ℕ := fun _ _ => 0

theorem LL_off (g : GSem nD τ sig) (h : g.1.2 ≠ .tc) : LL g = ∅ := if_neg h

theorem cut (p : Fin 2) : Pipeline.LevelCut (pcfgs (F := F)) adm () LL lvl p (fun _ => 0) (fun _ => 0) where
  hι c w s := by rw [LL, if_pos rfl]; exact Finset.mem_singleton.mpr rfl
  hιb c w s := le_rfl
  hD c g i h := absurd h (lt_irrefl _)

/-- What a core holds beside its buffers. -/
def EE (c : Dev nD) : sProp 𝕄 := iprop((∃ Wd, owes (c : Thread nD τ) (0 : CellTallies nD τ sig Unit) Wd) ∗ emp ∗ emp)

/-- Region 0's segment. -/
def R0 : RegionSeg (pcfgs (F := F)) adm (pdats m) () defs₀ Variants.none LL lvl 0 :=
  Pipeline.RegionSeg.ofHeldIn (pcfgs (F := F)) adm (pdats m) () defs₀ Variants.none LL lvl 0 (fun _ => 0) (Pipeline.ucRefs τ sig)
    (fun _ => iprop(emp)) (fun _ => iprop(emp)) launch0.toP rfl (fun c => (body_obligation0 (V1 m) c).loose) (fun _ _ => rfl) (fun _ => rfl)
    (fun c => (dat0 (V1 m) c).share_full fun _ => rfl) (hin0 (V1 m)) (hout0 (V1 m)) (fun _ => 0) (cut 0) (fun _ => iprop(emp)) (V1 m) (fun c w => A0_eq (V1 m) c w)

theorem unscoped0 : ∀ w : Fin cfg0.W, (Pipeline.arrRef spec0 w).isScoped = false := by decide
theorem sub0 : Pipeline.arrRefs (τ := τ) (pcfgs (F := F) 0).spec ⊆ Pipeline.ucRefs τ sig :=
  Pipeline.arrRefs_sub_ucRefs (pcfgs (F := F) 0).spec fun w => unscoped0 w

theorem pre0 (c : Dev nD) : iprop(StableHlo.held (c : Thread nD τ) (Pipeline.ucRefs τ sig) (V1 m c) ∗ EE c) ⊢ (R0 m).pre c := by
  unfold R0 EE
  exact Pipeline.RegionSeg.ofHeldIn_pre (W := (V1 m)) (R := fun _ => iprop(emp)) (X := fun _ => iprop(emp)) (D := fun _ => 0) sub0 c
theorem post0 (c : Dev nD) : (R0 m).post c ⊢ iprop(StableHlo.held (c : Thread nD τ) (Pipeline.ucRefs τ sig) (U2 m c) ∗ EE c) := by
  unfold R0 EE U2
  exact Pipeline.RegionSeg.ofHeldIn_post (W := (V1 m)) (R := fun _ => iprop(emp)) (Y := fun _ => iprop(emp)) (D := fun _ => 0) sub0 c

/-- Region 1's segment. -/
def R1 : RegionSeg (pcfgs (F := F)) adm (pdats m) () defs₀ Variants.none LL lvl 1 :=
  Pipeline.RegionSeg.ofHeldIn (pcfgs (F := F)) adm (pdats m) () defs₀ Variants.none LL lvl 1 (fun _ => 0) (Pipeline.ucRefs τ sig)
    (fun _ => iprop(emp)) (fun _ => iprop(emp)) launch1.toP rfl (fun c => (body_obligation1 (U2 m) c).loose) (fun _ _ => rfl) (fun _ => rfl)
    (fun c => (dat1 (U2 m) c).share_full fun _ => rfl) (hin1 (U2 m)) (hout1 (U2 m)) (fun _ => 0) (cut 1) (fun _ => iprop(emp)) (U2 m) (fun c w => A1_eq (U2 m) c w)

theorem unscoped1 : ∀ w : Fin cfg1.W, (Pipeline.arrRef spec1 w).isScoped = false := by decide
theorem sub1 : Pipeline.arrRefs (τ := τ) (pcfgs (F := F) 1).spec ⊆ Pipeline.ucRefs τ sig :=
  Pipeline.arrRefs_sub_ucRefs (pcfgs (F := F) 1).spec fun w => unscoped1 w

theorem pre1 (c : Dev nD) : iprop(StableHlo.held (c : Thread nD τ) (Pipeline.ucRefs τ sig) (U2 m c) ∗ EE c) ⊢ (R1 m).pre c := by
  unfold R1 EE
  exact Pipeline.RegionSeg.ofHeldIn_pre (W := (U2 m)) (R := fun _ => iprop(emp)) (X := fun _ => iprop(emp)) (D := fun _ => 0) sub1 c
theorem post1 (c : Dev nD) : (R1 m).post c ⊢ iprop(StableHlo.held (c : Thread nD τ) (Pipeline.ucRefs τ sig) (U3 m c) ∗ EE c) := by
  unfold R1 EE U3
  exact Pipeline.RegionSeg.ofHeldIn_post (W := (U2 m)) (R := fun _ => iprop(emp)) (Y := fun _ => iprop(emp)) (D := fun _ => 0) sub1 c

theorem EE_done (c : Dev nD) : EE c ⊢ (iprop(∃ Wd, owes (c : Thread nD τ) (0 : CellTallies nD τ sig Unit) Wd) : sProp 𝕄) := by
  unfold EE; iintro ⟨H, -⟩; iexact H

/-! ## What each item leaves unchanged -/

theorem U2_keeps (c : Dev nD) (r : Ref sig .tc) (h : ∀ w, Pipeline.arrRef spec0 w = r → (cfg0.win w).isOut = false) :
    U2 m c (Proc.devRef .tc r) = V1 m c (Proc.devRef .tc r) :=
  Pipeline.afterRegion_keeps (dat0 (V1 m) c) (V1 m c) winFacts0.arr_inj (A0_eq (V1 m) c) r h
theorem U3_keeps (c : Dev nD) (r : Ref sig .tc) (h : ∀ w, Pipeline.arrRef spec1 w = r → (cfg1.win w).isOut = false) :
    U3 m c (Proc.devRef .tc r) = U2 m c (Proc.devRef .tc r) :=
  Pipeline.afterRegion_keeps (dat1 (U2 m) c) (U2 m c) winFacts1.arr_inj (A1_eq (U2 m) c) r h
theorem U2_arr (c : Dev nD) (w : Fin cfg0.W) : U2 m c (Proc.devRef .tc (Pipeline.arrRef spec0 w)) = (dat0 (V1 m) c).arrAt w cfg0.N :=
  Pipeline.afterRegion_arr (dat0 (V1 m) c) (V1 m c) winFacts0.arr_inj w
theorem U3_arr (c : Dev nD) (w : Fin cfg1.W) : U3 m c (Proc.devRef .tc (Pipeline.arrRef spec1 w)) = (dat1 (U2 m) c).arrAt w cfg1.N :=
  Pipeline.afterRegion_arr (dat1 (U2 m) c) (U2 m c) winFacts1.arr_inj w

theorem U3_main_arg0 (c : Dev nD) : U3 m c main_arg0 = m ((c : Thread nD τ).loc main_arg0) :=
  (U3_keeps m c main_arg0 (by decide)).trans <| (U2_keeps m c main_arg0 (by decide)).trans <| (V1_of m c main_arg0 (by decide)).trans rfl
theorem U3_main_arg1 (c : Dev nD) : U3 m c main_arg1 = m ((c : Thread nD τ).loc main_arg1) :=
  (U3_keeps m c main_arg1 (by decide)).trans <| (U2_keeps m c main_arg1 (by decide)).trans <| (V1_of m c main_arg1 (by decide)).trans rfl
theorem U3_main_arg2 (c : Dev nD) : U3 m c main_arg2 = m ((c : Thread nD τ).loc main_arg2) :=
  (U3_keeps m c main_arg2 (by decide)).trans <| (U2_keeps m c main_arg2 (by decide)).trans <| (V1_of m c main_arg2 (by decide)).trans rfl
theorem U3_main_arg3 (c : Dev nD) : U3 m c main_arg3 = m ((c : Thread nD τ).loc main_arg3) :=
  (U3_keeps m c main_arg3 (by decide)).trans <| (U2_keeps m c main_arg3 (by decide)).trans <| (V1_of m c main_arg3 (by decide)).trans rfl
theorem U3_main_arg4 (c : Dev nD) : U3 m c main_arg4 = m ((c : Thread nD τ).loc main_arg4) :=
  (U3_keeps m c main_arg4 (by decide)).trans <| (U2_keeps m c main_arg4 (by decide)).trans <| (V1_of m c main_arg4 (by decide)).trans rfl
theorem U3_main_arg5 (c : Dev nD) : U3 m c main_arg5 = m ((c : Thread nD τ).loc main_arg5) :=
  (U3_keeps m c main_arg5 (by decide)).trans <| (U2_keeps m c main_arg5 (by decide)).trans <| (V1_of m c main_arg5 (by decide)).trans rfl

/-- What the launch hands each core is what it starts from. -/
theorem start (ρ : Dev nD → PrngReg) :
    iprop((bigSep Finset.univ fun c : Dev nD => iprop(unscopedSems0 c ∗ owes (c : Thread nD τ) 0 ∅ ∗ Pipeline.launchCred 0 c ∗ prngReg c (ρ c) ∗ emp)) ∗ levAts LL lvl)
      ⊢ (|={Set.univ}=> bigSep Finset.univ EE : sProp 𝕄) := by
  refine Pipeline.initEach LL lvl fun c => ?_
  unfold EE
  iintro ⟨⟨-, Ho, -⟩, -⟩
  imodintro
  isplitl [Ho]; · iexists _; iexact Ho
  isplitl <;> iempintro

-- (the launch theorem's implicit arguments are found by unifying its conclusion with this one)
set_option backward.isDefEq.respectTransparency.types false in
/-- THE RUN: from any memory with zero counters every weakly fair execution of @main terminates, and every final state has
    each argument as launched, each result at `U3`, and every semaphore counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v5_0) = U3 m c main_v5_0
      ∧ r.2.mem ((c.tc : Thread nD τ).loc main_v6_0) = U3 m c main_v6_0
      ∧ r.2.mem ((c.tc : Thread nD τ).loc main_v6_1) = U3 m c main_v6_1)
      ∧ r.2.sem = fun _ => 0) := by
  have hu₀ : (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
    iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  refine Pipeline.θ_run_regions_kit_dev_sems (pcfgs (F := F)) adm (pdats m) () cellOf_inj emb₁ defs₀ Variants.none LL lvl m ρ main
    (segs m Variants.none LL lvl (fun _ => EE) () (pdats m) (R0 m) (R1 m))
    (fun c Q => by
      rewrite [main_chain c, Seg.run_eq_chain,
        show (segs m Variants.none LL lvl (fun _ => EE) () (pdats m) (R0 m) (R1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) 0 LL_off (fun _ => iprop(emp)) (initOf (Pipeline.cells cfgs cellOf_inj) (Pipeline.launchToks cfgs cellOf_inj)) hu₀
    (T₀ := fun c => iprop(StableHlo.held (c : Thread nD τ) (Pipeline.ucRefs τ sig) (V0 m c) ∗ EE c))
    (Tₙ := fun c => StableHlo.held (c : Thread nD τ) (Pipeline.ucRefs τ sig) (U3 m c))
    (hch := fun c => ⟨.rfl, pre0 m c, (post0 m c).trans (pre1 m c), (post1 m c).trans (sep_mono .rfl (EE_done c))⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_v5_0) = U3 m c main_v5_0 ∧ s.mem ((c.tc : Thread nD τ).loc main_v6_0) = U3 m c main_v6_0 ∧ s.mem ((c.tc : Thread nD τ).loc main_v6_1) = U3 m c main_v6_1)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) 0 ∅ ∗ Pipeline.launchCred 0 c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) 0 ∅ ∗ Pipeline.launchCred 0 c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (start ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (U3 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (U3_main_arg0 m c),
        (h (Proc.devRef .tc main_arg1) (Finset.mem_filter.mpr ⟨StableHlo.devRef_mem_tcRefs main_arg1, by decide⟩)).trans (U3_main_arg1 m c),
        (h (Proc.devRef .tc main_arg2) (Finset.mem_filter.mpr ⟨StableHlo.devRef_mem_tcRefs main_arg2, by decide⟩)).trans (U3_main_arg2 m c),
        (h (Proc.devRef .tc main_arg3) (Finset.mem_filter.mpr ⟨StableHlo.devRef_mem_tcRefs main_arg3, by decide⟩)).trans (U3_main_arg3 m c),
        (h (Proc.devRef .tc main_arg4) (Finset.mem_filter.mpr ⟨StableHlo.devRef_mem_tcRefs main_arg4, by decide⟩)).trans (U3_main_arg4 m c),
        (h (Proc.devRef .tc main_arg5) (Finset.mem_filter.mpr ⟨StableHlo.devRef_mem_tcRefs main_arg5, by decide⟩)).trans (U3_main_arg5 m c),
        h (Proc.devRef .tc main_v5_0) (Finset.mem_filter.mpr ⟨StableHlo.devRef_mem_tcRefs main_v5_0, by decide⟩),
        h (Proc.devRef .tc main_v6_0) (Finset.mem_filter.mpr ⟨StableHlo.devRef_mem_tcRefs main_v6_0, by decide⟩),
        h (Proc.devRef .tc main_v6_1) (Finset.mem_filter.mpr ⟨StableHlo.devRef_mem_tcRefs main_v6_1, by decide⟩)⟩
    · iexact HSI

/-- The frame: each argument ends as launched, every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1, (h.1 c).2.1, (h.1 c).2.2.1, (h.1 c).2.2.2.1, (h.1 c).2.2.2.2.1, (h.1 c).2.2.2.2.2.1⟩, h.2⟩) (run m ρ)

end Cert.Kernel.Own

end
-- ==== Proof.PI.Pay0.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Kit
public import Idealize.ShloMosaic.Lib.Tactic
public import Idealize.ShloMosaic.Lib.WordCmp

@[expose] public section

set_option maxRecDepth 16384

noncomputable section

namespace Cert.KernelIdeal.Own

open Cert.KernelIdeal Cert.KernelIdeal.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- One block of 128 tokens: the row of scales the kernel stores, from the block's running lane-wise maxima. -/
noncomputable def scaleBlk (a : Vec F S128x128 .bf16) : FVec F S1x128 .f32 :=
  k0_pay7 (F := F) (k0_pay5 (k0_pay3 a) (k0_pay4 a)) (k0_pay6 (k0_pay2 a))

/-- One block of 128 tokens: the shrunk activations kept at each token's own adapter. -/
noncomputable def shrinkBlk (tok : Vec F S1x128 .i32) (acc : Vec F S128x64 .f32) : FVec F S128x64 .bf16 :=
  k0_pay10 (k0_pay8 (F := F) tok) k0_pay9 acc

theorem scaleBlk0 (a : Vec F S128x128 .bf16) : k0_pay7 (F := F) (k0_pay5 (k0_pay3 a) (k0_pay4 a)) (k0_pay6 (k0_pay2 a)) = scaleBlk a := rfl
theorem scaleBlk1 (a : Vec F S128x128 .bf16) : k0_pay15 (F := F) (k0_pay11 a) (k0_pay14 (k0_pay12 a) (k0_pay13 a) 16#32) 0#32 = scaleBlk a := rfl
theorem scaleBlk2 (a : Vec F S128x128 .bf16) : k0_pay27 (F := F) (k0_pay21 a) (k0_pay22 a) (k0_pay25 (k0_pay22 a) (k0_pay23 a) k0_pay24) k0_pay26 = scaleBlk a := rfl
theorem scaleBlk3 (a : Vec F S128x128 .bf16) : k0_pay38 (F := F) (k0_pay32 a) (k0_pay33 a) (k0_pay36 (k0_pay33 a) (k0_pay34 a) (k0_pay35 a)) (k0_pay37 (k0_pay33 a) (k0_pay34 a) (k0_pay35 a)) = scaleBlk a := rfl
theorem shrinkBlk0 (tok : Vec F S1x128 .i32) (acc : Vec F S128x64 .f32) : k0_pay10 (k0_pay8 (F := F) tok) k0_pay9 acc = shrinkBlk tok acc := rfl
theorem shrinkBlk1 (tok : Vec F S1x128 .i32) (acc : Vec F S128x64 .f32) : k0_pay20 (k0_pay16 (F := F) tok) k0_pay17 k0_pay18 k0_pay19 acc = shrinkBlk tok acc := rfl
theorem shrinkBlk2 (tok : Vec F S1x128 .i32) (acc : Vec F S128x64 .f32) : k0_pay31 (k0_pay28 (F := F) tok) (iota .tc S128x64 32 [1] iota_S128x64_d1_w32) 16#32 k0_pay29 k0_pay30 acc = shrinkBlk tok acc := rfl
theorem shrinkBlk3 (tok : Vec F S1x128 .i32) (acc : Vec F S128x64 .f32) : k0_pay1 (k0_pay39 (F := F) tok) (iota .tc S128x64 32 [1] iota_S128x64_d1_w32) 16#32 acc = shrinkBlk tok acc := rfl

end Cert.KernelIdeal.Own

end
-- ==== Proof.PI.Run0.lean ====
module

public import proofs.«01_k».proof.Proof.PI.Pay0

@[expose] public section

set_option maxRecDepth 16384

noncomputable section

namespace Cert.KernelIdeal.Own

open Cert.KernelIdeal Cert.KernelIdeal.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics kernel's body, case by case -/

/-- The first branch: the first block of the contraction. -/
abbrev cond0_0 (i : grid0.Coords) : Prop := (Scalar.cmpi .ne (Scalar.extui (Scalar.cmpi .eq (BitVec.ofNat 32 (i 0).val) 0#32)) 0#32) = 1#1
/-- The second branch: the last block of the contraction. -/
abbrev cond0_1 (i : grid0.Coords) : Prop := k0_cond2 i = 1#1

/-- The row of 512 scales, from the running maxima: four blocks of 128 tokens. -/
def scaleOut (a : Vec F S512x128 .bf16) : Vec F S1x512 .f32 :=
  View.canon (Val := Elt F) (s := S1x512) (e := .f32) [
    ⟨Rect.unit (s := S1x512) ![0, 384] S1x128.size inb_S1x512_S1x128_0_384, scaleBlk (View.ld (Val := Elt F) (e' := .bf16) a (Rect.unit (s := S512x128) ![384, 0] S128x128.size inb_S512x128_S128x128_384_0))⟩,
    ⟨Rect.unit (s := S1x512) ![0, 256] S1x128.size inb_S1x512_S1x128_0_256, scaleBlk (View.ld (Val := Elt F) (e' := .bf16) a (Rect.unit (s := S512x128) ![256, 0] S128x128.size inb_S512x128_S128x128_256_0))⟩,
    ⟨Rect.unit (s := S1x512) ![0, 128] S1x128.size inb_S1x512_S1x128_0_128, scaleBlk (View.ld (Val := Elt F) (e' := .bf16) a (Rect.unit (s := S512x128) ![128, 0] S128x128.size inb_S512x128_S128x128_128_0))⟩,
    ⟨Rect.unit (s := S1x512) ![0, 0] S1x128.size inb_S1x512_S1x128_0_0, scaleBlk (View.ld (Val := Elt F) (e' := .bf16) a (Rect.unit (s := S512x128) ![0, 0] S128x128.size inb_S512x128_S128x128_0_0))⟩]

/-- The shrunk activations, each token's kept at its own adapter: four blocks of 128 tokens. -/
def shrinkOut (tok : Vec F S1x512 .i32) (acc : Vec F S512x64 .f32) : Vec F S512x64 .bf16 :=
  View.canon (Val := Elt F) (s := S512x64) (e := .bf16) [
    ⟨Rect.unit (s := S512x64) ![384, 0] S128x64.size inb_S512x64_S128x64_384_0, shrinkBlk (View.ld (Val := Elt F) (e' := .i32) tok (Rect.unit (s := S1x512) ![0, 384] S1x128.size inb_S1x512_S1x128_0_384)) (View.ld (Val := Elt F) (e' := .f32) acc (Rect.unit (s := S512x64) ![384, 0] S128x64.size inb_S512x64_S128x64_384_0))⟩,
    ⟨Rect.unit (s := S512x64) ![256, 0] S128x64.size inb_S512x64_S128x64_256_0, shrinkBlk (View.ld (Val := Elt F) (e' := .i32) tok (Rect.unit (s := S1x512) ![0, 256] S1x128.size inb_S1x512_S1x128_0_256)) (View.ld (Val := Elt F) (e' := .f32) acc (Rect.unit (s := S512x64) ![256, 0] S128x64.size inb_S512x64_S128x64_256_0))⟩,
    ⟨Rect.unit (s := S512x64) ![128, 0] S128x64.size inb_S512x64_S128x64_128_0, shrinkBlk (View.ld (Val := Elt F) (e' := .i32) tok (Rect.unit (s := S1x512) ![0, 128] S1x128.size inb_S1x512_S1x128_0_128)) (View.ld (Val := Elt F) (e' := .f32) acc (Rect.unit (s := S512x64) ![128, 0] S128x64.size inb_S512x64_S128x64_128_0))⟩,
    ⟨Rect.unit (s := S512x64) ![0, 0] S128x64.size inb_S512x64_S128x64_0_0, shrinkBlk (View.ld (Val := Elt F) (e' := .i32) tok (Rect.unit (s := S1x512) ![0, 0] S1x128.size inb_S1x512_S1x128_0_0)) (View.ld (Val := Elt F) (e' := .f32) acc (Rect.unit (s := S512x64) ![0, 0] S128x64.size inb_S512x64_S128x64_0_0))⟩]

set_option maxHeartbeats 4000000 in
/-- The first block: both accumulators are cleared, then updated; nothing is written out. -/
theorem run0_A (c : Dev nD) (i : grid0.Coords) (arg1 : Memref sig .tc .vmem S512x1024 .bf16) (harg1 : arg1.IsWhole) (arg2 : Memref sig .tc .vmem S64x1024 .bf16) (harg2 : arg2.IsWhole) (arg3 : Memref sig .tc .vmem S1x512 .i32) (harg3 : arg3.IsWhole) (arg4 : Memref sig .tc .vmem S1x512 .f32) (harg4 : arg4.IsWhole) (arg5 : Memref sig .tc .vmem S512x64 .bf16) (harg5 : arg5.IsWhole) (arg6 : Memref sig .tc .vmem S512x128 .bf16) (harg6 : arg6.IsWhole) (arg7 : Memref sig .tc .vmem S512x64 .f32) (harg7 : arg7.IsWhole) (hc0 : cond0_0 i) (hc1 : ¬cond0_1 i)
    (x0 : Vec F S512x1024 .bf16) (x1 : Vec F S64x1024 .bf16) (x2 : Vec F S1x512 .i32) (xi3 : Vec F S1x512 .f32) (xi4 : Vec F S512x64 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare (k0_pay44 x0 (k0_pay40 (F := F))) ∗ owns (c : Thread nD τ) arg7 fullShare (k0_pay43 x0 (k0_pay41 (F := F)) x1)) -∗ K ⟨⟩))
      ⊢ wp frame (wpE (defs₀ (F := F)) Variants.none c none) E (cc0_token_stats i arg1 harg1 arg2 harg2 arg3 harg3 arg4 harg4 arg5 harg5 arg6 harg6 arg7 harg7) K := by
  simp only [cc0_token_stats_eq_skeleton]; unfold cc0_token_stats_skel
  simp only [k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg1.eq_unread hf1; obtain rfl := harg2.eq_unread hf2; obtain rfl := harg3.eq_unread hf3; obtain rfl := harg4.eq_unread hf4; obtain rfl := harg5.eq_unread hf5
  sl_exec (disch := first | sl_exact hc0 | sl_exact hc1)
  sl_step
  iapply Hk
  isplitl [H1]
  · iexists _; isplitr
    swap
    · iexact H1
    ipureintro
    exact harg1.read_unread _
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    (try sl_unfold_words)
    simp (disch := decide) only [readAt_ld, readCov_top, Memref.IsWhole.read_unread, ld_top, read_top]
  iexists _; isplitr
  swap
  · iexact H7
  ipureintro
  (try sl_unfold_words)
  simp (disch := decide) only [readAt_ld, readCov_top, Memref.IsWhole.read_unread, ld_top, read_top]

set_option maxHeartbeats 4000000 in
/-- A middle block: both accumulators are updated; nothing is written out. -/
theorem run0_B (c : Dev nD) (i : grid0.Coords) (arg1 : Memref sig .tc .vmem S512x1024 .bf16) (harg1 : arg1.IsWhole) (arg2 : Memref sig .tc .vmem S64x1024 .bf16) (harg2 : arg2.IsWhole) (arg3 : Memref sig .tc .vmem S1x512 .i32) (harg3 : arg3.IsWhole) (arg4 : Memref sig .tc .vmem S1x512 .f32) (harg4 : arg4.IsWhole) (arg5 : Memref sig .tc .vmem S512x64 .bf16) (harg5 : arg5.IsWhole) (arg6 : Memref sig .tc .vmem S512x128 .bf16) (harg6 : arg6.IsWhole) (arg7 : Memref sig .tc .vmem S512x64 .f32) (harg7 : arg7.IsWhole) (hc0 : ¬cond0_0 i) (hc1 : ¬cond0_1 i)
    (x0 : Vec F S512x1024 .bf16) (x1 : Vec F S64x1024 .bf16) (x2 : Vec F S1x512 .i32) (xi3 : Vec F S1x512 .f32) (xi4 : Vec F S512x64 .bf16) (s0 : Vec F S512x128 .bf16) (s1 : Vec F S512x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2 ∗ owns (c : Thread nD τ) arg4 fullShare xi3 ∗ owns (c : Thread nD τ) arg5 fullShare xi4 ∗ owns (c : Thread nD τ) arg6 fullShare (k0_pay44 x0 s0) ∗ owns (c : Thread nD τ) arg7 fullShare (k0_pay43 x0 s1 x1)) -∗ K ⟨⟩))
      ⊢ wp frame (wpE (defs₀ (F := F)) Variants.none c none) E (cc0_token_stats i arg1 harg1 arg2 harg2 arg3 harg3 arg4 harg4 arg5 harg5 arg6 harg6 arg7 harg7) K := by
  simp only [cc0_token_stats_eq_skeleton]; unfold cc0_token_stats_skel
  simp only [k0_part13_eq_skeleton]
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, Hk⟩
  obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7
  sl_exec (disch := first | sl_exact hc0 | sl_exact hc1)
  sl_step
  iapply Hk
  isplitl [H1]
  · iexists _; isplitr
    swap
    · iexact H1
    ipureintro
    exact harg1.read_unread _
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    (try sl_unfold_words)
    simp (disch := decide) only [readAt_ld, readCov_top, Memref.IsWhole.read_unread, ld_top, read_top]
  iexists _; isplitr
  swap
  · iexact H7
  ipureintro
  (try sl_unfold_words)
  simp (disch := decide) only [readAt_ld, readCov_top, Memref.IsWhole.read_unread, ld_top, read_top]

end Cert.KernelIdeal.Own

end
-- ==== Proof.PI.Run0C.lean ====
module

public import proofs.«01_k».proof.Proof.PI.Run0

@[expose] public section

set_option maxRecDepth 16384

noncomputable section

namespace Cert.KernelIdeal.Own

open Cert.KernelIdeal Cert.KernelIdeal.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The last block: both accumulators are updated, then the scales and the selected activations are written out. -/
theorem run0_C (c : Dev nD) (i : grid0.Coords) (arg1 : Memref sig .tc .vmem S512x1024 .bf16) (harg1 : arg1.IsWhole) (arg2 : Memref sig .tc .vmem S64x1024 .bf16) (harg2 : arg2.IsWhole) (arg3 : Memref sig .tc .vmem S1x512 .i32) (harg3 : arg3.IsWhole) (arg4 : Memref sig .tc .vmem S1x512 .f32) (harg4 : arg4.IsWhole) (arg5 : Memref sig .tc .vmem S512x64 .bf16) (harg5 : arg5.IsWhole) (arg6 : Memref sig .tc .vmem S512x128 .bf16) (harg6 : arg6.IsWhole) (arg7 : Memref sig .tc .vmem S512x64 .f32) (harg7 : arg7.IsWhole) (hc0 : ¬cond0_0 i) (hc1 : cond0_1 i)
    (x0 : Vec F S512x1024 .bf16) (x1 : Vec F S64x1024 .bf16) (x2 : Vec F S1x512 .i32) (s0 : Vec F S512x128 .bf16) (s1 : Vec F S512x64 .f32) (E : Set ℕ) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d) ∗ owns (c : Thread nD τ) arg6 fullShare s0 ∗ owns (c : Thread nD τ) arg7 fullShare s1
        ∗ (iprop(owns (c : Thread nD τ) arg1 fullShare x0 ∗ owns (c : Thread nD τ) arg2 fullShare x1 ∗ owns (c : Thread nD τ) arg3 fullShare x2 ∗ owns (c : Thread nD τ) arg4 fullShare (scaleOut (k0_pay44 x0 s0)) ∗ owns (c : Thread nD τ) arg5 fullShare (shrinkOut x2 (k0_pay43 x0 s1 x1)) ∗ owns (c : Thread nD τ) arg6 fullShare (k0_pay44 x0 s0) ∗ owns (c : Thread nD τ) arg7 fullShare (k0_pay43 x0 s1 x1)) -∗ K ⟨⟩))
      ⊢ wp frame (wpE (defs₀ (F := F)) Variants.none c none) E (cc0_token_stats i arg1 harg1 arg2 harg2 arg3 harg3 arg4 harg4 arg5 harg5 arg6 harg6 arg7 harg7) K := by
  simp only [cc0_token_stats_eq_skeleton]; unfold cc0_token_stats_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
  unfold owns
  iintro ⟨⟨%f1, %hf1, H1⟩, ⟨%f2, %hf2, H2⟩, ⟨%f3, %hf3, H3⟩, ⟨%d4, %f4, -, H4⟩, ⟨%d5, %f5, -, H5⟩, ⟨%f6, %hf6, H6⟩, ⟨%f7, %hf7, H7⟩, Hk⟩
  obtain rfl := harg1.eq_unread hf1; obtain rfl := harg2.eq_unread hf2; obtain rfl := harg3.eq_unread hf3; obtain rfl := harg6.eq_unread hf6; obtain rfl := harg7.eq_unread hf7
  sl_exec (disch := first | sl_exact hc0 | sl_exact hc1)
  sl_step
  iapply Hk
  isplitl [H1]
  · iexists _; isplitr
    swap
    · iexact H1
    ipureintro
    exact harg1.read_unread _
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    refine (View.read_writes_eq_canon _ _ _ (View.cover_of_tiledL _ ![1, 128] (by sl_kernel_rfl))).trans ?_
    sl_unfold_words
    simp (disch := decide) only [readAt_ld, readCov_top, Memref.IsWhole.read_unread, ld_top, read_top]
    exact canon4 (scaleBlk3 _) (scaleBlk2 _) (scaleBlk1 _) (scaleBlk0 _)
  isplitl [H5]
  · iexists _; isplitr
    swap
    · iexact H5
    ipureintro
    refine (View.read_writes_eq_canon _ _ _ (View.cover_of_tiledL _ ![128, 64] (by sl_kernel_rfl))).trans ?_
    sl_unfold_words
    simp (disch := decide) only [readAt_ld, readCov_top, Memref.IsWhole.read_unread, ld_top, read_top]
    exact canon4 (shrinkBlk3 _ _) (shrinkBlk2 _ _) (shrinkBlk1 _ _) (shrinkBlk0 _ _)
  isplitl [H6]
  · iexists _; isplitr
    swap
    · iexact H6
    ipureintro
    (try sl_unfold_words)
    simp (disch := decide) only [readAt_ld, readCov_top, Memref.IsWhole.read_unread, ld_top, read_top]
  iexists _; isplitr
  swap
  · iexact H7
  ipureintro
  (try sl_unfold_words)
  simp (disch := decide) only [readAt_ld, readCov_top, Memref.IsWhole.read_unread, ld_top, read_top]

end Cert.KernelIdeal.Own

end
-- ==== Proof.PI.Data0.lean ====
module

public import proofs.«01_k».proof.Proof.PI.Run0C
public import Idealize.ShloMosaic.Lib.Pipeline.FrameBody

@[expose] public section

set_option maxRecDepth 16384

noncomputable section

namespace Cert.KernelIdeal.Own

open Cert.KernelIdeal Cert.KernelIdeal.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The token statistics region: its proof data -/

variable (W : Dev nD → Valuation τ sig (Elt F))

/-- Window `w`'s block at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- Point number `n` (wrapped round). -/
def pt0 (n : ℕ) : Fin cfg0.N := ⟨n % 27, lt_of_lt_of_eq (Nat.mod_lt _ (by omega)) (show 27 = cfg0.N from N_0.symm)⟩

theorem pt0_val (t : Fin cfg0.N) : pt0 t.val = t :=
  Fin.ext (Nat.mod_eq_of_lt (lt_of_lt_of_eq t.isLt (show cfg0.N = 27 from N_0)))

/-- What the two scratch buffers hold after `n` points: the running maxima, and the running product. -/
def st0 (c : Dev nD) : ℕ → Vec F S512x128 .bf16 × Vec F S512x64 .f32
  | 0 => (k0_pay40, k0_pay41)
  | n + 1 => (k0_pay44 (iblk0 W c 0 (pt0 n)) (st0 c n).1, k0_pay43 (iblk0 W c 0 (pt0 n)) (st0 c n).2 (iblk0 W c 1 (pt0 n)))

theorem st0_zero (c : Dev nD) : st0 W c 0 = (k0_pay40, k0_pay41) := rfl
theorem st0_succ (c : Dev nD) (t : Fin cfg0.N) :
    st0 W c (t.val + 1) = (k0_pay44 (iblk0 W c 0 t) (st0 W c t.val).1, k0_pay43 (iblk0 W c 0 t) (st0 W c t.val).2 (iblk0 W c 1 t)) := by
  show (k0_pay44 (iblk0 W c 0 (pt0 t.val)) (st0 W c t.val).1, k0_pay43 (iblk0 W c 0 (pt0 t.val)) (st0 W c t.val).2 (iblk0 W c 1 (pt0 t.val))) = _
  rw [pt0_val]

abbrev scM0_0 : Memref sig .tc .vmem S512x128 .bf16 := Memref.whole cc0_scratch0
abbrev scM0_1 : Memref sig .tc .vmem S512x64 .f32 := Memref.whole cc0_scratch1

/-- The two scratch buffers before point `n`. -/
def scr0 (c : Dev nD) : ℕ → sProp 𝕄
  | 0 => iprop((∃ d, owns (c : Thread nD τ) scM0_0 fullShare d) ∗ (∃ d, owns (c : Thread nD τ) scM0_1 fullShare d))
  | n + 1 => iprop(owns (c : Thread nD τ) scM0_0 fullShare (st0 W c (n + 1)).1 ∗ owns (c : Thread nD τ) scM0_1 fullShare (st0 W c (n + 1)).2)

/-- The other scoped buffers: the second kernel's. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f))

theorem scr0_zero (c : Dev nD) : scr0 W c 0 = iprop((∃ d, owns (c : Thread nD τ) scM0_0 fullShare d) ∗ (∃ d, owns (c : Thread nD τ) scM0_1 fullShare d)) := rfl
theorem scr0_pos (c : Dev nD) (n : ℕ) (h : n ≠ 0) :
    scr0 W c n = iprop(owns (c : Thread nD τ) scM0_0 fullShare (st0 W c n).1 ∗ owns (c : Thread nD τ) scM0_1 fullShare (st0 W c n).2) := by
  cases n with
  | zero => exact absurd rfl h
  | succ n => rfl

/-- The region's proof data: the arrays as `W` has them; each input's buffer keeps its block; the two outputs hold, after
    the last point, the scales and the product; between points the two scratch buffers hold `st0`. -/
def dat0 (c : Dev nD) : Dat τ (Elt F) Unit ℕ (UR sig nD τ) ℕ cfg0 c where
  A w := W c (Proc.devRef .tc (Pipeline.arrRef spec0 w))
  after w t := match w with
    | ⟨0, _⟩ => iblk0 W c 0 t
    | ⟨1, _⟩ => iblk0 W c 1 t
    | ⟨2, _⟩ => iblk0 W c 2 t
    | ⟨3, _⟩ => scaleOut (st0 W c (t.val + 1)).1
    | ⟨4, _⟩ => shrinkOut (iblk0 W c 2 t) (st0 W c (t.val + 1)).2
  Φ t := iprop(scr0 W c t.val ∗ rest0 c)
  q _ := fullShare
  owed _ := 0

theorem A0_eq (c : Dev nD) (w : Fin cfg0.W) : (dat0 W c).A w = W c (Proc.devRef .tc (Pipeline.arrRef spec0 w)) := by
  dsimp only [dat0]
theorem after0_0 (c : Dev nD) (t : Fin cfg0.N) : (dat0 W c).after 0 t = iblk0 W c 0 t := by dsimp only [dat0]
theorem after0_1 (c : Dev nD) (t : Fin cfg0.N) : (dat0 W c).after 1 t = iblk0 W c 1 t := by dsimp only [dat0]
theorem after0_2 (c : Dev nD) (t : Fin cfg0.N) : (dat0 W c).after 2 t = iblk0 W c 2 t := by dsimp only [dat0]
theorem after0_3 (c : Dev nD) (t : Fin cfg0.N) : (dat0 W c).after 3 t = scaleOut (st0 W c (t.val + 1)).1 := by dsimp only [dat0]
theorem after0_4 (c : Dev nD) (t : Fin cfg0.N) : (dat0 W c).after 4 t = shrinkOut (iblk0 W c 2 t) (st0 W c (t.val + 1)).2 := by dsimp only [dat0]
theorem before0_0 (c : Dev nD) (t : Fin cfg0.N) (d) : (dat0 W c).before 0 t d = iblk0 W c 0 t :=
  ((dat0 W c).before_in_eq_fetched 0 rfl (fun _ => rfl) (fun _ _ _ => rfl) (fun t => by rw [after0_0]; unfold Dat.blockOf iblk0; rw [A0_eq]; try rfl) t d).trans
    (by unfold Dat.fetched Dat.blockOf iblk0; rw [A0_eq]; try rfl)
theorem before0_1 (c : Dev nD) (t : Fin cfg0.N) (d) : (dat0 W c).before 1 t d = iblk0 W c 1 t :=
  ((dat0 W c).before_in_eq_fetched 1 rfl (fun _ => rfl) (fun _ _ _ => rfl) (fun t => by rw [after0_1]; unfold Dat.blockOf iblk0; rw [A0_eq]; try rfl) t d).trans
    (by unfold Dat.fetched Dat.blockOf iblk0; rw [A0_eq]; try rfl)
theorem before0_2 (c : Dev nD) (t : Fin cfg0.N) (d) : (dat0 W c).before 2 t d = iblk0 W c 2 t :=
  ((dat0 W c).before_in_eq_fetched 2 rfl (fun _ => rfl) (fun _ _ _ => rfl) (fun t => by rw [after0_2]; unfold Dat.blockOf iblk0; rw [A0_eq]; try rfl) t d).trans
    (by unfold Dat.fetched Dat.blockOf iblk0; rw [A0_eq]; try rfl)

/-! ## Where the branches are taken, where the outputs are idle -/

theorem hcond0_0 : ∀ t : Fin cfg0.N, cond0_0 (grid0.coords t) ↔ t.val % 27 = 0 :=
  (fun t => by
    have ht : t.val < 27 := Nat.lt_of_lt_of_eq t.isLt N_0
    have e0 : (grid0.coords t 0).val = t.val / 1 % 27 := Pipeline.Grid.coords_val t 0 (by decide) rfl
    simp only [cond0_0, e0]
    word_cmp
   : ∀ t : Fin grid0.N, cond0_0 (grid0.coords t) ↔ t.val % 27 = 0)
theorem hcond0_1 : ∀ t : Fin cfg0.N, cond0_1 (grid0.coords t) ↔ t.val % 27 = 26 :=
  (fun t => by
    have ht : t.val < 27 := Nat.lt_of_lt_of_eq t.isLt N_0
    have e0 : (grid0.coords t 0).val = t.val / 1 % 27 := Pipeline.Grid.coords_val t 0 (by decide) rfl
    simp only [cond0_1, k0_cond2, e0]
    word_cmp
   : ∀ t : Fin grid0.N, cond0_1 (grid0.coords t) ↔ t.val % 27 = 26)
theorem idleAt0_3 : ∀ t : Fin cfg0.N, ¬cond0_1 (grid0.coords t) → cfg0.idle 3 (grid0.coords t) = true := by decide +kernel
theorem noFlush0_3 : ∀ t : Fin cfg0.N, ¬cond0_1 (grid0.coords t) → (cfg0.win 3).flush t = false := by decide +kernel
theorem liveAt0_3 : ∀ t : Fin cfg0.N, cond0_1 (grid0.coords t) → cfg0.idle 3 (grid0.coords t) = false := by decide +kernel
theorem idleAt0_4 : ∀ t : Fin cfg0.N, ¬cond0_1 (grid0.coords t) → cfg0.idle 4 (grid0.coords t) = true := by decide +kernel
theorem noFlush0_4 : ∀ t : Fin cfg0.N, ¬cond0_1 (grid0.coords t) → (cfg0.win 4).flush t = false := by decide +kernel
theorem liveAt0_4 : ∀ t : Fin cfg0.N, cond0_1 (grid0.coords t) → cfg0.idle 4 (grid0.coords t) = false := by decide +kernel

/-! ## The body at a point -/

abbrev stg0 (w : Fin cfg0.W) (t : Fin cfg0.N) := (cfg0.win w).stage (cfg0.slots t w)

def bodyPre0 (c : Dev nD) (t : Fin cfg0.N) : sProp 𝕄 :=
  iprop((dat0 W c).Φ t.castSucc ∗ (dat0 W c).owesAt () t.castSucc
    ∗ (∃ d, owns (c : Thread nD τ) (stg0 0 t) fullShare ((dat0 W c).before 0 t d))
    ∗ (∃ d, owns (c : Thread nD τ) (stg0 1 t) fullShare ((dat0 W c).before 1 t d))
    ∗ (∃ d, owns (c : Thread nD τ) (stg0 2 t) fullShare ((dat0 W c).before 2 t d))
    ∗ (∃ d, owns (c : Thread nD τ) (stg0 3 t) fullShare ((dat0 W c).before 3 t d))
    ∗ (∃ d, owns (c : Thread nD τ) (stg0 4 t) fullShare ((dat0 W c).before 4 t d)))

def bodyPost0 (c : Dev nD) (t : Fin cfg0.N) : sProp 𝕄 :=
  iprop((dat0 W c).Φ t.succ ∗ (dat0 W c).owesAt () t.succ
    ∗ (dat0 W c).leavesExact 0 t ∗ (dat0 W c).leavesExact 1 t ∗ (dat0 W c).leavesExact 2 t ∗ (dat0 W c).leavesExact 3 t ∗ (dat0 W c).leavesExact 4 t)

theorem leaves0_0 (c : Dev nD) (t : Fin cfg0.N) : (dat0 W c).leavesExact 0 t = owns (c : Thread nD τ) (stg0 0 t) fullShare (iblk0 W c 0 t) := by
  unfold Dat.leavesExact; rw [show cfg0.idle 0 (cfg0.grid.coords t) = false from rfl, after0_0]
theorem leaves0_1 (c : Dev nD) (t : Fin cfg0.N) : (dat0 W c).leavesExact 1 t = owns (c : Thread nD τ) (stg0 1 t) fullShare (iblk0 W c 1 t) := by
  unfold Dat.leavesExact; rw [show cfg0.idle 1 (cfg0.grid.coords t) = false from rfl, after0_1]
theorem leaves0_2 (c : Dev nD) (t : Fin cfg0.N) : (dat0 W c).leavesExact 2 t = owns (c : Thread nD τ) (stg0 2 t) fullShare (iblk0 W c 2 t) := by
  unfold Dat.leavesExact; rw [show cfg0.idle 2 (cfg0.grid.coords t) = false from rfl, after0_2]

set_option maxHeartbeats 4800000 in
/-- The body at any point. -/
theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2]
  rw [show (dat0 W c).owesAt () t.succ = (dat0 W c).owesAt () t.castSucc from rfl, leaves0_0, leaves0_1, leaves0_2]
  rw [show (dat0 W c).Φ t.succ = iprop(scr0 W c (t.val + 1) ∗ rest0 c) from rfl, show (dat0 W c).Φ t.castSucc = iprop(scr0 W c t.val ∗ rest0 c) from rfl]
  rw [scr0_pos W c (t.val + 1) (Nat.succ_ne_zero _), st0_succ W c t]
  have hN : t.val < 27 := lt_of_lt_of_eq t.isLt (show cfg0.N = 27 from N_0)
  by_cases h1 : t.val % 27 = 26
  · have hz : t.val ≠ 0 := by omega
    have hc0 : ¬cond0_0 (grid0.coords t) := fun h => by have := (hcond0_0 t).mp h; omega
    have hc1 : cond0_1 (grid0.coords t) := (hcond0_1 t).mpr h1
    rw [show (dat0 W c).leavesExact 3 t = owns (c : Thread nD τ) (stg0 3 t) fullShare ((dat0 W c).after 3 t) from by
      unfold Dat.leavesExact; rw [show cfg0.idle 3 (cfg0.grid.coords t) = false from liveAt0_3 t hc1], after0_3]
    rw [show (dat0 W c).leavesExact 4 t = owns (c : Thread nD τ) (stg0 4 t) fullShare ((dat0 W c).after 4 t) from by
      unfold Dat.leavesExact; rw [show cfg0.idle 4 (cfg0.grid.coords t) = false from liveAt0_4 t hc1], after0_4, st0_succ W c t]
    rw [scr0_pos W c t.val hz]
    iintro ⟨⟨⟨HS0, HS1⟩, Hg⟩, Ho, ⟨%d0, H0⟩, ⟨%d1, H1⟩, ⟨%d2, H2⟩, ⟨%d3, H3⟩, ⟨%d4, H4⟩⟩
    iapply (run0_C c (grid0.coords t) _ _ _ _ _ _ _ _ _ _ _ _ _ _ hc0 hc1 (iblk0 W c 0 t) (iblk0 W c 1 t) (iblk0 W c 2 t) _ _ Set.univ _)
    isplitl [H0]; · iexact H0
    isplitl [H1]; · iexact H1
    isplitl [H2]; · iexact H2
    isplitl [H3]; · iexists _; iexact H3
    isplitl [H4]; · iexists _; iexact H4
    isplitl [HS0]; · iexact HS0
    isplitl [HS1]; · iexact HS1
    iintro ⟨H0, H1, H2, H3, H4, HS0, HS1⟩
    isplitl [HS0 HS1 Hg]
    · isplitl [HS0 HS1]
      · isplitl [HS0]; · iexact HS0
        iexact HS1
      iexact Hg
    isplitl [Ho]; · iexact Ho
    isplitl [H0]; · iexact H0
    isplitl [H1]; · iexact H1
    isplitl [H2]; · iexact H2
    isplitl [H3]; · iexact H3
    iexact H4
  · have hc1 : ¬cond0_1 (grid0.coords t) := fun h => h1 ((hcond0_1 t).mp h)
    rw [Dat.leavesExact_idle (dat0 W c) 3 t (idleAt0_3 t hc1) (noFlush0_3 t hc1), Dat.leavesExact_idle (dat0 W c) 4 t (idleAt0_4 t hc1) (noFlush0_4 t hc1)]
    by_cases hz : t.val = 0
    · have hc0 : cond0_0 (grid0.coords t) := (hcond0_0 t).mpr (by omega)
      rw [hz, scr0_zero, st0_zero]
      iintro ⟨⟨⟨HS0, HS1⟩, Hg⟩, Ho, ⟨%d0, H0⟩, ⟨%d1, H1⟩, ⟨%d2, H2⟩, ⟨%d3, H3⟩, ⟨%d4, H4⟩⟩
      iapply (run0_A c (grid0.coords t) _ _ _ _ _ _ _ _ _ _ _ _ _ _ hc0 hc1 (iblk0 W c 0 t) (iblk0 W c 1 t) (iblk0 W c 2 t) _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexists _; iexact H3
      iexists _; iexact H4
    · have hc0 : ¬cond0_0 (grid0.coords t) := fun h => by have := (hcond0_0 t).mp h; omega
      rw [scr0_pos W c t.val hz]
      iintro ⟨⟨⟨HS0, HS1⟩, Hg⟩, Ho, ⟨%d0, H0⟩, ⟨%d1, H1⟩, ⟨%d2, H2⟩, ⟨%d3, H3⟩, ⟨%d4, H4⟩⟩
      iapply (run0_B c (grid0.coords t) _ _ _ _ _ _ _ _ _ _ _ _ _ _ hc0 hc1 (iblk0 W c 0 t) (iblk0 W c 1 t) (iblk0 W c 2 t) _ _ _ _ Set.univ _)
      isplitl [H0]; · iexact H0
      isplitl [H1]; · iexact H1
      isplitl [H2]; · iexact H2
      isplitl [H3]; · iexact H3
      isplitl [H4]; · iexact H4
      isplitl [HS0]; · iexact HS0
      isplitl [HS1]; · iexact HS1
      iintro ⟨H0, H1, H2, H3, H4, HS0, HS1⟩
      isplitl [HS0 HS1 Hg]
      · isplitl [HS0 HS1]
        · isplitl [HS0]; · iexact HS0
          iexact HS1
        iexact Hg
      isplitl [Ho]; · iexact Ho
      isplitl [H0]; · iexact H0
      isplitl [H1]; · iexact H1
      isplitl [H2]; · iexact H2
      isplitl [H3]; · iexists _; iexact H3
      iexists _; iexact H4

theorem defs₀_row0 (t : Fin cfg0.N) :
    defs₀ (F := F) .tc cfg0.body (cfg0.bodyArgs t (cfg0.slots t)) = bodyAt0 t := by
  unfold defs₀; rw [Defs.onTc_tc]

/-- The body obligation, at every point. -/
theorem body_obligation0 (c : Dev nD) : BodyObligation (dat0 (F := F) W c) (defs₀ (F := F)) Variants.none () Set.univ := fun t => by
  rw [bigSep_W0, bigSep_W0, defs₀_row0]
  exact triple_restated (sound_body0 W c t) rfl .rfl fun _ => .rfl

/-- The scoped buffers, with the scratch buffers named first. -/
theorem rest0_eq (c : Dev nD) : (Pipeline.scopedRest spec0 c : sProp 𝕄)
    = iprop((∃ d, owns (c : Thread nD τ) scM0_0 fullShare d) ∗ (∃ d, owns (c : Thread nD τ) scM0_1 fullShare d) ∗ rest0 c) := by
  rw [scopedRest0_eq]; simp only [scM0_0, scM0_1, owns_whole, rest0]; try rfl

theorem hin0 (c : Dev nD) : iprop(Pipeline.scopedRest spec0 c ∗ emp) ⊢ (dat0 W c).Φ 0 := by
  rw [show (dat0 W c).Φ 0 = iprop(scr0 W c 0 ∗ rest0 c) from rfl, scr0_zero, rest0_eq]
  iintro ⟨⟨HS0, HS1, Hg⟩, -⟩
  isplitl [HS0 HS1]
  · isplitl [HS0]; · iexact HS0
    iexact HS1
  iexact Hg

theorem hout0 (c : Dev nD) : (dat0 W c).Φ (Fin.last cfg0.N) ⊢ iprop(Pipeline.scopedRest spec0 c ∗ emp) := by
  rw [show (dat0 W c).Φ (Fin.last cfg0.N) = iprop(scr0 W c cfg0.N ∗ rest0 c) from rfl,
    scr0_pos W c cfg0.N (by rw [show cfg0.N = 27 from N_0]; omega), rest0_eq]
  iintro ⟨⟨HS0, HS1⟩, Hg⟩
  isplitl
  · isplitl [HS0]; · iexists _; iexact HS0
    isplitl [HS1]; · iexists _; iexact HS1
    iexact Hg
  iempintro

end Cert.KernelIdeal.Own

end
-- ==== Proof.PI.Pay1.lean ====
module

public import proofs.«01_k».proof.Proof.PI.Pay0

@[expose] public section

set_option maxRecDepth 16384

noncomputable section

namespace Cert.KernelIdeal.Own

open Cert.KernelIdeal Cert.KernelIdeal.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear kernel's body: its values and its branches -/

/-- The four branches: the very first point; the first sweep; the first block of columns; the last block of columns. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
abbrev cond1_1 (i : grid1.Coords) : Prop := k1_cond2 i = 1#1
abbrev cond1_2 (i : grid1.Coords) : Prop := (Scalar.cmpi .ne (Scalar.extui (Scalar.cmpi .eq (BitVec.ofNat 32 (i 1).val) 0#32)) 0#32) = 1#1
abbrev cond1_3 (i : grid1.Coords) : Prop := k1_cond4 i = 1#1

/-- One block of 128 scales, spread over a column block. -/
def sBlk (r : Vec F S1x128 .f32) : FVec F S128x128 .f32 := k1_pay9 r
/-- One block of 128 reciprocals, spread over a column block. -/
def iBlk (r : Vec F S1x128 .f32) : FVec F S128x128 .bf16 := k1_pay10 r
theorem sBlk0 (r : Vec F S1x128 .f32) : k1_pay9 r = sBlk r := rfl
theorem sBlk1 (r : Vec F S1x128 .f32) : k1_pay12 r = sBlk r := rfl
theorem sBlk2 (r : Vec F S1x128 .f32) : k1_pay15 r = sBlk r := rfl
theorem sBlk3 (r : Vec F S1x128 .f32) : k1_pay3 r = sBlk r := rfl
theorem iBlk0 (r : Vec F S1x128 .f32) : k1_pay10 r = iBlk r := rfl
theorem iBlk1 (r : Vec F S1x128 .f32) : k1_pay13 r = iBlk r := rfl
theorem iBlk2 (r : Vec F S1x128 .f32) : k1_pay1 (k1_pay14 r) (Scalar.ofBits .f32 0x3F800000#32) = iBlk r := rfl
theorem iBlk3 (r : Vec F S1x128 .f32) : k1_pay4 r = iBlk r := rfl

/-- One slice of 128 columns, quantised. -/
def qz (a b : Vec F S512x128 .bf16) : FVec F S512x128 .fp8e4m3 := k1_pay16 a b
theorem qz_a0 (a b : Vec F S512x128 .bf16) : k1_pay16 a b = qz a b := rfl
theorem qz_b0 (a b : Vec F S512x128 .bf16) : k1_pay17 a b = qz a b := shapeCast_self _ _
theorem qz_a1 (a b : Vec F S512x128 .bf16) : k1_pay18 a b = qz a b := rfl
theorem qz_b1 (a b : Vec F S512x128 .bf16) : k1_pay19 a b = qz a b := shapeCast_self _ _
theorem qz_a2 (a b : Vec F S512x128 .bf16) : k1_pay20 a b = qz a b := rfl
theorem qz_b2 (a b : Vec F S512x128 .bf16) : k1_pay21 a b = qz a b := shapeCast_self _ _
theorem qz_a3 (a b : Vec F S512x128 .bf16) : k1_pay22 a b = qz a b := rfl
theorem qz_b3 (v : FVec F S512x128 .fp8e4m3) : k1_pay23 v = v := shapeCast_self _ _
theorem qz_a4 (a b : Vec F S512x128 .bf16) : k1_pay24 a b = qz a b := rfl
theorem qz_b4 (a b : Vec F S512x128 .bf16) : k1_pay25 a b = qz a b := shapeCast_self _ _
theorem qz_a5 (a b : Vec F S512x128 .bf16) : k1_pay26 a b = qz a b := rfl
theorem qz_b5 (v : FVec F S512x128 .fp8e4m3) : k1_pay27 v = v := shapeCast_self _ _
theorem qz_a6 (a b : Vec F S512x128 .bf16) : k1_pay28 a b = qz a b := rfl
theorem qz_b6 (a b : Vec F S512x128 .bf16) : k1_pay29 a b = qz a b := shapeCast_self _ _
theorem qz_a7 (a b : Vec F S512x128 .bf16) : k1_pay31 (k1_pay30 a b) = qz a b := rfl
theorem qz_b7 (a b : Vec F S512x128 .bf16) : k1_pay32 (k1_pay30 a b) = qz a b := shapeCast_self _ _
theorem qz_a8 (a b : Vec F S512x128 .bf16) : k1_pay33 a b = qz a b := rfl
theorem qz_b8 (a b : Vec F S512x128 .bf16) : k1_pay34 a b = qz a b := shapeCast_self _ _
theorem qz_a9 (a b : Vec F S512x128 .bf16) : k1_pay37 (k1_pay35 a b) (Scalar.ofBits .f32 0x43E00000#32) (k1_pay36 (F := F)) = qz a b := rfl
theorem qz_b9 (a b : Vec F S512x128 .bf16) : k1_pay38 (k1_pay35 a b) (Scalar.ofBits .f32 0x43E00000#32) (k1_pay36 (F := F)) = qz a b := shapeCast_self _ _
theorem qz_a10 (a b : Vec F S512x128 .bf16) : k1_pay39 a b = qz a b := rfl
theorem qz_b10 (a b : Vec F S512x128 .bf16) : k1_pay40 a b = qz a b := shapeCast_self _ _
theorem qz_a11 (a b : Vec F S512x128 .bf16) : k1_pay42 (k1_pay41 a b) = qz a b := rfl
theorem qz_b11 (a b : Vec F S512x128 .bf16) : k1_pay43 (k1_pay41 a b) = qz a b := shapeCast_self _ _
theorem qz_a12 (a b : Vec F S512x128 .bf16) : k1_pay44 a b = qz a b := rfl
theorem qz_b12 (a b : Vec F S512x128 .bf16) : k1_pay45 a b = qz a b := shapeCast_self _ _
theorem qz_a13 (a b : Vec F S512x128 .bf16) : k1_pay47 (k1_pay46 a) b = qz a b := rfl
theorem qz_b13 (a b : Vec F S512x128 .bf16) : k1_pay48 (k1_pay46 a) b = qz a b := shapeCast_self _ _
theorem qz_a14 (a b : Vec F S512x128 .bf16) : k1_pay49 a b = qz a b := rfl
theorem qz_b14 (a b : Vec F S512x128 .bf16) : k1_pay50 a b = qz a b := shapeCast_self _ _
theorem qz_a15 (a b : Vec F S512x128 .bf16) : k1_pay51 a b = qz a b := rfl
theorem qz_b15 (a b : Vec F S512x128 .bf16) : k1_pay52 a b = qz a b := shapeCast_self _ _
theorem qz_a16 (a b : Vec F S512x128 .bf16) : k1_pay53 a b = qz a b := rfl
theorem qz_b16 (a b : Vec F S512x128 .bf16) : k1_pay54 a b = qz a b := shapeCast_self _ _
theorem qz_a17 (a b : Vec F S512x128 .bf16) : k1_pay55 a b = qz a b := rfl
theorem qz_b17 (a b : Vec F S512x128 .bf16) : k1_pay56 a b = qz a b := shapeCast_self _ _
theorem qz_a18 (a b : Vec F S512x128 .bf16) : k1_pay57 a b = qz a b := rfl
theorem qz_b18 (v : FVec F S512x128 .fp8e4m3) : k1_pay58 v = v := shapeCast_self _ _
theorem qz_a19 (a b : Vec F S512x128 .bf16) : k1_pay59 a b = qz a b := rfl
theorem qz_b19 (a b : Vec F S512x128 .bf16) : k1_pay60 a b = qz a b := shapeCast_self _ _
theorem qz_a20 (a b : Vec F S512x128 .bf16) : k1_pay61 a b = qz a b := rfl
theorem qz_b20 (v : FVec F S512x128 .fp8e4m3) : k1_pay62 v = v := shapeCast_self _ _
theorem qz_a21 (a b : Vec F S512x128 .bf16) : k1_pay63 a b = qz a b := rfl
theorem qz_b21 (a b : Vec F S512x128 .bf16) : k1_pay64 a b = qz a b := shapeCast_self _ _
theorem qz_a22 (a b : Vec F S512x128 .bf16) : k1_pay66 (k1_pay65 a b) = qz a b := rfl
theorem qz_b22 (a b : Vec F S512x128 .bf16) : k1_pay67 (k1_pay65 a b) = qz a b := shapeCast_self _ _
theorem qz_a23 (a b : Vec F S512x128 .bf16) : k1_pay68 a b = qz a b := rfl
theorem qz_b23 (a b : Vec F S512x128 .bf16) : k1_pay69 a b = qz a b := shapeCast_self _ _

/-- The scales, one row for each token, spread over 128 columns. -/
def sOut (sc : Vec F S1x512 .f32) : Vec F S512x128 .f32 :=
  View.canon (Val := Elt F) (s := S512x128) (e := .f32) [
    ⟨Rect.unit (s := S512x128) ![384, 0] S128x128.size inb_S512x128_S128x128_384_0, sBlk (View.ld (Val := Elt F) (e' := .f32) sc (Rect.unit (s := S1x512) ![0, 384] S1x128.size inb_S1x512_S1x128_0_384))⟩,
    ⟨Rect.unit (s := S512x128) ![256, 0] S128x128.size inb_S512x128_S128x128_256_0, sBlk (View.ld (Val := Elt F) (e' := .f32) sc (Rect.unit (s := S1x512) ![0, 256] S1x128.size inb_S1x512_S1x128_0_256))⟩,
    ⟨Rect.unit (s := S512x128) ![128, 0] S128x128.size inb_S512x128_S128x128_128_0, sBlk (View.ld (Val := Elt F) (e' := .f32) sc (Rect.unit (s := S1x512) ![0, 128] S1x128.size inb_S1x512_S1x128_0_128))⟩,
    ⟨Rect.unit (s := S512x128) ![0, 0] S128x128.size inb_S512x128_S128x128_0_0, sBlk (View.ld (Val := Elt F) (e' := .f32) sc (Rect.unit (s := S1x512) ![0, 0] S1x128.size inb_S1x512_S1x128_0_0))⟩]

/-- The reciprocals of the scales, likewise. -/
def invOut (sc : Vec F S1x512 .f32) : Vec F S512x128 .bf16 :=
  View.canon (Val := Elt F) (s := S512x128) (e := .bf16) [
    ⟨Rect.unit (s := S512x128) ![384, 0] S128x128.size inb_S512x128_S128x128_384_0, iBlk (View.ld (Val := Elt F) (e' := .f32) sc (Rect.unit (s := S1x512) ![0, 384] S1x128.size inb_S1x512_S1x128_0_384))⟩,
    ⟨Rect.unit (s := S512x128) ![256, 0] S128x128.size inb_S512x128_S128x128_256_0, iBlk (View.ld (Val := Elt F) (e' := .f32) sc (Rect.unit (s := S1x512) ![0, 256] S1x128.size inb_S1x512_S1x128_0_256))⟩,
    ⟨Rect.unit (s := S512x128) ![128, 0] S128x128.size inb_S512x128_S128x128_128_0, iBlk (View.ld (Val := Elt F) (e' := .f32) sc (Rect.unit (s := S1x512) ![0, 128] S1x128.size inb_S1x512_S1x128_0_128))⟩,
    ⟨Rect.unit (s := S512x128) ![0, 0] S128x128.size inb_S512x128_S128x128_0_0, iBlk (View.ld (Val := Elt F) (e' := .f32) sc (Rect.unit (s := S1x512) ![0, 0] S1x128.size inb_S1x512_S1x128_0_0))⟩]

/-- The block of 3072 columns, quantised: its 24 slices. -/
def qPieces (x : Vec F S512x3072 .bf16) (inv : Vec F S512x128 .bf16) : List (View.Piece (Elt F) S512x3072 .fp8e4m3) := [
    ⟨Rect.unit (s := S512x3072) ![0, 2944] S512x128.size inb_S512x3072_S512x128_0_2944, qz (View.ld (Val := Elt F) (e' := .bf16) x (Rect.unit (s := S512x3072) ![0, 2944] S512x128.size inb_S512x3072_S512x128_0_2944)) inv⟩,
    ⟨Rect.unit (s := S512x3072) ![0, 2816] S512x128.size inb_S512x3072_S512x128_0_2816, qz (View.ld (Val := Elt F) (e' := .bf16) x (Rect.unit (s := S512x3072) ![0, 2816] S512x128.size inb_S512x3072_S512x128_0_2816)) inv⟩,
    ⟨Rect.unit (s := S512x3072) ![0, 2688] S512x128.size inb_S512x3072_S512x128_0_2688, qz (View.ld (Val := Elt F) (e' := .bf16) x (Rect.unit (s := S512x3072) ![0, 2688] S512x128.size inb_S512x3072_S512x128_0_2688)) inv⟩,
    ⟨Rect.unit (s := S512x3072) ![0, 2560] S512x128.size inb_S512x3072_S512x128_0_2560, qz (View.ld (Val := Elt F) (e' := .bf16) x (Rect.unit (s := S512x3072) ![0, 2560] S512x128.size inb_S512x3072_S512x128_0_2560)) inv⟩,
    ⟨Rect.unit (s := S512x3072) ![0, 2432] S512x128.size inb_S512x3072_S512x128_0_2432, qz (View.ld (Val := Elt F) (e' := .bf16) x (Rect.unit (s := S512x3072) ![0, 2432] S512x128.size inb_S512x3072_S512x128_0_2432)) inv⟩,
    ⟨Rect.unit (s := S512x3072) ![0, 2304] S512x128.size inb_S512x3072_S512x128_0_2304, qz (View.ld (Val := Elt F) (e' := .bf16) x (Rect.unit (s := S512x3072) ![0, 2304] S512x128.size inb_S512x3072_S512x128_0_2304)) inv⟩,
    ⟨Rect.unit (s := S512x3072) ![0, 2176] S512x128.size inb_S512x3072_S512x128_0_2176, qz (View.ld (Val := Elt F) (e' := .bf16) x (Rect.unit (s := S512x3072) ![0, 2176] S512x128.size inb_S512x3072_S512x128_0_2176)) inv⟩,
    ⟨Rect.unit (s := S512x3072) ![0, 2048] S512x128.size inb_S512x3072_S512x128_0_2048, qz (View.ld (Val := Elt F) (e' := .bf16) x (Rect.unit (s := S512x3072) ![0, 2048] S512x128.size inb_S512x3072_S512x128_0_2048)) inv⟩,
    ⟨Rect.unit (s := S512x3072) ![0, 1920] S512x128.size inb_S512x3072_S512x128_0_1920, qz (View.ld (Val := Elt F) (e' := .bf16) x (Rect.unit (s := S512x3072) ![0, 1920] S512x128.size inb_S512x3072_S512x128_0_1920)) inv⟩,
    ⟨Rect.unit (s := S512x3072) ![0, 1792] S512x128.size inb_S512x3072_S512x128_0_1792, qz (View.ld (Val := Elt F) (e' := .bf16) x (Rect.unit (s := S512x3072) ![0, 1792] S512x128.size inb_S512x3072_S512x128_0_1792)) inv⟩,
    ⟨Rect.unit (s := S512x3072) ![0, 1664] S512x128.size inb_S512x3072_S512x128_0_1664, qz (View.ld (Val := Elt F) (e' := .bf16) x (Rect.unit (s := S512x3072) ![0, 1664] S512x128.size inb_S512x3072_S512x128_0_1664)) inv⟩,
    ⟨Rect.unit (s := S512x3072) ![0, 1536] S512x128.size inb_S512x3072_S512x128_0_1536, qz (View.ld (Val := Elt F) (e' := .bf16) x (Rect.unit (s := S512x3072) ![0, 1536] S512x128.size inb_S512x3072_S512x128_0_1536)) inv⟩,
    ⟨Rect.unit (s := S512x3072) ![0, 1408] S512x128.size inb_S512x3072_S512x128_0_1408, qz (View.ld (Val := Elt F) (e' := .bf16) x (Rect.unit (s := S512x3072) ![0, 1408] S512x128.size inb_S512x3072_S512x128_0_1408)) inv⟩,
    ⟨Rect.unit (s := S512x3072) ![0, 1280] S512x128.size inb_S512x3072_S512x128_0_1280, qz (View.ld (Val := Elt F) (e' := .bf16) x (Rect.unit (s := S512x3072) ![0, 1280] S512x128.size inb_S512x3072_S512x128_0_1280)) inv⟩,
    ⟨Rect.unit (s := S512x3072) ![0, 1152] S512x128.size inb_S512x3072_S512x128_0_1152, qz (View.ld (Val := Elt F) (e' := .bf16) x (Rect.unit (s := S512x3072) ![0, 1152] S512x128.size inb_S512x3072_S512x128_0_1152)) inv⟩,
    ⟨Rect.unit (s := S512x3072) ![0, 1024] S512x128.size inb_S512x3072_S512x128_0_1024, qz (View.ld (Val := Elt F) (e' := .bf16) x (Rect.unit (s := S512x3072) ![0, 1024] S512x128.size inb_S512x3072_S512x128_0_1024)) inv⟩,
    ⟨Rect.unit (s := S512x3072) ![0, 896] S512x128.size inb_S512x3072_S512x128_0_896, qz (View.ld (Val := Elt F) (e' := .bf16) x (Rect.unit (s := S512x3072) ![0, 896] S512x128.size inb_S512x3072_S512x128_0_896)) inv⟩,
    ⟨Rect.unit (s := S512x3072) ![0, 768] S512x128.size inb_S512x3072_S512x128_0_768, qz (View.ld (Val := Elt F) (e' := .bf16) x (Rect.unit (s := S512x3072) ![0, 768] S512x128.size inb_S512x3072_S512x128_0_768)) inv⟩,
    ⟨Rect.unit (s := S512x3072) ![0, 640] S512x128.size inb_S512x3072_S512x128_0_640, qz (View.ld (Val := Elt F) (e' := .bf16) x (Rect.unit (s := S512x3072) ![0, 640] S512x128.size inb_S512x3072_S512x128_0_640)) inv⟩,
    ⟨Rect.unit (s := S512x3072) ![0, 512] S512x128.size inb_S512x3072_S512x128_0_512, qz (View.ld (Val := Elt F) (e' := .bf16) x (Rect.unit (s := S512x3072) ![0, 512] S512x128.size inb_S512x3072_S512x128_0_512)) inv⟩,
    ⟨Rect.unit (s := S512x3072) ![0, 384] S512x128.size inb_S512x3072_S512x128_0_384, qz (View.ld (Val := Elt F) (e' := .bf16) x (Rect.unit (s := S512x3072) ![0, 384] S512x128.size inb_S512x3072_S512x128_0_384)) inv⟩,
    ⟨Rect.unit (s := S512x3072) ![0, 256] S512x128.size inb_S512x3072_S512x128_0_256, qz (View.ld (Val := Elt F) (e' := .bf16) x (Rect.unit (s := S512x3072) ![0, 256] S512x128.size inb_S512x3072_S512x128_0_256)) inv⟩,
    ⟨Rect.unit (s := S512x3072) ![0, 128] S512x128.size inb_S512x3072_S512x128_0_128, qz (View.ld (Val := Elt F) (e' := .bf16) x (Rect.unit (s := S512x3072) ![0, 128] S512x128.size inb_S512x3072_S512x128_0_128)) inv⟩,
    ⟨Rect.unit (s := S512x3072) ![0, 0] S512x128.size inb_S512x3072_S512x128_0_0, qz (View.ld (Val := Elt F) (e' := .bf16) x (Rect.unit (s := S512x3072) ![0, 0] S512x128.size inb_S512x3072_S512x128_0_0)) inv⟩]

/-- The block of 3072 columns, quantised. -/
def qOut (x : Vec F S512x3072 .bf16) (inv : Vec F S512x128 .bf16) : Vec F S512x3072 .fp8e4m3 := View.canon (qPieces x inv)

/-- The same 24 slices, at their places among all the columns. -/
def codesPieces (i : grid1.Coords) (h : k1_cond2 i = 1#1) (x : Vec F S512x3072 .bf16) (inv : Vec F S512x128 .bf16) : List (View.Piece (Elt F) S512x27648 .fp8e4m3) := [
    ⟨Rect.unit (s := S512x27648) (k1_off1 i 2944#32) S512x128.size (k1_off1_inb i h 23), qz (View.ld (Val := Elt F) (e' := .bf16) x (Rect.unit (s := S512x3072) ![0, 2944] S512x128.size inb_S512x3072_S512x128_0_2944)) inv⟩,
    ⟨Rect.unit (s := S512x27648) (k1_off1 i 2816#32) S512x128.size (k1_off1_inb i h 22), qz (View.ld (Val := Elt F) (e' := .bf16) x (Rect.unit (s := S512x3072) ![0, 2816] S512x128.size inb_S512x3072_S512x128_0_2816)) inv⟩,
    ⟨Rect.unit (s := S512x27648) (k1_off1 i 2688#32) S512x128.size (k1_off1_inb i h 21), qz (View.ld (Val := Elt F) (e' := .bf16) x (Rect.unit (s := S512x3072) ![0, 2688] S512x128.size inb_S512x3072_S512x128_0_2688)) inv⟩,
    ⟨Rect.unit (s := S512x27648) (k1_off1 i 2560#32) S512x128.size (k1_off1_inb i h 20), qz (View.ld (Val := Elt F) (e' := .bf16) x (Rect.unit (s := S512x3072) ![0, 2560] S512x128.size inb_S512x3072_S512x128_0_2560)) inv⟩,
    ⟨Rect.unit (s := S512x27648) (k1_off1 i 2432#32) S512x128.size (k1_off1_inb i h 19), qz (View.ld (Val := Elt F) (e' := .bf16) x (Rect.unit (s := S512x3072) ![0, 2432] S512x128.size inb_S512x3072_S512x128_0_2432)) inv⟩,
    ⟨Rect.unit (s := S512x27648) (k1_off1 i 2304#32) S512x128.size (k1_off1_inb i h 18), qz (View.ld (Val := Elt F) (e' := .bf16) x (Rect.unit (s := S512x3072) ![0, 2304] S512x128.size inb_S512x3072_S512x128_0_2304)) inv⟩,
    ⟨Rect.unit (s := S512x27648) (k1_off1 i 2176#32) S512x128.size (k1_off1_inb i h 17), qz (View.ld (Val := Elt F) (e' := .bf16) x (Rect.unit (s := S512x3072) ![0, 2176] S512x128.size inb_S512x3072_S512x128_0_2176)) inv⟩,
    ⟨Rect.unit (s := S512x27648) (k1_off1 i 2048#32) S512x128.size (k1_off1_inb i h 16), qz (View.ld (Val := Elt F) (e' := .bf16) x (Rect.unit (s := S512x3072) ![0, 2048] S512x128.size inb_S512x3072_S512x128_0_2048)) inv⟩,
    ⟨Rect.unit (s := S512x27648) (k1_off1 i 1920#32) S512x128.size (k1_off1_inb i h 15), qz (View.ld (Val := Elt F) (e' := .bf16) x (Rect.unit (s := S512x3072) ![0, 1920] S512x128.size inb_S512x3072_S512x128_0_1920)) inv⟩,
    ⟨Rect.unit (s := S512x27648) (k1_off1 i 1792#32) S512x128.size (k1_off1_inb i h 14), qz (View.ld (Val := Elt F) (e' := .bf16) x (Rect.unit (s := S512x3072) ![0, 1792] S512x128.size inb_S512x3072_S512x128_0_1792)) inv⟩,
    ⟨Rect.unit (s := S512x27648) (k1_off1 i 1664#32) S512x128.size (k1_off1_inb i h 13), qz (View.ld (Val := Elt F) (e' := .bf16) x (Rect.unit (s := S512x3072) ![0, 1664] S512x128.size inb_S512x3072_S512x128_0_1664)) inv⟩,
    ⟨Rect.unit (s := S512x27648) (k1_off1 i 1536#32) S512x128.size (k1_off1_inb i h 12), qz (View.ld (Val := Elt F) (e' := .bf16) x (Rect.unit (s := S512x3072) ![0, 1536] S512x128.size inb_S512x3072_S512x128_0_1536)) inv⟩,
    ⟨Rect.unit (s := S512x27648) (k1_off1 i 1408#32) S512x128.size (k1_off1_inb i h 11), qz (View.ld (Val := Elt F) (e' := .bf16) x (Rect.unit (s := S512x3072) ![0, 1408] S512x128.size inb_S512x3072_S512x128_0_1408)) inv⟩,
    ⟨Rect.unit (s := S512x27648) (k1_off1 i 1280#32) S512x128.size (k1_off1_inb i h 10), qz (View.ld (Val := Elt F) (e' := .bf16) x (Rect.unit (s := S512x3072) ![0, 1280] S512x128.size inb_S512x3072_S512x128_0_1280)) inv⟩,
    ⟨Rect.unit (s := S512x27648) (k1_off1 i 1152#32) S512x128.size (k1_off1_inb i h 9), qz (View.ld (Val := Elt F) (e' := .bf16) x (Rect.unit (s := S512x3072) ![0, 1152] S512x128.size inb_S512x3072_S512x128_0_1152)) inv⟩,
    ⟨Rect.unit (s := S512x27648) (k1_off1 i 1024#32) S512x128.size (k1_off1_inb i h 8), qz (View.ld (Val := Elt F) (e' := .bf16) x (Rect.unit (s := S512x3072) ![0, 1024] S512x128.size inb_S512x3072_S512x128_0_1024)) inv⟩,
    ⟨Rect.unit (s := S512x27648) (k1_off1 i 896#32) S512x128.size (k1_off1_inb i h 7), qz (View.ld (Val := Elt F) (e' := .bf16) x (Rect.unit (s := S512x3072) ![0, 896] S512x128.size inb_S512x3072_S512x128_0_896)) inv⟩,
    ⟨Rect.unit (s := S512x27648) (k1_off1 i 768#32) S512x128.size (k1_off1_inb i h 6), qz (View.ld (Val := Elt F) (e' := .bf16) x (Rect.unit (s := S512x3072) ![0, 768] S512x128.size inb_S512x3072_S512x128_0_768)) inv⟩,
    ⟨Rect.unit (s := S512x27648) (k1_off1 i 640#32) S512x128.size (k1_off1_inb i h 5), qz (View.ld (Val := Elt F) (e' := .bf16) x (Rect.unit (s := S512x3072) ![0, 640] S512x128.size inb_S512x3072_S512x128_0_640)) inv⟩,
    ⟨Rect.unit (s := S512x27648) (k1_off1 i 512#32) S512x128.size (k1_off1_inb i h 4), qz (View.ld (Val := Elt F) (e' := .bf16) x (Rect.unit (s := S512x3072) ![0, 512] S512x128.size inb_S512x3072_S512x128_0_512)) inv⟩,
    ⟨Rect.unit (s := S512x27648) (k1_off1 i 384#32) S512x128.size (k1_off1_inb i h 3), qz (View.ld (Val := Elt F) (e' := .bf16) x (Rect.unit (s := S512x3072) ![0, 384] S512x128.size inb_S512x3072_S512x128_0_384)) inv⟩,
    ⟨Rect.unit (s := S512x27648) (k1_off1 i 256#32) S512x128.size (k1_off1_inb i h 2), qz (View.ld (Val := Elt F) (e' := .bf16) x (Rect.unit (s := S512x3072) ![0, 256] S512x128.size inb_S512x3072_S512x128_0_256)) inv⟩,
    ⟨Rect.unit (s := S512x27648) (k1_off1 i 128#32) S512x128.size (k1_off1_inb i h 1), qz (View.ld (Val := Elt F) (e' := .bf16) x (Rect.unit (s := S512x3072) ![0, 128] S512x128.size inb_S512x3072_S512x128_0_128)) inv⟩,
    ⟨Rect.unit (s := S512x27648) (k1_off1 i 0#32) S512x128.size (k1_off1_inb i h 0), qz (View.ld (Val := Elt F) (e' := .bf16) x (Rect.unit (s := S512x3072) ![0, 0] S512x128.size inb_S512x3072_S512x128_0_0)) inv⟩]

/-- All the columns' codes after this block's are put in. -/
def codesPut (i : grid1.Coords) (h : k1_cond2 i = 1#1) (x : Vec F S512x3072 .bf16) (inv : Vec F S512x128 .bf16) (codes : Vec F S512x27648 .fp8e4m3) : Vec F S512x27648 .fp8e4m3 :=
  over codes (codesPieces i h x inv)

end Cert.KernelIdeal.Own

end
-- ==== Proof.PI.Codes.lean ====
module

public import proofs.«01_k».proof.Proof.PI.Pay1
public import Idealize.ShloMosaic.Lib.ValueIdxCore

@[expose] public section

set_option maxRecDepth 16384

noncomputable section

namespace Cert.KernelIdeal.Own

open Cert.KernelIdeal Cert.KernelIdeal.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-! # The codes: one formula for every quantised element -/

/-- One element quantised: times the reciprocal of its token's scale, held within ±448, rounded to eight bits. -/
def qelt (a b : Elt F .bf16) : Elt F .fp8e4m3 := qz (fun _ => a) (fun _ => b) (ix2 0 0)

theorem qz_apply (a b : Vec F S512x128 .bf16) (z : S512x128.Idx) : qz a b z = qelt (a z) (b z) := by
  unfold qelt qz k1_pay16
  simp only [shapeCast_self]
  rfl

/-- The reciprocals are spread over 128 columns: column `n` reads column `n % 128`. -/
abbrev ivx {n : ℕ} (y : (⟨2, ![512, n]⟩ : Shape).Idx) : S512x128.Idx :=
  ix2 (y 0) (⟨(y 1).val % 128, Nat.mod_lt _ (by omega)⟩ : Fin 128)

/-- Among all the columns, column `n` of a block of 3072 is column `n % 3072` of the block. -/
abbrev blx (y : S512x27648.Idx) : S512x3072.Idx :=
  ix2 (y 0) (⟨(y 1).val % 3072, Nat.mod_lt _ (by omega)⟩ : Fin 3072)

/-- The quantised block, element by element. -/
def qG (x : Vec F S512x3072 .bf16) (inv : Vec F S512x128 .bf16) (y : S512x3072.Idx) : Elt F .fp8e4m3 :=
  qelt (x y) (inv (ivx (n := 3072) y))

/-- The same, addressed among all the columns. -/
def qB (x : Vec F S512x3072 .bf16) (inv : Vec F S512x128 .bf16) (y : S512x27648.Idx) : Elt F .fp8e4m3 :=
  qelt (x (blx y)) (inv (ivx (n := 27648) y))

theorem kdim_lt (i : grid1.Coords) : (i 1).val < 9 := (i 1).isLt

theorem off1_eq (i : grid1.Coords) (n : ℕ) (hn : n < 3072) : k1_off1 i (BitVec.ofNat 32 n) = ![0, 3072 * (i 1).val + n] := by
  have h9 := kdim_lt i
  unfold k1_off1
  show ![0, ((BitVec.ofNat 32 (i 1).val * 3072#32) + BitVec.ofNat 32 n).toNat] = _
  congr 2
  simp only [BitVec.toNat_add, BitVec.toNat_mul, BitVec.toNat_ofNat]
  omega

theorem off2_eq (i : grid1.Coords) : k1_off2 i = ![0, 3072 * (i 1).val] := by
  have h9 := kdim_lt i
  unfold k1_off2
  show ![0, (BitVec.ofNat 32 (i 1).val * 3072#32).toNat] = _
  congr 2
  simp only [BitVec.toNat_mul, BitVec.toNat_ofNat]
  omega

/-- One slice's codes, in the block. -/
theorem piece_q (x : Vec F S512x3072 .bf16) (inv : Vec F S512x128 .bf16) (j : ℕ) (hj : j < 24)
    (inb : ∀ a, (![0, 128 * j] : Fin 2 → ℕ) a + S512x128.size a ≤ S512x3072.size a) (z : S512x128.Idx) :
    qz (View.ld (Val := Elt F) (e' := .bf16) x (Rect.unit (s := S512x3072) ![0, 128 * j] S512x128.size inb)) inv z
      = qG x inv ((Rect.unit (s := S512x3072) ![0, 128 * j] S512x128.size inb).emb z) := by
  rw [qz_apply]
  unfold qG
  refine congrArg₂ qelt rfl (congrArg inv ?_)
  funext a
  match a with
  | ⟨0, _⟩ => exact Fin.ext (show (z 0).val = 0 + 1 * (z 0).val by omega)
  | ⟨1, _⟩ =>
    have := idx2_lt1 (n0 := 512) (n1 := 128) z
    exact Fin.ext (show (z 1).val = (128 * j + 1 * (z 1).val) % 128 by omega)

/-- One slice's codes, among all the columns. -/
theorem piece_b (i : grid1.Coords) (x : Vec F S512x3072 .bf16) (inv : Vec F S512x128 .bf16) (j : ℕ) (hj : j < 24)
    (inb' : ∀ a, (![0, 128 * j] : Fin 2 → ℕ) a + S512x128.size a ≤ S512x3072.size a)
    (off : Fin 2 → ℕ) (heq : off = ![0, 3072 * (i 1).val + 128 * j]) (inb : ∀ a, off a + S512x128.size a ≤ S512x27648.size a)
    (z : S512x128.Idx) :
    qz (View.ld (Val := Elt F) (e' := .bf16) x (Rect.unit (s := S512x3072) ![0, 128 * j] S512x128.size inb')) inv z
      = qB x inv ((Rect.unit (s := S512x27648) off S512x128.size inb).emb z) := by
  subst heq
  rw [qz_apply]
  unfold qB
  have h1 := idx2_lt1 (n0 := 512) (n1 := 128) z
  have h9 := kdim_lt i
  refine congrArg₂ qelt (congrArg x ?_) (congrArg inv ?_)
  · funext a
    match a with
    | ⟨0, _⟩ => exact Fin.ext (show 0 + 1 * (z 0).val = 0 + 1 * (z 0).val by omega)
    | ⟨1, _⟩ => exact Fin.ext (show 128 * j + 1 * (z 1).val = (3072 * (i 1).val + 128 * j + 1 * (z 1).val) % 3072 by omega)
  · funext a
    match a with
    | ⟨0, _⟩ => exact Fin.ext (show (z 0).val = 0 + 1 * (z 0).val by omega)
    | ⟨1, _⟩ => exact Fin.ext (show (z 1).val = (3072 * (i 1).val + 128 * j + 1 * (z 1).val) % 128 by omega)

theorem mem_b (i : grid1.Coords) (j : ℕ) (off : Fin 2 → ℕ) (heq : off = ![0, 3072 * (i 1).val + 128 * j])
    (inb : ∀ a, off a + S512x128.size a ≤ S512x27648.size a) (y : S512x27648.Idx)
    (h : 3072 * (i 1).val + 128 * j ≤ (y 1).val ∧ (y 1).val < 3072 * (i 1).val + 128 * j + 128) :
    y ∈ (Rect.unit (s := S512x27648) off S512x128.size inb).set := by
  subst heq
  rw [Rect.mem_set_unit]
  intro a
  match a with
  | ⟨0, _⟩ => exact ⟨Nat.zero_le _, show (y 0).val < 0 + 512 by have := idx2_lt0 (n0 := 512) (n1 := 27648) y; omega⟩
  | ⟨1, _⟩ => exact h

theorem not_mem_b (i : grid1.Coords) (j : ℕ) (hj : j < 24) (off : Fin 2 → ℕ) (heq : off = ![0, 3072 * (i 1).val + 128 * j])
    (inb : ∀ a, off a + S512x128.size a ≤ S512x27648.size a) (y : S512x27648.Idx)
    (h : ¬(3072 * (i 1).val ≤ (y 1).val ∧ (y 1).val < 3072 * (i 1).val + 3072)) :
    y ∉ (Rect.unit (s := S512x27648) off S512x128.size inb).set := by
  subst heq
  rw [Rect.mem_set_unit]
  intro hall
  have h1 : 3072 * (i 1).val + 128 * j ≤ (y 1).val ∧ (y 1).val < 3072 * (i 1).val + 128 * j + 128 := hall 1
  omega

theorem qOut_apply (x : Vec F S512x3072 .bf16) (inv : Vec F S512x128 .bf16) (y : S512x3072.Idx) : qOut x inv y = qG x inv y := by
  refine View.canon_apply_of_pieces (qG x inv) (qPieces x inv) ?_ y (View.cover_of_tiledL _ ![512, 128] (by sl_kernel_rfl) y)
  exact List.forall_mem_cons.2 ⟨fun z => piece_q x inv 23 (by omega) _ z,
    List.forall_mem_cons.2 ⟨fun z => piece_q x inv 22 (by omega) _ z,
    List.forall_mem_cons.2 ⟨fun z => piece_q x inv 21 (by omega) _ z,
    List.forall_mem_cons.2 ⟨fun z => piece_q x inv 20 (by omega) _ z,
    List.forall_mem_cons.2 ⟨fun z => piece_q x inv 19 (by omega) _ z,
    List.forall_mem_cons.2 ⟨fun z => piece_q x inv 18 (by omega) _ z,
    List.forall_mem_cons.2 ⟨fun z => piece_q x inv 17 (by omega) _ z,
    List.forall_mem_cons.2 ⟨fun z => piece_q x inv 16 (by omega) _ z,
    List.forall_mem_cons.2 ⟨fun z => piece_q x inv 15 (by omega) _ z,
    List.forall_mem_cons.2 ⟨fun z => piece_q x inv 14 (by omega) _ z,
    List.forall_mem_cons.2 ⟨fun z => piece_q x inv 13 (by omega) _ z,
    List.forall_mem_cons.2 ⟨fun z => piece_q x inv 12 (by omega) _ z,
    List.forall_mem_cons.2 ⟨fun z => piece_q x inv 11 (by omega) _ z,
    List.forall_mem_cons.2 ⟨fun z => piece_q x inv 10 (by omega) _ z,
    List.forall_mem_cons.2 ⟨fun z => piece_q x inv 9 (by omega) _ z,
    List.forall_mem_cons.2 ⟨fun z => piece_q x inv 8 (by omega) _ z,
    List.forall_mem_cons.2 ⟨fun z => piece_q x inv 7 (by omega) _ z,
    List.forall_mem_cons.2 ⟨fun z => piece_q x inv 6 (by omega) _ z,
    List.forall_mem_cons.2 ⟨fun z => piece_q x inv 5 (by omega) _ z,
    List.forall_mem_cons.2 ⟨fun z => piece_q x inv 4 (by omega) _ z,
    List.forall_mem_cons.2 ⟨fun z => piece_q x inv 3 (by omega) _ z,
    List.forall_mem_cons.2 ⟨fun z => piece_q x inv 2 (by omega) _ z,
    List.forall_mem_cons.2 ⟨fun z => piece_q x inv 1 (by omega) _ z,
    List.forall_mem_cons.2 ⟨fun z => piece_q x inv 0 (by omega) _ z,
    List.forall_mem_nil _⟩⟩⟩⟩⟩⟩⟩⟩⟩⟩⟩⟩⟩⟩⟩⟩⟩⟩⟩⟩⟩⟩⟩⟩

theorem codes_pieces (i : grid1.Coords) (h : k1_cond2 i = 1#1) (x : Vec F S512x3072 .bf16) (inv : Vec F S512x128 .bf16) :
    ∀ p ∈ codesPieces i h x inv, ∀ z : p.1.shape.Idx, p.2 z = qB x inv (p.1.emb z) :=
  List.forall_mem_cons.2 ⟨fun z => piece_b i x inv 23 (by omega) _ _ (off1_eq i 2944 (by omega)) (k1_off1_inb i h 23) z,
    List.forall_mem_cons.2 ⟨fun z => piece_b i x inv 22 (by omega) _ _ (off1_eq i 2816 (by omega)) (k1_off1_inb i h 22) z,
    List.forall_mem_cons.2 ⟨fun z => piece_b i x inv 21 (by omega) _ _ (off1_eq i 2688 (by omega)) (k1_off1_inb i h 21) z,
    List.forall_mem_cons.2 ⟨fun z => piece_b i x inv 20 (by omega) _ _ (off1_eq i 2560 (by omega)) (k1_off1_inb i h 20) z,
    List.forall_mem_cons.2 ⟨fun z => piece_b i x inv 19 (by omega) _ _ (off1_eq i 2432 (by omega)) (k1_off1_inb i h 19) z,
    List.forall_mem_cons.2 ⟨fun z => piece_b i x inv 18 (by omega) _ _ (off1_eq i 2304 (by omega)) (k1_off1_inb i h 18) z,
    List.forall_mem_cons.2 ⟨fun z => piece_b i x inv 17 (by omega) _ _ (off1_eq i 2176 (by omega)) (k1_off1_inb i h 17) z,
    List.forall_mem_cons.2 ⟨fun z => piece_b i x inv 16 (by omega) _ _ (off1_eq i 2048 (by omega)) (k1_off1_inb i h 16) z,
    List.forall_mem_cons.2 ⟨fun z => piece_b i x inv 15 (by omega) _ _ (off1_eq i 1920 (by omega)) (k1_off1_inb i h 15) z,
    List.forall_mem_cons.2 ⟨fun z => piece_b i x inv 14 (by omega) _ _ (off1_eq i 1792 (by omega)) (k1_off1_inb i h 14) z,
    List.forall_mem_cons.2 ⟨fun z => piece_b i x inv 13 (by omega) _ _ (off1_eq i 1664 (by omega)) (k1_off1_inb i h 13) z,
    List.forall_mem_cons.2 ⟨fun z => piece_b i x inv 12 (by omega) _ _ (off1_eq i 1536 (by omega)) (k1_off1_inb i h 12) z,
    List.forall_mem_cons.2 ⟨fun z => piece_b i x inv 11 (by omega) _ _ (off1_eq i 1408 (by omega)) (k1_off1_inb i h 11) z,
    List.forall_mem_cons.2 ⟨fun z => piece_b i x inv 10 (by omega) _ _ (off1_eq i 1280 (by omega)) (k1_off1_inb i h 10) z,
    List.forall_mem_cons.2 ⟨fun z => piece_b i x inv 9 (by omega) _ _ (off1_eq i 1152 (by omega)) (k1_off1_inb i h 9) z,
    List.forall_mem_cons.2 ⟨fun z => piece_b i x inv 8 (by omega) _ _ (off1_eq i 1024 (by omega)) (k1_off1_inb i h 8) z,
    List.forall_mem_cons.2 ⟨fun z => piece_b i x inv 7 (by omega) _ _ (off1_eq i 896 (by omega)) (k1_off1_inb i h 7) z,
    List.forall_mem_cons.2 ⟨fun z => piece_b i x inv 6 (by omega) _ _ (off1_eq i 768 (by omega)) (k1_off1_inb i h 6) z,
    List.forall_mem_cons.2 ⟨fun z => piece_b i x inv 5 (by omega) _ _ (off1_eq i 640 (by omega)) (k1_off1_inb i h 5) z,
    List.forall_mem_cons.2 ⟨fun z => piece_b i x inv 4 (by omega) _ _ (off1_eq i 512 (by omega)) (k1_off1_inb i h 4) z,
    List.forall_mem_cons.2 ⟨fun z => piece_b i x inv 3 (by omega) _ _ (off1_eq i 384 (by omega)) (k1_off1_inb i h 3) z,
    List.forall_mem_cons.2 ⟨fun z => piece_b i x inv 2 (by omega) _ _ (off1_eq i 256 (by omega)) (k1_off1_inb i h 2) z,
    List.forall_mem_cons.2 ⟨fun z => piece_b i x inv 1 (by omega) _ _ (off1_eq i 128 (by omega)) (k1_off1_inb i h 1) z,
    List.forall_mem_cons.2 ⟨fun z => piece_b i x inv 0 (by omega) _ _ (off1_eq i 0 (by omega)) (k1_off1_inb i h 0) z,
    List.forall_mem_nil _⟩⟩⟩⟩⟩⟩⟩⟩⟩⟩⟩⟩⟩⟩⟩⟩⟩⟩⟩⟩⟩⟩⟩⟩

theorem codes_cover (i : grid1.Coords) (h : k1_cond2 i = 1#1) (x : Vec F S512x3072 .bf16) (inv : Vec F S512x128 .bf16) (y : S512x27648.Idx)
    (hy : 3072 * (i 1).val ≤ (y 1).val ∧ (y 1).val < 3072 * (i 1).val + 3072) : ∃ p ∈ codesPieces i h x inv, y ∈ p.1.set := by
  obtain ⟨j, hj, hy'⟩ : ∃ j, j < 24 ∧ 3072 * (i 1).val + 128 * j ≤ (y 1).val ∧ (y 1).val < 3072 * (i 1).val + 128 * j + 128 :=
    ⟨((y 1).val - 3072 * (i 1).val) / 128, by omega, by omega, by omega⟩
  match j, hj, hy' with
  | 0, _, hy' => exact ⟨_, List.mem_of_getElem? (i := 23) rfl, mem_b i 0 _ (off1_eq i 0 (by omega)) (k1_off1_inb i h 0) y hy'⟩
  | 1, _, hy' => exact ⟨_, List.mem_of_getElem? (i := 22) rfl, mem_b i 1 _ (off1_eq i 128 (by omega)) (k1_off1_inb i h 1) y hy'⟩
  | 2, _, hy' => exact ⟨_, List.mem_of_getElem? (i := 21) rfl, mem_b i 2 _ (off1_eq i 256 (by omega)) (k1_off1_inb i h 2) y hy'⟩
  | 3, _, hy' => exact ⟨_, List.mem_of_getElem? (i := 20) rfl, mem_b i 3 _ (off1_eq i 384 (by omega)) (k1_off1_inb i h 3) y hy'⟩
  | 4, _, hy' => exact ⟨_, List.mem_of_getElem? (i := 19) rfl, mem_b i 4 _ (off1_eq i 512 (by omega)) (k1_off1_inb i h 4) y hy'⟩
  | 5, _, hy' => exact ⟨_, List.mem_of_getElem? (i := 18) rfl, mem_b i 5 _ (off1_eq i 640 (by omega)) (k1_off1_inb i h 5) y hy'⟩
  | 6, _, hy' => exact ⟨_, List.mem_of_getElem? (i := 17) rfl, mem_b i 6 _ (off1_eq i 768 (by omega)) (k1_off1_inb i h 6) y hy'⟩
  | 7, _, hy' => exact ⟨_, List.mem_of_getElem? (i := 16) rfl, mem_b i 7 _ (off1_eq i 896 (by omega)) (k1_off1_inb i h 7) y hy'⟩
  | 8, _, hy' => exact ⟨_, List.mem_of_getElem? (i := 15) rfl, mem_b i 8 _ (off1_eq i 1024 (by omega)) (k1_off1_inb i h 8) y hy'⟩
  | 9, _, hy' => exact ⟨_, List.mem_of_getElem? (i := 14) rfl, mem_b i 9 _ (off1_eq i 1152 (by omega)) (k1_off1_inb i h 9) y hy'⟩
  | 10, _, hy' => exact ⟨_, List.mem_of_getElem? (i := 13) rfl, mem_b i 10 _ (off1_eq i 1280 (by omega)) (k1_off1_inb i h 10) y hy'⟩
  | 11, _, hy' => exact ⟨_, List.mem_of_getElem? (i := 12) rfl, mem_b i 11 _ (off1_eq i 1408 (by omega)) (k1_off1_inb i h 11) y hy'⟩
  | 12, _, hy' => exact ⟨_, List.mem_of_getElem? (i := 11) rfl, mem_b i 12 _ (off1_eq i 1536 (by omega)) (k1_off1_inb i h 12) y hy'⟩
  | 13, _, hy' => exact ⟨_, List.mem_of_getElem? (i := 10) rfl, mem_b i 13 _ (off1_eq i 1664 (by omega)) (k1_off1_inb i h 13) y hy'⟩
  | 14, _, hy' => exact ⟨_, List.mem_of_getElem? (i := 9) rfl, mem_b i 14 _ (off1_eq i 1792 (by omega)) (k1_off1_inb i h 14) y hy'⟩
  | 15, _, hy' => exact ⟨_, List.mem_of_getElem? (i := 8) rfl, mem_b i 15 _ (off1_eq i 1920 (by omega)) (k1_off1_inb i h 15) y hy'⟩
  | 16, _, hy' => exact ⟨_, List.mem_of_getElem? (i := 7) rfl, mem_b i 16 _ (off1_eq i 2048 (by omega)) (k1_off1_inb i h 16) y hy'⟩
  | 17, _, hy' => exact ⟨_, List.mem_of_getElem? (i := 6) rfl, mem_b i 17 _ (off1_eq i 2176 (by omega)) (k1_off1_inb i h 17) y hy'⟩
  | 18, _, hy' => exact ⟨_, List.mem_of_getElem? (i := 5) rfl, mem_b i 18 _ (off1_eq i 2304 (by omega)) (k1_off1_inb i h 18) y hy'⟩
  | 19, _, hy' => exact ⟨_, List.mem_of_getElem? (i := 4) rfl, mem_b i 19 _ (off1_eq i 2432 (by omega)) (k1_off1_inb i h 19) y hy'⟩
  | 20, _, hy' => exact ⟨_, List.mem_of_getElem? (i := 3) rfl, mem_b i 20 _ (off1_eq i 2560 (by omega)) (k1_off1_inb i h 20) y hy'⟩
  | 21, _, hy' => exact ⟨_, List.mem_of_getElem? (i := 2) rfl, mem_b i 21 _ (off1_eq i 2688 (by omega)) (k1_off1_inb i h 21) y hy'⟩
  | 22, _, hy' => exact ⟨_, List.mem_of_getElem? (i := 1) rfl, mem_b i 22 _ (off1_eq i 2816 (by omega)) (k1_off1_inb i h 22) y hy'⟩
  | 23, _, hy' => exact ⟨_, List.mem_of_getElem? (i := 0) rfl, mem_b i 23 _ (off1_eq i 2944 (by omega)) (k1_off1_inb i h 23) y hy'⟩
  | n + 24, h, _ => exact absurd h (by omega)

theorem codes_off (i : grid1.Coords) (h : k1_cond2 i = 1#1) (x : Vec F S512x3072 .bf16) (inv : Vec F S512x128 .bf16) (y : S512x27648.Idx)
    (hy : ¬(3072 * (i 1).val ≤ (y 1).val ∧ (y 1).val < 3072 * (i 1).val + 3072)) : ∀ p ∈ codesPieces i h x inv, y ∉ p.1.set :=
  List.forall_mem_cons.2 ⟨not_mem_b i 23 (by omega) _ (off1_eq i 2944 (by omega)) (k1_off1_inb i h 23) y hy,
    List.forall_mem_cons.2 ⟨not_mem_b i 22 (by omega) _ (off1_eq i 2816 (by omega)) (k1_off1_inb i h 22) y hy,
    List.forall_mem_cons.2 ⟨not_mem_b i 21 (by omega) _ (off1_eq i 2688 (by omega)) (k1_off1_inb i h 21) y hy,
    List.forall_mem_cons.2 ⟨not_mem_b i 20 (by omega) _ (off1_eq i 2560 (by omega)) (k1_off1_inb i h 20) y hy,
    List.forall_mem_cons.2 ⟨not_mem_b i 19 (by omega) _ (off1_eq i 2432 (by omega)) (k1_off1_inb i h 19) y hy,
    List.forall_mem_cons.2 ⟨not_mem_b i 18 (by omega) _ (off1_eq i 2304 (by omega)) (k1_off1_inb i h 18) y hy,
    List.forall_mem_cons.2 ⟨not_mem_b i 17 (by omega) _ (off1_eq i 2176 (by omega)) (k1_off1_inb i h 17) y hy,
    List.forall_mem_cons.2 ⟨not_mem_b i 16 (by omega) _ (off1_eq i 2048 (by omega)) (k1_off1_inb i h 16) y hy,
    List.forall_mem_cons.2 ⟨not_mem_b i 15 (by omega) _ (off1_eq i 1920 (by omega)) (k1_off1_inb i h 15) y hy,
    List.forall_mem_cons.2 ⟨not_mem_b i 14 (by omega) _ (off1_eq i 1792 (by omega)) (k1_off1_inb i h 14) y hy,
    List.forall_mem_cons.2 ⟨not_mem_b i 13 (by omega) _ (off1_eq i 1664 (by omega)) (k1_off1_inb i h 13) y hy,
    List.forall_mem_cons.2 ⟨not_mem_b i 12 (by omega) _ (off1_eq i 1536 (by omega)) (k1_off1_inb i h 12) y hy,
    List.forall_mem_cons.2 ⟨not_mem_b i 11 (by omega) _ (off1_eq i 1408 (by omega)) (k1_off1_inb i h 11) y hy,
    List.forall_mem_cons.2 ⟨not_mem_b i 10 (by omega) _ (off1_eq i 1280 (by omega)) (k1_off1_inb i h 10) y hy,
    List.forall_mem_cons.2 ⟨not_mem_b i 9 (by omega) _ (off1_eq i 1152 (by omega)) (k1_off1_inb i h 9) y hy,
    List.forall_mem_cons.2 ⟨not_mem_b i 8 (by omega) _ (off1_eq i 1024 (by omega)) (k1_off1_inb i h 8) y hy,
    List.forall_mem_cons.2 ⟨not_mem_b i 7 (by omega) _ (off1_eq i 896 (by omega)) (k1_off1_inb i h 7) y hy,
    List.forall_mem_cons.2 ⟨not_mem_b i 6 (by omega) _ (off1_eq i 768 (by omega)) (k1_off1_inb i h 6) y hy,
    List.forall_mem_cons.2 ⟨not_mem_b i 5 (by omega) _ (off1_eq i 640 (by omega)) (k1_off1_inb i h 5) y hy,
    List.forall_mem_cons.2 ⟨not_mem_b i 4 (by omega) _ (off1_eq i 512 (by omega)) (k1_off1_inb i h 4) y hy,
    List.forall_mem_cons.2 ⟨not_mem_b i 3 (by omega) _ (off1_eq i 384 (by omega)) (k1_off1_inb i h 3) y hy,
    List.forall_mem_cons.2 ⟨not_mem_b i 2 (by omega) _ (off1_eq i 256 (by omega)) (k1_off1_inb i h 2) y hy,
    List.forall_mem_cons.2 ⟨not_mem_b i 1 (by omega) _ (off1_eq i 128 (by omega)) (k1_off1_inb i h 1) y hy,
    List.forall_mem_cons.2 ⟨not_mem_b i 0 (by omega) _ (off1_eq i 0 (by omega)) (k1_off1_inb i h 0) y hy,
    List.forall_mem_nil _⟩⟩⟩⟩⟩⟩⟩⟩⟩⟩⟩⟩⟩⟩⟩⟩⟩⟩⟩⟩⟩⟩⟩⟩

/-- The codes after a block is put in: the block's own where it lies, the old ones elsewhere. -/
theorem codesPut_in (i : grid1.Coords) (h : k1_cond2 i = 1#1) (x : Vec F S512x3072 .bf16) (inv : Vec F S512x128 .bf16) (g : Vec F S512x27648 .fp8e4m3)
    (y : S512x27648.Idx) (hy : 3072 * (i 1).val ≤ (y 1).val ∧ (y 1).val < 3072 * (i 1).val + 3072) : codesPut i h x inv g y = qB x inv y :=
  over_in g (qB x inv) _ (codes_pieces i h x inv) y (codes_cover i h x inv y hy)

theorem codesPut_out (i : grid1.Coords) (h : k1_cond2 i = 1#1) (x : Vec F S512x3072 .bf16) (inv : Vec F S512x128 .bf16) (g : Vec F S512x27648 .fp8e4m3)
    (y : S512x27648.Idx) (hy : ¬(3072 * (i 1).val ≤ (y 1).val ∧ (y 1).val < 3072 * (i 1).val + 3072)) : codesPut i h x inv g y = g y :=
  over_out g _ y (codes_off i h x inv y hy)

/-- Loading block `k` of codes that are the quantised block there gives the quantised block. -/
theorem ld_codes (i : grid1.Coords) (x : Vec F S512x3072 .bf16) (inv : Vec F S512x128 .bf16) (g : Vec F S512x27648 .fp8e4m3)
    (hg : ∀ y : S512x27648.Idx, 3072 * (i 1).val ≤ (y 1).val ∧ (y 1).val < 3072 * (i 1).val + 3072 → g y = qB x inv y)
    (inb : ∀ a, k1_off2 i a + S512x3072.size a ≤ S512x27648.size a) :
    View.ld (Val := Elt F) (e' := .fp8e4m3) g (Rect.unit (s := S512x27648) (k1_off2 i) S512x3072.size inb) = qOut x inv := by
  funext z
  rw [qOut_apply]
  have h1 : (z 1).val < 3072 := idx2_lt1 (n0 := 512) (n1 := 3072) z
  have e0 : k1_off2 i 0 = 0 := by rw [off2_eq]; rfl
  have e1 : k1_off2 i 1 = 3072 * (i 1).val := by rw [off2_eq]; rfl
  have v0 : ((Rect.unit (s := S512x27648) (k1_off2 i) S512x3072.size inb).emb z 0).val = (z 0).val := by
    show k1_off2 i 0 + 1 * (z 0).val = _; omega
  have v1 : ((Rect.unit (s := S512x27648) (k1_off2 i) S512x3072.size inb).emb z 1).val = 3072 * (i 1).val + (z 1).val := by
    show k1_off2 i 1 + 1 * (z 1).val = _; omega
  refine (hg ((Rect.unit (s := S512x27648) (k1_off2 i) S512x3072.size inb).emb z) ⟨by omega, by omega⟩).trans ?_
  unfold qB qG
  refine congrArg₂ qelt (congrArg x ?_) (congrArg inv ?_)
  · funext a
    match a with
    | ⟨0, _⟩ => exact Fin.ext v0
    | ⟨1, _⟩ => exact Fin.ext ((congrArg (· % 3072) v1).trans (by show (3072 * (i 1).val + (z 1).val) % 3072 = (z 1).val; omega))
  · funext a
    match a with
    | ⟨0, _⟩ => exact Fin.ext v0
    | ⟨1, _⟩ => exact Fin.ext ((congrArg (· % 128) v1).trans (by show (3072 * (i 1).val + (z 1).val) % 128 = (z 1).val % 128; omega))

theorem ld_codes_canon (i : grid1.Coords) (h : k1_cond2 i = 1#1) (x : Vec F S512x3072 .bf16) (inv : Vec F S512x128 .bf16)
    (inb : ∀ a, k1_off2 i a + S512x3072.size a ≤ S512x27648.size a) :
    View.ld (Val := Elt F) (e' := .fp8e4m3) (View.canon (codesPieces i h x inv)) (Rect.unit (s := S512x27648) (k1_off2 i) S512x3072.size inb) = qOut x inv :=
  ld_codes i x inv _ (fun y hy => View.canon_apply_of_pieces (qB x inv) _ (codes_pieces i h x inv) y (codes_cover i h x inv y hy)) inb

end Cert.KernelIdeal.Own

end
-- ==== Proof.PI.Data1.lean ====
module

public import proofs.«01_k».proof.Proof.PI.Codes
public import Idealize.ShloMosaic.Lib.Pipeline.FrameBody
public import Idealize.ShloMosaic.Lib.Pipeline.TableIdle

@[expose] public section

set_option maxRecDepth 16384

noncomputable section

namespace Cert.KernelIdeal.Own

open Cert.KernelIdeal Cert.KernelIdeal.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear region: its proof data -/

variable (W : Dev nD → Valuation τ sig (Elt F))

/-- Window `w`'s block at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- Point number `n` (wrapped round). -/
def pt1 (n : ℕ) : Fin cfg1.N := ⟨n % 90, lt_of_lt_of_eq (Nat.mod_lt _ (by omega)) (show 90 = cfg1.N from N_1.symm)⟩

theorem pt1_val (t : Fin cfg1.N) : pt1 t.val = t :=
  Fin.ext (Nat.mod_eq_of_lt (lt_of_lt_of_eq t.isLt (show cfg1.N = 90 from N_1)))

/-- The scales, and their reciprocals, as the first point lays them out. -/
def sB (c : Dev nD) : Vec F S512x128 .f32 := sOut (iblk1 W c 2 (pt1 0))
def invB (c : Dev nD) : Vec F S512x128 .bf16 := invOut (iblk1 W c 2 (pt1 0))
/-- Block `k` of the quantised matrix. -/
def qk (c : Dev nD) (k : ℕ) : Vec F S512x3072 .fp8e4m3 := qOut (iblk1 W c 0 (pt1 k)) (invB W c)

/-- What the accumulator holds after `n` points. -/
def acc1 (c : Dev nD) : ℕ → Vec F S512x512 .f32
  | 0 => k1_pay5
  | n + 1 => k1_pay6 (qk W c (n % 9)) (if n % 9 = 0 then k1_pay5 else acc1 c n) (iblk1 W c 1 (pt1 n))

theorem acc1_first (c : Dev nD) (t : Fin cfg1.N) (h : t.val % 9 = 0) :
    acc1 W c (t.val + 1) = k1_pay6 (qk W c (t.val % 9)) k1_pay5 (iblk1 W c 1 t) := by
  show k1_pay6 (qk W c (t.val % 9)) (if t.val % 9 = 0 then k1_pay5 else acc1 W c t.val) (iblk1 W c 1 (pt1 t.val)) = _
  rw [pt1_val, if_pos h]
theorem acc1_later (c : Dev nD) (t : Fin cfg1.N) (h : t.val % 9 ≠ 0) :
    acc1 W c (t.val + 1) = k1_pay6 (qk W c (t.val % 9)) (acc1 W c t.val) (iblk1 W c 1 t) := by
  show k1_pay6 (qk W c (t.val % 9)) (if t.val % 9 = 0 then k1_pay5 else acc1 W c t.val) (iblk1 W c 1 (pt1 t.val)) = _
  rw [pt1_val, if_neg h]

/-- The codes hold the first `n` blocks of the quantised matrix. -/
def Good (c : Dev nD) (n : ℕ) (codes : Vec F S512x27648 .fp8e4m3) : Prop :=
  ∀ y : S512x27648.Idx, (y 1).val < 3072 * min 9 n → codes y = qB (iblk1 W c 0 (pt1 ((y 1).val / 3072))) (invB W c) y

abbrev scM1_0 : Memref sig .tc .vmem S512x27648 .fp8e4m3 := Memref.whole cc1_scratch0
abbrev scM1_1 : Memref sig .tc .vmem S512x512 .f32 := Memref.whole cc1_scratch1
abbrev scM1_2 : Memref sig .tc .vmem S512x128 .f32 := Memref.whole cc1_scratch2
abbrev scM1_3 : Memref sig .tc .vmem S512x128 .bf16 := Memref.whole cc1_scratch3

/-- The four scratch buffers before point `n`. -/
def scr1 (c : Dev nD) : ℕ → sProp 𝕄
  | 0 => iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d))
  | n + 1 => iprop((∃ codes, ⌜Good W c (n + 1) codes⌝ ∗ owns (c : Thread nD τ) scM1_0 fullShare codes) ∗ owns (c : Thread nD τ) scM1_1 fullShare (acc1 W c (n + 1)) ∗ owns (c : Thread nD τ) scM1_2 fullShare (sB W c) ∗ owns (c : Thread nD τ) scM1_3 fullShare (invB W c))

theorem scr1_zero (c : Dev nD) : scr1 W c 0 = iprop((∃ d, owns (c : Thread nD τ) scM1_0 fullShare d) ∗ (∃ d, owns (c : Thread nD τ) scM1_1 fullShare d) ∗ (∃ d, owns (c : Thread nD τ) scM1_2 fullShare d) ∗ (∃ d, owns (c : Thread nD τ) scM1_3 fullShare d)) := rfl
theorem scr1_pos (c : Dev nD) (n : ℕ) (h : n ≠ 0) :
    scr1 W c n = iprop((∃ codes, ⌜Good W c n codes⌝ ∗ owns (c : Thread nD τ) scM1_0 fullShare codes) ∗ owns (c : Thread nD τ) scM1_1 fullShare (acc1 W c n) ∗ owns (c : Thread nD τ) scM1_2 fullShare (sB W c) ∗ owns (c : Thread nD τ) scM1_3 fullShare (invB W c)) := by
  cases n with
  | zero => exact absurd rfl h
  | succ n => rfl

/-- The other scoped buffers: the first kernel's. -/
def rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f))

/-- The region's proof data: the arrays as `W` has them; each input's buffer keeps its block; the first output's buffer
    holds, at the last point of a column block, the finished block; the second's the quantised block. -/
def dat1 (c : Dev nD) : Dat τ (Elt F) Unit ℕ (UR sig nD τ) ℕ cfg1 c where
  A w := W c (Proc.devRef .tc (Pipeline.arrRef spec1 w))
  after w t := match w with
    | ⟨0, _⟩ => iblk1 W c 0 t
    | ⟨1, _⟩ => iblk1 W c 1 t
    | ⟨2, _⟩ => iblk1 W c 2 t
    | ⟨3, _⟩ => iblk1 W c 3 t
    | ⟨4, _⟩ => iblk1 W c 4 t
    | ⟨5, _⟩ => iblk1 W c 5 t
    | ⟨6, _⟩ => k1_pay7 (iblk1 W c 4 t) (iblk1 W c 5 t) (sB W c) (acc1 W c (t.val + 1)) (iblk1 W c 3 t)
    | ⟨7, _⟩ => qk W c (min t.val 8)
  Φ t := iprop(scr1 W c t.val ∗ rest1 c)
  q _ := fullShare
  owed _ := 0

theorem A1_eq (c : Dev nD) (w : Fin cfg1.W) : (dat1 W c).A w = W c (Proc.devRef .tc (Pipeline.arrRef spec1 w)) := by
  dsimp only [dat1]
theorem after1_0 (c : Dev nD) (t : Fin cfg1.N) : (dat1 W c).after 0 t = iblk1 W c 0 t := by dsimp only [dat1]
theorem after1_1 (c : Dev nD) (t : Fin cfg1.N) : (dat1 W c).after 1 t = iblk1 W c 1 t := by dsimp only [dat1]
theorem after1_2 (c : Dev nD) (t : Fin cfg1.N) : (dat1 W c).after 2 t = iblk1 W c 2 t := by dsimp only [dat1]
theorem after1_3 (c : Dev nD) (t : Fin cfg1.N) : (dat1 W c).after 3 t = iblk1 W c 3 t := by dsimp only [dat1]
theorem after1_4 (c : Dev nD) (t : Fin cfg1.N) : (dat1 W c).after 4 t = iblk1 W c 4 t := by dsimp only [dat1]
theorem after1_5 (c : Dev nD) (t : Fin cfg1.N) : (dat1 W c).after 5 t = iblk1 W c 5 t := by dsimp only [dat1]
theorem after1_6 (c : Dev nD) (t : Fin cfg1.N) : (dat1 W c).after 6 t = k1_pay7 (iblk1 W c 4 t) (iblk1 W c 5 t) (sB W c) (acc1 W c (t.val + 1)) (iblk1 W c 3 t) := by dsimp only [dat1]
theorem after1_7 (c : Dev nD) (t : Fin cfg1.N) : (dat1 W c).after 7 t = qk W c (min t.val 8) := by dsimp only [dat1]
theorem before1_0 (c : Dev nD) (t : Fin cfg1.N) (d) : (dat1 W c).before 0 t d = iblk1 W c 0 t :=
  ((dat1 W c).before_in_eq_fetched 0 rfl (fun _ => rfl) (fun _ _ _ => rfl) (fun t => by rw [after1_0]; unfold Dat.blockOf iblk1; rw [A1_eq]; try rfl) t d).trans
    (by unfold Dat.fetched Dat.blockOf iblk1; rw [A1_eq]; try rfl)
theorem before1_1 (c : Dev nD) (t : Fin cfg1.N) (d) : (dat1 W c).before 1 t d = iblk1 W c 1 t :=
  ((dat1 W c).before_in_eq_fetched 1 rfl (fun _ => rfl) (fun _ _ _ => rfl) (fun t => by rw [after1_1]; unfold Dat.blockOf iblk1; rw [A1_eq]; try rfl) t d).trans
    (by unfold Dat.fetched Dat.blockOf iblk1; rw [A1_eq]; try rfl)
theorem before1_2 (c : Dev nD) (t : Fin cfg1.N) (d) : (dat1 W c).before 2 t d = iblk1 W c 2 t :=
  ((dat1 W c).before_in_eq_fetched 2 rfl (fun _ => rfl) (fun _ _ _ => rfl) (fun t => by rw [after1_2]; unfold Dat.blockOf iblk1; rw [A1_eq]; try rfl) t d).trans
    (by unfold Dat.fetched Dat.blockOf iblk1; rw [A1_eq]; try rfl)
theorem before1_3 (c : Dev nD) (t : Fin cfg1.N) (d) : (dat1 W c).before 3 t d = iblk1 W c 3 t :=
  ((dat1 W c).before_in_eq_fetched 3 rfl (fun _ => rfl) (fun _ _ _ => rfl) (fun t => by rw [after1_3]; unfold Dat.blockOf iblk1; rw [A1_eq]; try rfl) t d).trans
    (by unfold Dat.fetched Dat.blockOf iblk1; rw [A1_eq]; try rfl)
theorem before1_4 (c : Dev nD) (t : Fin cfg1.N) (d) : (dat1 W c).before 4 t d = iblk1 W c 4 t :=
  ((dat1 W c).before_in_eq_fetched 4 rfl (fun _ => rfl) (fun _ _ _ => rfl) (fun t => by rw [after1_4]; unfold Dat.blockOf iblk1; rw [A1_eq]; try rfl) t d).trans
    (by unfold Dat.fetched Dat.blockOf iblk1; rw [A1_eq]; try rfl)
theorem before1_5 (c : Dev nD) (t : Fin cfg1.N) (d) : (dat1 W c).before 5 t d = iblk1 W c 5 t :=
  ((dat1 W c).before_in_eq_fetched 5 rfl (fun _ => rfl) (fun _ _ _ => rfl) (fun t => by rw [after1_5]; unfold Dat.blockOf iblk1; rw [A1_eq]; try rfl) t d).trans
    (by unfold Dat.fetched Dat.blockOf iblk1; rw [A1_eq]; try rfl)

/-! ## Where the branches are taken, where the outputs are idle -/

theorem hcond1_0 : ∀ t : Fin cfg1.N, cond1_0 (grid1.coords t) ↔ t.val = 0 :=
  (fun t => by
    have ht : t.val < 90 := Nat.lt_of_lt_of_eq t.isLt N_1
    have e0 : (grid1.coords t 0).val = t.val / 9 % 10 := Pipeline.Grid.coords_val t 0 (by decide) rfl
    have e1 : (grid1.coords t 1).val = t.val / 1 % 9 := Pipeline.Grid.coords_val t 1 (by decide) rfl
    simp only [cond1_0, e0, e1]
    word_cmp
   : ∀ t : Fin grid1.N, cond1_0 (grid1.coords t) ↔ t.val = 0)
theorem hcond1_1 : ∀ t : Fin cfg1.N, cond1_1 (grid1.coords t) ↔ t.val < 9 :=
  (fun t => by
    have ht : t.val < 90 := Nat.lt_of_lt_of_eq t.isLt N_1
    have e0 : (grid1.coords t 0).val = t.val / 9 % 10 := Pipeline.Grid.coords_val t 0 (by decide) rfl
    have e1 : (grid1.coords t 1).val = t.val / 1 % 9 := Pipeline.Grid.coords_val t 1 (by decide) rfl
    simp only [cond1_1, k1_cond2, e0, e1]
    word_cmp
   : ∀ t : Fin grid1.N, cond1_1 (grid1.coords t) ↔ t.val < 9)
theorem hcond1_2 : ∀ t : Fin cfg1.N, cond1_2 (grid1.coords t) ↔ t.val % 9 = 0 :=
  (fun t => by
    have ht : t.val < 90 := Nat.lt_of_lt_of_eq t.isLt N_1
    have e0 : (grid1.coords t 0).val = t.val / 9 % 10 := Pipeline.Grid.coords_val t 0 (by decide) rfl
    have e1 : (grid1.coords t 1).val = t.val / 1 % 9 := Pipeline.Grid.coords_val t 1 (by decide) rfl
    simp only [cond1_2, e0, e1]
    word_cmp
   : ∀ t : Fin grid1.N, cond1_2 (grid1.coords t) ↔ t.val % 9 = 0)
theorem hcond1_3 : ∀ t : Fin cfg1.N, cond1_3 (grid1.coords t) ↔ t.val % 9 = 8 :=
  (fun t => by
    have ht : t.val < 90 := Nat.lt_of_lt_of_eq t.isLt N_1
    have e0 : (grid1.coords t 0).val = t.val / 9 % 10 := Pipeline.Grid.coords_val t 0 (by decide) rfl
    have e1 : (grid1.coords t 1).val = t.val / 1 % 9 := Pipeline.Grid.coords_val t 1 (by decide) rfl
    simp only [cond1_3, k1_cond4, e0, e1]
    word_cmp
   : ∀ t : Fin grid1.N, cond1_3 (grid1.coords t) ↔ t.val % 9 = 8)
theorem coord1_1 (t : Fin cfg1.N) : (grid1.coords t 1).val = t.val % 9 :=
  ((Pipeline.Grid.coords_val (G := grid1) t 1 (by decide) rfl : (grid1.coords t 1).val = t.val / 1 % 9)).trans (by rw [Nat.div_one])
theorem idleAt1_6 : ∀ t : Fin cfg1.N, ¬cond1_3 (grid1.coords t) → cfg1.idle 6 (grid1.coords t) = true := by decide +kernel
theorem noFlush1_6 : ∀ t : Fin cfg1.N, ¬cond1_3 (grid1.coords t) → (cfg1.win 6).flush t = false := by decide +kernel
theorem liveAt1_6 : ∀ t : Fin cfg1.N, cond1_3 (grid1.coords t) → cfg1.idle 6 (grid1.coords t) = false := by decide +kernel
theorem idleAt1_7 : ∀ t : Fin cfg1.N, ¬cond1_1 (grid1.coords t) → cfg1.idle 7 (grid1.coords t) = true := by decide +kernel
theorem liveAt1_7 : ∀ t : Fin cfg1.N, cond1_1 (grid1.coords t) → cfg1.idle 7 (grid1.coords t) = false := by decide +kernel
theorem idle_late1_7 : ∀ t : Fin cfg1.N, cfg1.idle 7 (grid1.coords t) = true → 9 ≤ t.val := by decide +kernel
theorem fresh1_7 : ∀ t : Fin cfg1.N, 9 ≤ t.val → cfg1.fresh 7 t.val = false := by decide +kernel

/-- From point 9 on the second output's buffer is left alone: it holds the last quantised block. -/
theorem before1_7 (c : Dev nD) (t : Fin cfg1.N) (ht : 9 ≤ t.val) (d) : (dat1 W c).before 7 t d = qk W c 8 := by
  rw [(dat1 W c).before_out_traj 7 rfl (fun _ _ => rfl) (fun u hu hi hf => by
    have h9 := idle_late1_7 u hi
    rw [after1_7, after1_7]
    exact congrArg (qk W c) (by show min u.val 8 = min (u.val - 1) 8; omega)) t.val t rfl d, fresh1_7 t ht]
  rw [if_neg Bool.false_ne_true, after1_7]
  exact congrArg (qk W c) (by show min (t.val - 1) 8 = 8; omega)

theorem leaves1_7_late (c : Dev nD) (t : Fin cfg1.N) (ht : 9 ≤ t.val) (hi : cfg1.idle 7 (grid1.coords t) = true) :
    owns (c : Thread nD τ) ((cfg1.win 7).stage (cfg1.slots t 7)) fullShare (qk W c 8) ⊢ ((dat1 W c).leavesExact 7 t : sProp 𝕄) := by
  by_cases hf : (cfg1.win 7).flush t = true
  · rw [show (dat1 W c).leavesExact 7 t = owns (c : Thread nD τ) ((cfg1.win 7).stage (cfg1.slots t 7)) fullShare ((dat1 W c).after 7 t) from by
      unfold Dat.leavesExact; rw [hf, show cfg1.idle 7 (cfg1.grid.coords t) = true from hi], after1_7, show min t.val 8 = 8 by omega]
  · rw [Dat.leavesExact_idle (dat1 W c) 7 t hi (by simpa using hf)]
    simp only [before1_7 W c t ht]
    iintro H
    iexists (fun _ => default)
    iexact H

/-! ## The codes, point by point -/

theorem good_put (c : Dev nD) (t : Fin cfg1.N) (h : k1_cond2 (grid1.coords t) = 1#1) (ht : t.val < 9) (codes : Vec F S512x27648 .fp8e4m3)
    (hg : t.val ≠ 0 → Good W c t.val codes) : Good W c (t.val + 1) (codesPut (grid1.coords t) h (iblk1 W c 0 t) (invB W c) codes) := by
  intro y hy
  have e1 := coord1_1 t
  by_cases hin : 3072 * (grid1.coords t 1).val ≤ (y 1).val ∧ (y 1).val < 3072 * (grid1.coords t 1).val + 3072
  · rw [codesPut_in (grid1.coords t) h _ _ _ y hin, show (y 1).val / 3072 = t.val by omega, pt1_val]
  · rw [codesPut_out (grid1.coords t) h _ _ _ y hin]
    exact hg (by omega) y (by omega)

theorem good_late (c : Dev nD) (n : ℕ) (hn : 9 ≤ n) (codes : Vec F S512x27648 .fp8e4m3) (hg : Good W c n codes) : Good W c (n + 1) codes :=
  fun y hy => hg y (by omega)

theorem ld_early (c : Dev nD) (t : Fin cfg1.N) (h : k1_cond2 (grid1.coords t) = 1#1) (ht : t.val < 9)
    (inb : ∀ a, k1_off2 (grid1.coords t) a + S512x3072.size a ≤ S512x27648.size a) :
    View.ld (Val := Elt F) (e' := .fp8e4m3) (View.canon (codesPieces (grid1.coords t) h (iblk1 W c 0 t) (invB W c))) (Rect.unit (s := S512x27648) (k1_off2 (grid1.coords t)) S512x3072.size inb) = qk W c (t.val % 9) := by
  rw [ld_codes_canon, qk, show t.val % 9 = t.val by omega, pt1_val]

theorem ld_late (c : Dev nD) (t : Fin cfg1.N) (ht : 9 ≤ t.val) (codes : Vec F S512x27648 .fp8e4m3) (hg : Good W c t.val codes)
    (inb : ∀ a, k1_off2 (grid1.coords t) a + S512x3072.size a ≤ S512x27648.size a) :
    View.ld (Val := Elt F) (e' := .fp8e4m3) codes (Rect.unit (s := S512x27648) (k1_off2 (grid1.coords t)) S512x3072.size inb) = qk W c (t.val % 9) := by
  have e1 := coord1_1 t
  have h9 : t.val % 9 < 9 := Nat.mod_lt _ (by omega)
  refine ld_codes (grid1.coords t) (iblk1 W c 0 (pt1 (t.val % 9))) (invB W c) codes (fun y hy => ?_) inb
  rw [hg y (by omega), show (y 1).val / 3072 = t.val % 9 by omega]

/-! ## The body at a point -/

abbrev stg1 (w : Fin cfg1.W) (t : Fin cfg1.N) := (cfg1.win w).stage (cfg1.slots t w)

def bodyPre1 (c : Dev nD) (t : Fin cfg1.N) : sProp 𝕄 :=
  iprop((dat1 W c).Φ t.castSucc ∗ (dat1 W c).owesAt () t.castSucc
    ∗ (∃ d, owns (c : Thread nD τ) (stg1 0 t) fullShare ((dat1 W c).before 0 t d))
    ∗ (∃ d, owns (c : Thread nD τ) (stg1 1 t) fullShare ((dat1 W c).before 1 t d))
    ∗ (∃ d, owns (c : Thread nD τ) (stg1 2 t) fullShare ((dat1 W c).before 2 t d))
    ∗ (∃ d, owns (c : Thread nD τ) (stg1 3 t) fullShare ((dat1 W c).before 3 t d))
    ∗ (∃ d, owns (c : Thread nD τ) (stg1 4 t) fullShare ((dat1 W c).before 4 t d))
    ∗ (∃ d, owns (c : Thread nD τ) (stg1 5 t) fullShare ((dat1 W c).before 5 t d))
    ∗ (∃ d, owns (c : Thread nD τ) (stg1 6 t) fullShare ((dat1 W c).before 6 t d))
    ∗ (∃ d, owns (c : Thread nD τ) (stg1 7 t) fullShare ((dat1 W c).before 7 t d)))

def bodyPost1 (c : Dev nD) (t : Fin cfg1.N) : sProp 𝕄 :=
  iprop((dat1 W c).Φ t.succ ∗ (dat1 W c).owesAt () t.succ
    ∗ (dat1 W c).leavesExact 0 t ∗ (dat1 W c).leavesExact 1 t ∗ (dat1 W c).leavesExact 2 t ∗ (dat1 W c).leavesExact 3 t ∗ (dat1 W c).leavesExact 4 t ∗ (dat1 W c).leavesExact 5 t ∗ (dat1 W c).leavesExact 6 t ∗ (dat1 W c).leavesExact 7 t)

theorem leaves1_0 (c : Dev nD) (t : Fin cfg1.N) : (dat1 W c).leavesExact 0 t = owns (c : Thread nD τ) (stg1 0 t) fullShare (iblk1 W c 0 t) := by
  unfold Dat.leavesExact; rw [show cfg1.idle 0 (cfg1.grid.coords t) = false from rfl, after1_0]
theorem leaves1_1 (c : Dev nD) (t : Fin cfg1.N) : (dat1 W c).leavesExact 1 t = owns (c : Thread nD τ) (stg1 1 t) fullShare (iblk1 W c 1 t) := by
  unfold Dat.leavesExact; rw [show cfg1.idle 1 (cfg1.grid.coords t) = false from rfl, after1_1]
theorem leaves1_2 (c : Dev nD) (t : Fin cfg1.N) : (dat1 W c).leavesExact 2 t = owns (c : Thread nD τ) (stg1 2 t) fullShare (iblk1 W c 2 t) := by
  unfold Dat.leavesExact; rw [show cfg1.idle 2 (cfg1.grid.coords t) = false from rfl, after1_2]
theorem leaves1_3 (c : Dev nD) (t : Fin cfg1.N) : (dat1 W c).leavesExact 3 t = owns (c : Thread nD τ) (stg1 3 t) fullShare (iblk1 W c 3 t) := by
  unfold Dat.leavesExact; rw [show cfg1.idle 3 (cfg1.grid.coords t) = false from rfl, after1_3]
theorem leaves1_4 (c : Dev nD) (t : Fin cfg1.N) : (dat1 W c).leavesExact 4 t = owns (c : Thread nD τ) (stg1 4 t) fullShare (iblk1 W c 4 t) := by
  unfold Dat.leavesExact; rw [show cfg1.idle 4 (cfg1.grid.coords t) = false from rfl, after1_4]
theorem leaves1_5 (c : Dev nD) (t : Fin cfg1.N) : (dat1 W c).leavesExact 5 t = owns (c : Thread nD τ) (stg1 5 t) fullShare (iblk1 W c 5 t) := by
  unfold Dat.leavesExact; rw [show cfg1.idle 5 (cfg1.grid.coords t) = false from rfl, after1_5]
theorem leaves1_6 (c : Dev nD) (t : Fin cfg1.N) (h : cond1_3 (grid1.coords t)) : (dat1 W c).leavesExact 6 t = owns (c : Thread nD τ) (stg1 6 t) fullShare (k1_pay7 (iblk1 W c 4 t) (iblk1 W c 5 t) (sB W c) (acc1 W c (t.val + 1)) (iblk1 W c 3 t)) := by
  unfold Dat.leavesExact; rw [show cfg1.idle 6 (cfg1.grid.coords t) = false from liveAt1_6 t h, after1_6]
theorem leaves1_7 (c : Dev nD) (t : Fin cfg1.N) (ht : t.val < 9) (h : cond1_1 (grid1.coords t)) : (dat1 W c).leavesExact 7 t = owns (c : Thread nD τ) (stg1 7 t) fullShare (qOut (iblk1 W c 0 t) (invB W c)) := by
  unfold Dat.leavesExact; rw [show cfg1.idle 7 (cfg1.grid.coords t) = false from liveAt1_7 t h, after1_7]
  rw [show min t.val 8 = t.val by omega, qk, pt1_val]

end Cert.KernelIdeal.Own

end
-- ==== Proof.PI.Run1A.lean ====
module

public import proofs.«01_k».proof.Proof.PI.Pay1

@[expose] public section

set_option maxRecDepth 16384

noncomputable section

namespace Cert.KernelIdeal.Own

open Cert.KernelIdeal Cert.KernelIdeal.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The very first point: the scales are spread out, the first block of columns quantised, the first product taken. -/
theorem run1_A (c : Dev nD) (i : grid1.Coords) (arg2 : Memref sig .tc .vmem S512x3072 .bf16) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x64 .bf16) (harg6 : arg6.IsWhole) (arg7 : Memref sig .tc .vmem S64x512 .bf16) (harg7 : arg7.IsWhole) (arg8 : Memref sig .tc .vmem S512x512 .bf16) (harg8 : arg8.IsWhole) (arg9 : Memref sig .tc .vmem S512x3072 .fp8e4m3) (harg9 : arg9.IsWhole) (arg10 : Memref sig .tc .vmem S512x27648 .fp8e4m3) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .bf16) (harg13 : arg13.IsWhole) (hc0 : cond1_0 i) (hc1 : cond1_1 i) (hc2 : cond1_2 i) (hc3 : ¬cond1_3 i)
    (x : Vec F S512x3072 .bf16) (w : Vec F S3072x512 .fp8e4m3) (sc : Vec F S1x512 .f32) (ws : Vec F S1x512 .f32) (t : Vec F S512x64 .bf16) (b : Vec F S64x512 .bf16) (o8 : Vec F S512x512 .bf16) (codes : Vec F S512x27648 .fp8e4m3) (E : Set ℕ) (K : PUnit → sProp 𝕄) :
    iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ (∃ d, owns (c : Thread nD τ) arg9 fullShare d) ∗ owns (c : Thread nD τ) arg10 fullShare codes ∗ (∃ d, owns (c : Thread nD τ) arg11 fullShare d) ∗ (∃ d, owns (c : Thread nD τ) arg12 fullShare d) ∗ (∃ d, owns (c : Thread nD τ) arg13 fullShare d)
        ∗ (iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ owns (c : Thread nD τ) arg9 fullShare (qOut x (invOut sc)) ∗ owns (c : Thread nD τ) arg10 fullShare (codesPut i hc1 x (invOut sc) codes) ∗ owns (c : Thread nD τ) arg11 fullShare (k1_pay6 (View.ld (Val := Elt F) (e' := .fp8e4m3) (View.canon (codesPieces i hc1 x (invOut sc))) (Rect.unit (s := S512x27648) (k1_off2 i) S512x3072.size (k1_off2_inb i))) (k1_pay5 (F := F)) w) ∗ owns (c : Thread nD τ) arg12 fullShare (sOut sc) ∗ owns (c : Thread nD τ) arg13 fullShare (invOut sc)) -∗ K ⟨⟩))
      ⊢ wp frame (wpE (defs₀ (F := F)) Variants.none c none) E (cc1_fp8_linear i arg2 harg2 arg3 harg3 arg4 harg4 arg5 harg5 arg6 harg6 arg7 harg7 arg8 harg8 arg9 harg9 arg10 harg10 arg11 harg11 arg12 harg12 arg13 harg13) K := by
  simp only [cc1_fp8_linear_eq_skeleton]; unfold cc1_fp8_linear_skel
  simp only [k1_part14_eq_skeleton]; unfold k1_part14_skel
  simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%d11, %f11, -, H11⟩, ⟨%d12, %f12, -, H12⟩, ⟨%d13, %f13, -, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10
  sl_exec (disch := first | sl_exact hc0 | sl_exact hc1 | sl_exact hc2 | sl_exact hc3)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H8]
  · iexists _; isplitr
    swap
    · iexact H8
    ipureintro
    exact harg8.read_unread _
  isplitl [H9]
  · iexists _; isplitr
    swap
    · iexact H9
    ipureintro
    refine (View.read_writes_eq_canon _ _ _ (View.cover_of_tiledL _ ![512, 128] (by sl_kernel_rfl))).trans ?_
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H10]
  · iexists _; isplitr
    swap
    · iexact H10
    ipureintro
    refine (read_writes_over _ _ _).trans ?_
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H11]
  · iexists _; isplitr
    swap
    · iexact H11
    ipureintro
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H12]
  · iexists _; isplitr
    swap
    · iexact H12
    ipureintro
    refine (View.read_writes_eq_canon _ _ _ (View.cover_of_tiledL _ ![128, 128] (by sl_kernel_rfl))).trans ?_
    (try sl_unfold_words)
    simp (disch := decide) only [readAt_ld, readCov_top, Memref.IsWhole.read_unread, ld_top, read_top]
    exact canon4 (sBlk3 _) (sBlk2 _) (sBlk1 _) (sBlk0 _)
  iexists _; isplitr
  swap
  · iexact H13
  ipureintro
  refine (View.read_writes_eq_canon _ _ _ (View.cover_of_tiledL _ ![128, 128] (by sl_kernel_rfl))).trans ?_
  (try sl_unfold_words)
  simp (disch := decide) only [readAt_ld, readCov_top, Memref.IsWhole.read_unread, ld_top, read_top]
  exact canon4 (iBlk3 _) (iBlk2 _) (iBlk1 _) (iBlk0 _)

end Cert.KernelIdeal.Own

end
-- ==== Proof.PI.Run1B.lean ====
module

public import proofs.«01_k».proof.Proof.PI.Pay1

@[expose] public section

set_option maxRecDepth 16384

noncomputable section

namespace Cert.KernelIdeal.Own

open Cert.KernelIdeal Cert.KernelIdeal.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- A middle block of columns in the first sweep: quantised, then multiplied. -/
theorem run1_B (c : Dev nD) (i : grid1.Coords) (arg2 : Memref sig .tc .vmem S512x3072 .bf16) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x64 .bf16) (harg6 : arg6.IsWhole) (arg7 : Memref sig .tc .vmem S64x512 .bf16) (harg7 : arg7.IsWhole) (arg8 : Memref sig .tc .vmem S512x512 .bf16) (harg8 : arg8.IsWhole) (arg9 : Memref sig .tc .vmem S512x3072 .fp8e4m3) (harg9 : arg9.IsWhole) (arg10 : Memref sig .tc .vmem S512x27648 .fp8e4m3) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .bf16) (harg13 : arg13.IsWhole) (hc0 : ¬cond1_0 i) (hc1 : cond1_1 i) (hc2 : ¬cond1_2 i) (hc3 : ¬cond1_3 i)
    (x : Vec F S512x3072 .bf16) (w : Vec F S3072x512 .fp8e4m3) (sc : Vec F S1x512 .f32) (ws : Vec F S1x512 .f32) (t : Vec F S512x64 .bf16) (b : Vec F S64x512 .bf16) (o8 : Vec F S512x512 .bf16) (codes : Vec F S512x27648 .fp8e4m3) (acc : Vec F S512x512 .f32) (s : Vec F S512x128 .f32) (inv : Vec F S512x128 .bf16) (E : Set ℕ) (K : PUnit → sProp 𝕄) :
    iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ (∃ d, owns (c : Thread nD τ) arg9 fullShare d) ∗ owns (c : Thread nD τ) arg10 fullShare codes ∗ owns (c : Thread nD τ) arg11 fullShare acc ∗ owns (c : Thread nD τ) arg12 fullShare s ∗ owns (c : Thread nD τ) arg13 fullShare inv
        ∗ (iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ owns (c : Thread nD τ) arg9 fullShare (qOut x inv) ∗ owns (c : Thread nD τ) arg10 fullShare (codesPut i hc1 x inv codes) ∗ owns (c : Thread nD τ) arg11 fullShare (k1_pay6 (View.ld (Val := Elt F) (e' := .fp8e4m3) (View.canon (codesPieces i hc1 x inv)) (Rect.unit (s := S512x27648) (k1_off2 i) S512x3072.size (k1_off2_inb i))) acc w) ∗ owns (c : Thread nD τ) arg12 fullShare s ∗ owns (c : Thread nD τ) arg13 fullShare inv) -∗ K ⟨⟩))
      ⊢ wp frame (wpE (defs₀ (F := F)) Variants.none c none) E (cc1_fp8_linear i arg2 harg2 arg3 harg3 arg4 harg4 arg5 harg5 arg6 harg6 arg7 harg7 arg8 harg8 arg9 harg9 arg10 harg10 arg11 harg11 arg12 harg12 arg13 harg13) K := by
  simp only [cc1_fp8_linear_eq_skeleton]; unfold cc1_fp8_linear_skel
  simp only [k1_part14_eq_skeleton]; unfold k1_part14_skel
  simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg10.eq_unread hf10; obtain rfl := harg11.eq_unread hf11; obtain rfl := harg12.eq_unread hf12; obtain rfl := harg13.eq_unread hf13
  sl_exec (disch := first | sl_exact hc0 | sl_exact hc1 | sl_exact hc2 | sl_exact hc3)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H8]
  · iexists _; isplitr
    swap
    · iexact H8
    ipureintro
    exact harg8.read_unread _
  isplitl [H9]
  · iexists _; isplitr
    swap
    · iexact H9
    ipureintro
    refine (View.read_writes_eq_canon _ _ _ (View.cover_of_tiledL _ ![512, 128] (by sl_kernel_rfl))).trans ?_
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H10]
  · iexists _; isplitr
    swap
    · iexact H10
    ipureintro
    refine (read_writes_over _ _ _).trans ?_
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H11]
  · iexists _; isplitr
    swap
    · iexact H11
    ipureintro
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H12]
  · iexists _; isplitr
    swap
    · iexact H12
    ipureintro
    exact harg12.read_unread _
  iexists _; isplitr
  swap
  · iexact H13
  ipureintro
  exact harg13.read_unread _

end Cert.KernelIdeal.Own

end
-- ==== Proof.PI.Run1C.lean ====
module

public import proofs.«01_k».proof.Proof.PI.Pay1

@[expose] public section

set_option maxRecDepth 16384

noncomputable section

namespace Cert.KernelIdeal.Own

open Cert.KernelIdeal Cert.KernelIdeal.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The last block of columns in the first sweep: quantised, multiplied, and the result block written out. -/
theorem run1_C (c : Dev nD) (i : grid1.Coords) (arg2 : Memref sig .tc .vmem S512x3072 .bf16) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x64 .bf16) (harg6 : arg6.IsWhole) (arg7 : Memref sig .tc .vmem S64x512 .bf16) (harg7 : arg7.IsWhole) (arg8 : Memref sig .tc .vmem S512x512 .bf16) (harg8 : arg8.IsWhole) (arg9 : Memref sig .tc .vmem S512x3072 .fp8e4m3) (harg9 : arg9.IsWhole) (arg10 : Memref sig .tc .vmem S512x27648 .fp8e4m3) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .bf16) (harg13 : arg13.IsWhole) (hc0 : ¬cond1_0 i) (hc1 : cond1_1 i) (hc2 : ¬cond1_2 i) (hc3 : cond1_3 i)
    (x : Vec F S512x3072 .bf16) (w : Vec F S3072x512 .fp8e4m3) (sc : Vec F S1x512 .f32) (ws : Vec F S1x512 .f32) (t : Vec F S512x64 .bf16) (b : Vec F S64x512 .bf16) (codes : Vec F S512x27648 .fp8e4m3) (acc : Vec F S512x512 .f32) (s : Vec F S512x128 .f32) (inv : Vec F S512x128 .bf16) (E : Set ℕ) (K : PUnit → sProp 𝕄) :
    iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ (∃ d, owns (c : Thread nD τ) arg8 fullShare d) ∗ (∃ d, owns (c : Thread nD τ) arg9 fullShare d) ∗ owns (c : Thread nD τ) arg10 fullShare codes ∗ owns (c : Thread nD τ) arg11 fullShare acc ∗ owns (c : Thread nD τ) arg12 fullShare s ∗ owns (c : Thread nD τ) arg13 fullShare inv
        ∗ (iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare (k1_pay7 t b s (k1_pay6 (View.ld (Val := Elt F) (e' := .fp8e4m3) (View.canon (codesPieces i hc1 x inv)) (Rect.unit (s := S512x27648) (k1_off2 i) S512x3072.size (k1_off2_inb i))) acc w) ws) ∗ owns (c : Thread nD τ) arg9 fullShare (qOut x inv) ∗ owns (c : Thread nD τ) arg10 fullShare (codesPut i hc1 x inv codes) ∗ owns (c : Thread nD τ) arg11 fullShare (k1_pay6 (View.ld (Val := Elt F) (e' := .fp8e4m3) (View.canon (codesPieces i hc1 x inv)) (Rect.unit (s := S512x27648) (k1_off2 i) S512x3072.size (k1_off2_inb i))) acc w) ∗ owns (c : Thread nD τ) arg12 fullShare s ∗ owns (c : Thread nD τ) arg13 fullShare inv) -∗ K ⟨⟩))
      ⊢ wp frame (wpE (defs₀ (F := F)) Variants.none c none) E (cc1_fp8_linear i arg2 harg2 arg3 harg3 arg4 harg4 arg5 harg5 arg6 harg6 arg7 harg7 arg8 harg8 arg9 harg9 arg10 harg10 arg11 harg11 arg12 harg12 arg13 harg13) K := by
  simp only [cc1_fp8_linear_eq_skeleton]; unfold cc1_fp8_linear_skel
  simp only [k1_part14_eq_skeleton]; unfold k1_part14_skel
  simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg10.eq_unread hf10; obtain rfl := harg11.eq_unread hf11; obtain rfl := harg12.eq_unread hf12; obtain rfl := harg13.eq_unread hf13
  sl_exec (disch := first | sl_exact hc0 | sl_exact hc1 | sl_exact hc2 | sl_exact hc3)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H8]
  · iexists _; isplitr
    swap
    · iexact H8
    ipureintro
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H9]
  · iexists _; isplitr
    swap
    · iexact H9
    ipureintro
    refine (View.read_writes_eq_canon _ _ _ (View.cover_of_tiledL _ ![512, 128] (by sl_kernel_rfl))).trans ?_
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H10]
  · iexists _; isplitr
    swap
    · iexact H10
    ipureintro
    refine (read_writes_over _ _ _).trans ?_
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H11]
  · iexists _; isplitr
    swap
    · iexact H11
    ipureintro
    (try sl_unfold_words)
    simp (disch := decide) only [readAt_ld, readCov_top, Memref.IsWhole.read_unread, ld_top, read_top]
    simp (disch := decide) only [readCov_ld, ld_top, qz_a0, qz_b0, qz_a1, qz_b1, qz_a2, qz_b2, qz_a3, qz_b3, qz_a4, qz_b4, qz_a5, qz_b5, qz_a6, qz_b6, qz_a7, qz_b7, qz_a8, qz_b8, qz_a9, qz_b9, qz_a10, qz_b10, qz_a11, qz_b11, qz_a12, qz_b12, qz_a13, qz_b13, qz_a14, qz_b14, qz_a15, qz_b15, qz_a16, qz_b16, qz_a17, qz_b17, qz_a18, qz_b18, qz_a19, qz_b19, qz_a20, qz_b20, qz_a21, qz_b21, qz_a22, qz_b22, qz_a23, qz_b23, iBlk0, iBlk1, iBlk2, iBlk3, sBlk0, sBlk1, sBlk2, sBlk3]
    rfl
  isplitl [H12]
  · iexists _; isplitr
    swap
    · iexact H12
    ipureintro
    exact harg12.read_unread _
  iexists _; isplitr
  swap
  · iexact H13
  ipureintro
  exact harg13.read_unread _

end Cert.KernelIdeal.Own

end
-- ==== Proof.PI.Run1D.lean ====
module

public import proofs.«01_k».proof.Proof.PI.Pay1

@[expose] public section

set_option maxRecDepth 16384

noncomputable section

namespace Cert.KernelIdeal.Own

open Cert.KernelIdeal Cert.KernelIdeal.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 20000000 in
/-- The first block of columns in a later sweep: the product restarts from zero. -/
theorem run1_D (c : Dev nD) (i : grid1.Coords) (arg2 : Memref sig .tc .vmem S512x3072 .bf16) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x64 .bf16) (harg6 : arg6.IsWhole) (arg7 : Memref sig .tc .vmem S64x512 .bf16) (harg7 : arg7.IsWhole) (arg8 : Memref sig .tc .vmem S512x512 .bf16) (harg8 : arg8.IsWhole) (arg9 : Memref sig .tc .vmem S512x3072 .fp8e4m3) (harg9 : arg9.IsWhole) (arg10 : Memref sig .tc .vmem S512x27648 .fp8e4m3) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .bf16) (harg13 : arg13.IsWhole) (hc0 : ¬cond1_0 i) (hc1 : ¬cond1_1 i) (hc2 : cond1_2 i) (hc3 : ¬cond1_3 i)
    (x : Vec F S512x3072 .bf16) (w : Vec F S3072x512 .fp8e4m3) (sc : Vec F S1x512 .f32) (ws : Vec F S1x512 .f32) (t : Vec F S512x64 .bf16) (b : Vec F S64x512 .bf16) (o8 : Vec F S512x512 .bf16) (o9 : Vec F S512x3072 .fp8e4m3) (codes : Vec F S512x27648 .fp8e4m3) (s : Vec F S512x128 .f32) (inv : Vec F S512x128 .bf16) (E : Set ℕ) (K : PUnit → sProp 𝕄) :
    iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ owns (c : Thread nD τ) arg9 fullShare o9 ∗ owns (c : Thread nD τ) arg10 fullShare codes ∗ (∃ d, owns (c : Thread nD τ) arg11 fullShare d) ∗ owns (c : Thread nD τ) arg12 fullShare s ∗ owns (c : Thread nD τ) arg13 fullShare inv
        ∗ (iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ owns (c : Thread nD τ) arg9 fullShare o9 ∗ owns (c : Thread nD τ) arg10 fullShare codes ∗ owns (c : Thread nD τ) arg11 fullShare (k1_pay6 (View.ld (Val := Elt F) (e' := .fp8e4m3) codes (Rect.unit (s := S512x27648) (k1_off2 i) S512x3072.size (k1_off2_inb i))) (k1_pay5 (F := F)) w) ∗ owns (c : Thread nD τ) arg12 fullShare s ∗ owns (c : Thread nD τ) arg13 fullShare inv) -∗ K ⟨⟩))
      ⊢ wp frame (wpE (defs₀ (F := F)) Variants.none c none) E (cc1_fp8_linear i arg2 harg2 arg3 harg3 arg4 harg4 arg5 harg5 arg6 harg6 arg7 harg7 arg8 harg8 arg9 harg9 arg10 harg10 arg11 harg11 arg12 harg12 arg13 harg13) K := by
  simp only [cc1_fp8_linear_eq_skeleton]; unfold cc1_fp8_linear_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg12.eq_unread hf12; obtain rfl := harg13.eq_unread hf13
  sl_exec (disch := first | sl_exact hc0 | sl_exact hc1 | sl_exact hc2 | sl_exact hc3)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H8]
  · iexists _; isplitr
    swap
    · iexact H8
    ipureintro
    exact harg8.read_unread _
  isplitl [H9]
  · iexists _; isplitr
    swap
    · iexact H9
    ipureintro
    exact harg9.read_unread _
  isplitl [H10]
  · iexists _; isplitr
    swap
    · iexact H10
    ipureintro
    exact harg10.read_unread _
  isplitl [H11]
  · iexists _; isplitr
    swap
    · iexact H11
    ipureintro
    (try sl_unfold_words)
    simp (disch := decide) only [readAt_ld, readCov_top, Memref.IsWhole.read_unread, ld_top, read_top]
  isplitl [H12]
  · iexists _; isplitr
    swap
    · iexact H12
    ipureintro
    exact harg12.read_unread _
  iexists _; isplitr
  swap
  · iexact H13
  ipureintro
  exact harg13.read_unread _

set_option maxHeartbeats 20000000 in
/-- A middle block of columns in a later sweep. -/
theorem run1_G (c : Dev nD) (i : grid1.Coords) (arg2 : Memref sig .tc .vmem S512x3072 .bf16) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x64 .bf16) (harg6 : arg6.IsWhole) (arg7 : Memref sig .tc .vmem S64x512 .bf16) (harg7 : arg7.IsWhole) (arg8 : Memref sig .tc .vmem S512x512 .bf16) (harg8 : arg8.IsWhole) (arg9 : Memref sig .tc .vmem S512x3072 .fp8e4m3) (harg9 : arg9.IsWhole) (arg10 : Memref sig .tc .vmem S512x27648 .fp8e4m3) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .bf16) (harg13 : arg13.IsWhole) (hc0 : ¬cond1_0 i) (hc1 : ¬cond1_1 i) (hc2 : ¬cond1_2 i) (hc3 : ¬cond1_3 i)
    (x : Vec F S512x3072 .bf16) (w : Vec F S3072x512 .fp8e4m3) (sc : Vec F S1x512 .f32) (ws : Vec F S1x512 .f32) (t : Vec F S512x64 .bf16) (b : Vec F S64x512 .bf16) (o8 : Vec F S512x512 .bf16) (o9 : Vec F S512x3072 .fp8e4m3) (codes : Vec F S512x27648 .fp8e4m3) (acc : Vec F S512x512 .f32) (s : Vec F S512x128 .f32) (inv : Vec F S512x128 .bf16) (E : Set ℕ) (K : PUnit → sProp 𝕄) :
    iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ owns (c : Thread nD τ) arg9 fullShare o9 ∗ owns (c : Thread nD τ) arg10 fullShare codes ∗ owns (c : Thread nD τ) arg11 fullShare acc ∗ owns (c : Thread nD τ) arg12 fullShare s ∗ owns (c : Thread nD τ) arg13 fullShare inv
        ∗ (iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare o8 ∗ owns (c : Thread nD τ) arg9 fullShare o9 ∗ owns (c : Thread nD τ) arg10 fullShare codes ∗ owns (c : Thread nD τ) arg11 fullShare (k1_pay6 (View.ld (Val := Elt F) (e' := .fp8e4m3) codes (Rect.unit (s := S512x27648) (k1_off2 i) S512x3072.size (k1_off2_inb i))) acc w) ∗ owns (c : Thread nD τ) arg12 fullShare s ∗ owns (c : Thread nD τ) arg13 fullShare inv) -∗ K ⟨⟩))
      ⊢ wp frame (wpE (defs₀ (F := F)) Variants.none c none) E (cc1_fp8_linear i arg2 harg2 arg3 harg3 arg4 harg4 arg5 harg5 arg6 harg6 arg7 harg7 arg8 harg8 arg9 harg9 arg10 harg10 arg11 harg11 arg12 harg12 arg13 harg13) K := by
  simp only [cc1_fp8_linear_eq_skeleton]; unfold cc1_fp8_linear_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1 | sl_exact hc2 | sl_exact hc3)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H8]
  · iexists _; isplitr
    swap
    · iexact H8
    ipureintro
    exact harg8.read_unread _
  isplitl [H9]
  · iexists _; isplitr
    swap
    · iexact H9
    ipureintro
    exact harg9.read_unread _
  isplitl [H10]
  · iexists _; isplitr
    swap
    · iexact H10
    ipureintro
    exact harg10.read_unread _
  isplitl [H11]
  · iexists _; isplitr
    swap
    · iexact H11
    ipureintro
    (try sl_unfold_words)
    simp (disch := decide) only [readAt_ld, readCov_top, Memref.IsWhole.read_unread, ld_top, read_top]
  isplitl [H12]
  · iexists _; isplitr
    swap
    · iexact H12
    ipureintro
    exact harg12.read_unread _
  iexists _; isplitr
  swap
  · iexact H13
  ipureintro
  exact harg13.read_unread _

set_option maxHeartbeats 20000000 in
/-- The last block of columns in a later sweep: the result block is written out. -/
theorem run1_H (c : Dev nD) (i : grid1.Coords) (arg2 : Memref sig .tc .vmem S512x3072 .bf16) (harg2 : arg2.IsWhole) (arg3 : Memref sig .tc .vmem S3072x512 .fp8e4m3) (harg3 : arg3.IsWhole) (arg4 : Memref sig .tc .vmem S1x512 .f32) (harg4 : arg4.IsWhole) (arg5 : Memref sig .tc .vmem S1x512 .f32) (harg5 : arg5.IsWhole) (arg6 : Memref sig .tc .vmem S512x64 .bf16) (harg6 : arg6.IsWhole) (arg7 : Memref sig .tc .vmem S64x512 .bf16) (harg7 : arg7.IsWhole) (arg8 : Memref sig .tc .vmem S512x512 .bf16) (harg8 : arg8.IsWhole) (arg9 : Memref sig .tc .vmem S512x3072 .fp8e4m3) (harg9 : arg9.IsWhole) (arg10 : Memref sig .tc .vmem S512x27648 .fp8e4m3) (harg10 : arg10.IsWhole) (arg11 : Memref sig .tc .vmem S512x512 .f32) (harg11 : arg11.IsWhole) (arg12 : Memref sig .tc .vmem S512x128 .f32) (harg12 : arg12.IsWhole) (arg13 : Memref sig .tc .vmem S512x128 .bf16) (harg13 : arg13.IsWhole) (hc0 : ¬cond1_0 i) (hc1 : ¬cond1_1 i) (hc2 : ¬cond1_2 i) (hc3 : cond1_3 i)
    (x : Vec F S512x3072 .bf16) (w : Vec F S3072x512 .fp8e4m3) (sc : Vec F S1x512 .f32) (ws : Vec F S1x512 .f32) (t : Vec F S512x64 .bf16) (b : Vec F S64x512 .bf16) (o9 : Vec F S512x3072 .fp8e4m3) (codes : Vec F S512x27648 .fp8e4m3) (acc : Vec F S512x512 .f32) (s : Vec F S512x128 .f32) (inv : Vec F S512x128 .bf16) (E : Set ℕ) (K : PUnit → sProp 𝕄) :
    iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ (∃ d, owns (c : Thread nD τ) arg8 fullShare d) ∗ owns (c : Thread nD τ) arg9 fullShare o9 ∗ owns (c : Thread nD τ) arg10 fullShare codes ∗ owns (c : Thread nD τ) arg11 fullShare acc ∗ owns (c : Thread nD τ) arg12 fullShare s ∗ owns (c : Thread nD τ) arg13 fullShare inv
        ∗ (iprop(owns (c : Thread nD τ) arg2 fullShare x ∗ owns (c : Thread nD τ) arg3 fullShare w ∗ owns (c : Thread nD τ) arg4 fullShare sc ∗ owns (c : Thread nD τ) arg5 fullShare ws ∗ owns (c : Thread nD τ) arg6 fullShare t ∗ owns (c : Thread nD τ) arg7 fullShare b ∗ owns (c : Thread nD τ) arg8 fullShare (k1_pay7 t b s (k1_pay6 (View.ld (Val := Elt F) (e' := .fp8e4m3) codes (Rect.unit (s := S512x27648) (k1_off2 i) S512x3072.size (k1_off2_inb i))) acc w) ws) ∗ owns (c : Thread nD τ) arg9 fullShare o9 ∗ owns (c : Thread nD τ) arg10 fullShare codes ∗ owns (c : Thread nD τ) arg11 fullShare (k1_pay6 (View.ld (Val := Elt F) (e' := .fp8e4m3) codes (Rect.unit (s := S512x27648) (k1_off2 i) S512x3072.size (k1_off2_inb i))) acc w) ∗ owns (c : Thread nD τ) arg12 fullShare s ∗ owns (c : Thread nD τ) arg13 fullShare inv) -∗ K ⟨⟩))
      ⊢ wp frame (wpE (defs₀ (F := F)) Variants.none c none) E (cc1_fp8_linear i arg2 harg2 arg3 harg3 arg4 harg4 arg5 harg5 arg6 harg6 arg7 harg7 arg8 harg8 arg9 harg9 arg10 harg10 arg11 harg11 arg12 harg12 arg13 harg13) K := by
  simp only [cc1_fp8_linear_eq_skeleton]; unfold cc1_fp8_linear_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg9.eq_unread hf9; obtain rfl := harg10.eq_unread hf10; obtain rfl := harg11.eq_unread hf11; obtain rfl := harg12.eq_unread hf12; obtain rfl := harg13.eq_unread hf13
  sl_exec (disch := first | sl_exact hc0 | sl_exact hc1 | sl_exact hc2 | sl_exact hc3)
  sl_step
  iapply Hk
  isplitl [H2]
  · iexists _; isplitr
    swap
    · iexact H2
    ipureintro
    exact harg2.read_unread _
  isplitl [H3]
  · iexists _; isplitr
    swap
    · iexact H3
    ipureintro
    exact harg3.read_unread _
  isplitl [H4]
  · iexists _; isplitr
    swap
    · iexact H4
    ipureintro
    exact harg4.read_unread _
  isplitl [H5]
  · iexists _; isplitr
    swap
    · iexact H5
    ipureintro
    exact harg5.read_unread _
  isplitl [H6]
  · iexists _; isplitr
    swap
    · iexact H6
    ipureintro
    exact harg6.read_unread _
  isplitl [H7]
  · iexists _; isplitr
    swap
    · iexact H7
    ipureintro
    exact harg7.read_unread _
  isplitl [H8]
  · iexists _; isplitr
    swap
    · iexact H8
    ipureintro
    (try sl_unfold_words)
    simp (disch := decide) only [readAt_ld, readCov_top, Memref.IsWhole.read_unread, ld_top, read_top]
  isplitl [H9]
  · iexists _; isplitr
    swap
    · iexact H9
    ipureintro
    exact harg9.read_unread _
  isplitl [H10]
  · iexists _; isplitr
    swap
    · iexact H10
    ipureintro
    exact harg10.read_unread _
  isplitl [H11]
  · iexists _; isplitr
    swap
    · iexact H11
    ipureintro
    (try sl_unfold_words)
    simp (disch := decide) only [readAt_ld, readCov_top, Memref.IsWhole.read_unread, ld_top, read_top]
  isplitl [H12]
  · iexists _; isplitr
    swap
    · iexact H12
    ipureintro
    exact harg12.read_unread _
  iexists _; isplitr
  swap
  · iexact H13
  ipureintro
  exact harg13.read_unread _

end Cert.KernelIdeal.Own

end
-- ==== Proof.PI.Body1.lean ====
module

public import proofs.«01_k».proof.Proof.PI.Data1
public import proofs.«01_k».proof.Proof.PI.Run1A
public import proofs.«01_k».proof.Proof.PI.Run1B
public import proofs.«01_k».proof.Proof.PI.Run1C
public import proofs.«01_k».proof.Proof.PI.Run1D

@[expose] public section

set_option maxRecDepth 16384

noncomputable section

namespace Cert.KernelIdeal.Own

open Cert.KernelIdeal Cert.KernelIdeal.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The linear region: its body at every point -/

variable (W : Dev nD → Valuation τ sig (Elt F))

set_option maxHeartbeats 4800000 in
theorem sound1_A (c : Dev nD) (t : Fin cfg1.N) (h : t.val = 0) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5]
  rw [show (dat1 W c).owesAt () t.succ = (dat1 W c).owesAt () t.castSucc from rfl, leaves1_0, leaves1_1, leaves1_2, leaves1_3, leaves1_4, leaves1_5]
  rw [show (dat1 W c).Φ t.succ = iprop(scr1 W c (t.val + 1) ∗ rest1 c) from rfl, show (dat1 W c).Φ t.castSucc = iprop(scr1 W c t.val ∗ rest1 c) from rfl]
  rw [scr1_pos W c (t.val + 1) (Nat.succ_ne_zero _)]
  have hN : t.val < 90 := lt_of_lt_of_eq t.isLt (show cfg1.N = 90 from N_1)
  have hc0 : cond1_0 (grid1.coords t) := (hcond1_0 t).mpr (by omega)
  have hc1 : cond1_1 (grid1.coords t) := (hcond1_1 t).mpr (by omega)
  have hc2 : cond1_2 (grid1.coords t) := (hcond1_2 t).mpr (by omega)
  have hc3 : ¬cond1_3 (grid1.coords t) := fun hh => by have := (hcond1_3 t).mp hh; omega
  rw [show scr1 W c t.val = scr1 W c 0 by rw [h], scr1_zero]
  have hs : sOut (iblk1 W c 2 t) = sB W c := congrArg (fun u => sOut (iblk1 W c 2 u)) (Fin.ext (show t.val = 0 % 90 by omega))
  have hi : invOut (iblk1 W c 2 t) = invB W c := congrArg (fun u => invOut (iblk1 W c 2 u)) (Fin.ext (show t.val = 0 % 90 by omega))
  rw [Dat.leavesExact_idle (dat1 W c) 6 t (idleAt1_6 t hc3) (noFlush1_6 t hc3)]
  rw [leaves1_7 W c t (by omega) hc1]
  rw [acc1_first W c t (by omega)]
  rw [← ld_early W c t hc1 (by omega) (k1_off2_inb (grid1.coords t))]
  iintro ⟨⟨⟨⟨%codes, H10⟩, ⟨%d11, H11⟩, ⟨%d12, H12⟩, ⟨%d13, H13⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← hi, ← hs]
  iapply (run1_A c (grid1.coords t) _ _ _ _ _ _ _ _ _ _ _ _ _ _ _ _ _ _ _ _ _ _ _ _ hc0 hc1 hc2 hc3 (iblk1 W c 0 t) (iblk1 W c 1 t) (iblk1 W c 2 t) (iblk1 W c 3 t) (iblk1 W c 4 t) (iblk1 W c 5 t) _ codes Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H10]; · iexact H10
  isplitl [H11]; · iexists _; iexact H11
  isplitl [H12]; · iexists _; iexact H12
  isplitl [H13]; · iexists _; iexact H13
  iintro ⟨H0, H1, H2, H3, H4, H5, H6, H7, H10, H11, H12, H13⟩
  isplitl [H10 H11 H12 H13 Hg]
  · isplitl [H10 H11 H12 H13]
    · isplitl [H10]
      · iexists _; isplitr
        · ipureintro; exact hi.symm ▸ good_put W c t hc1 (by omega) codes (fun hh => absurd h hh)
        iexact H10
      isplitl [H11]; · iexact H11
      isplitl [H12]; · iexact H12
      iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexact H7

set_option maxHeartbeats 4800000 in
theorem sound1_B (c : Dev nD) (t : Fin cfg1.N) (h : t.val ≠ 0) (h8 : t.val < 8) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5]
  rw [show (dat1 W c).owesAt () t.succ = (dat1 W c).owesAt () t.castSucc from rfl, leaves1_0, leaves1_1, leaves1_2, leaves1_3, leaves1_4, leaves1_5]
  rw [show (dat1 W c).Φ t.succ = iprop(scr1 W c (t.val + 1) ∗ rest1 c) from rfl, show (dat1 W c).Φ t.castSucc = iprop(scr1 W c t.val ∗ rest1 c) from rfl]
  rw [scr1_pos W c (t.val + 1) (Nat.succ_ne_zero _)]
  have hN : t.val < 90 := lt_of_lt_of_eq t.isLt (show cfg1.N = 90 from N_1)
  have hc0 : ¬cond1_0 (grid1.coords t) := fun hh => by have := (hcond1_0 t).mp hh; omega
  have hc1 : cond1_1 (grid1.coords t) := (hcond1_1 t).mpr (by omega)
  have hc2 : ¬cond1_2 (grid1.coords t) := fun hh => by have := (hcond1_2 t).mp hh; omega
  have hc3 : ¬cond1_3 (grid1.coords t) := fun hh => by have := (hcond1_3 t).mp hh; omega
  rw [scr1_pos W c t.val (by omega)]
  rw [Dat.leavesExact_idle (dat1 W c) 6 t (idleAt1_6 t hc3) (noFlush1_6 t hc3)]
  rw [leaves1_7 W c t (by omega) hc1]
  rw [acc1_later W c t (by omega)]
  rw [← ld_early W c t hc1 (by omega) (k1_off2_inb (grid1.coords t))]
  iintro ⟨⟨⟨⟨%codes, %hg, H10⟩, H11, H12, H13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1_B c (grid1.coords t) _ _ _ _ _ _ _ _ _ _ _ _ _ _ _ _ _ _ _ _ _ _ _ _ hc0 hc1 hc2 hc3 (iblk1 W c 0 t) (iblk1 W c 1 t) (iblk1 W c 2 t) (iblk1 W c 3 t) (iblk1 W c 4 t) (iblk1 W c 5 t) _ codes (acc1 W c t.val) (sB W c) (invB W c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H10]; · iexact H10
  isplitl [H11]; · iexact H11
  isplitl [H12]; · iexact H12
  isplitl [H13]; · iexact H13
  iintro ⟨H0, H1, H2, H3, H4, H5, H6, H7, H10, H11, H12, H13⟩
  isplitl [H10 H11 H12 H13 Hg]
  · isplitl [H10 H11 H12 H13]
    · isplitl [H10]
      · iexists _; isplitr
        · ipureintro; exact good_put W c t hc1 (by omega) codes (fun hh => hg)
        iexact H10
      isplitl [H11]; · iexact H11
      isplitl [H12]; · iexact H12
      iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iexact H7

set_option maxHeartbeats 4800000 in
theorem sound1_C (c : Dev nD) (t : Fin cfg1.N) (h : t.val = 8) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5]
  rw [show (dat1 W c).owesAt () t.succ = (dat1 W c).owesAt () t.castSucc from rfl, leaves1_0, leaves1_1, leaves1_2, leaves1_3, leaves1_4, leaves1_5]
  rw [show (dat1 W c).Φ t.succ = iprop(scr1 W c (t.val + 1) ∗ rest1 c) from rfl, show (dat1 W c).Φ t.castSucc = iprop(scr1 W c t.val ∗ rest1 c) from rfl]
  rw [scr1_pos W c (t.val + 1) (Nat.succ_ne_zero _)]
  have hN : t.val < 90 := lt_of_lt_of_eq t.isLt (show cfg1.N = 90 from N_1)
  have hc0 : ¬cond1_0 (grid1.coords t) := fun hh => by have := (hcond1_0 t).mp hh; omega
  have hc1 : cond1_1 (grid1.coords t) := (hcond1_1 t).mpr (by omega)
  have hc2 : ¬cond1_2 (grid1.coords t) := fun hh => by have := (hcond1_2 t).mp hh; omega
  have hc3 : cond1_3 (grid1.coords t) := (hcond1_3 t).mpr (by omega)
  rw [scr1_pos W c t.val (by omega)]
  rw [leaves1_6 W c t hc3]
  rw [leaves1_7 W c t (by omega) hc1]
  rw [acc1_later W c t (by omega)]
  rw [← ld_early W c t hc1 (by omega) (k1_off2_inb (grid1.coords t))]
  iintro ⟨⟨⟨⟨%codes, %hg, H10⟩, H11, H12, H13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (run1_C c (grid1.coords t) _ _ _ _ _ _ _ _ _ _ _ _ _ _ _ _ _ _ _ _ _ _ _ _ hc0 hc1 hc2 hc3 (iblk1 W c 0 t) (iblk1 W c 1 t) (iblk1 W c 2 t) (iblk1 W c 3 t) (iblk1 W c 4 t) (iblk1 W c 5 t) codes (acc1 W c t.val) (sB W c) (invB W c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H10]; · iexact H10
  isplitl [H11]; · iexact H11
  isplitl [H12]; · iexact H12
  isplitl [H13]; · iexact H13
  iintro ⟨H0, H1, H2, H3, H4, H5, H6, H7, H10, H11, H12, H13⟩
  isplitl [H10 H11 H12 H13 Hg]
  · isplitl [H10 H11 H12 H13]
    · isplitl [H10]
      · iexists _; isplitr
        · ipureintro; exact good_put W c t hc1 (by omega) codes (fun hh => hg)
        iexact H10
      isplitl [H11]; · iexact H11
      isplitl [H12]; · iexact H12
      iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

set_option maxHeartbeats 4800000 in
theorem sound1_D (c : Dev nD) (t : Fin cfg1.N) (h : 9 ≤ t.val) (hk : t.val % 9 = 0) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5]
  rw [show (dat1 W c).owesAt () t.succ = (dat1 W c).owesAt () t.castSucc from rfl, leaves1_0, leaves1_1, leaves1_2, leaves1_3, leaves1_4, leaves1_5]
  rw [show (dat1 W c).Φ t.succ = iprop(scr1 W c (t.val + 1) ∗ rest1 c) from rfl, show (dat1 W c).Φ t.castSucc = iprop(scr1 W c t.val ∗ rest1 c) from rfl]
  rw [scr1_pos W c (t.val + 1) (Nat.succ_ne_zero _)]
  have hN : t.val < 90 := lt_of_lt_of_eq t.isLt (show cfg1.N = 90 from N_1)
  have hc0 : ¬cond1_0 (grid1.coords t) := fun hh => by have := (hcond1_0 t).mp hh; omega
  have hc1 : ¬cond1_1 (grid1.coords t) := fun hh => by have := (hcond1_1 t).mp hh; omega
  have hc2 : cond1_2 (grid1.coords t) := (hcond1_2 t).mpr (by omega)
  have hc3 : ¬cond1_3 (grid1.coords t) := fun hh => by have := (hcond1_3 t).mp hh; omega
  rw [scr1_pos W c t.val (by omega)]
  rw [Dat.leavesExact_idle (dat1 W c) 6 t (idleAt1_6 t hc3) (noFlush1_6 t hc3)]
  rw [acc1_first W c t (by omega)]
  simp only [before1_7 W c t h]
  iintro ⟨⟨⟨⟨%codes, %hg, H10⟩, H11, H12, H13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← ld_late W c t h codes hg (k1_off2_inb (grid1.coords t))]
  iapply (run1_D c (grid1.coords t) _ _ _ _ _ _ _ _ _ _ _ _ _ _ _ _ _ _ _ _ _ _ _ _ hc0 hc1 hc2 hc3 (iblk1 W c 0 t) (iblk1 W c 1 t) (iblk1 W c 2 t) (iblk1 W c 3 t) (iblk1 W c 4 t) (iblk1 W c 5 t) _ (qk W c 8) codes (sB W c) (invB W c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexists _; iexact H11
  isplitl [H12]; · iexact H12
  isplitl [H13]; · iexact H13
  iintro ⟨H0, H1, H2, H3, H4, H5, H6, H7, H10, H11, H12, H13⟩
  isplitl [H10 H11 H12 H13 Hg]
  · isplitl [H10 H11 H12 H13]
    · isplitl [H10]
      · iexists _; isplitr
        · ipureintro; exact good_late W c t.val h codes hg
        iexact H10
      isplitl [H11]; · iexact H11
      isplitl [H12]; · iexact H12
      iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iapply (leaves1_7_late W c t h (idleAt1_7 t hc1)) $$ H7

set_option maxHeartbeats 4800000 in
theorem sound1_G (c : Dev nD) (t : Fin cfg1.N) (h : 9 ≤ t.val) (hk : t.val % 9 ≠ 0) (hk8 : t.val % 9 ≠ 8) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5]
  rw [show (dat1 W c).owesAt () t.succ = (dat1 W c).owesAt () t.castSucc from rfl, leaves1_0, leaves1_1, leaves1_2, leaves1_3, leaves1_4, leaves1_5]
  rw [show (dat1 W c).Φ t.succ = iprop(scr1 W c (t.val + 1) ∗ rest1 c) from rfl, show (dat1 W c).Φ t.castSucc = iprop(scr1 W c t.val ∗ rest1 c) from rfl]
  rw [scr1_pos W c (t.val + 1) (Nat.succ_ne_zero _)]
  have hN : t.val < 90 := lt_of_lt_of_eq t.isLt (show cfg1.N = 90 from N_1)
  have hc0 : ¬cond1_0 (grid1.coords t) := fun hh => by have := (hcond1_0 t).mp hh; omega
  have hc1 : ¬cond1_1 (grid1.coords t) := fun hh => by have := (hcond1_1 t).mp hh; omega
  have hc2 : ¬cond1_2 (grid1.coords t) := fun hh => by have := (hcond1_2 t).mp hh; omega
  have hc3 : ¬cond1_3 (grid1.coords t) := fun hh => by have := (hcond1_3 t).mp hh; omega
  rw [scr1_pos W c t.val (by omega)]
  rw [Dat.leavesExact_idle (dat1 W c) 6 t (idleAt1_6 t hc3) (noFlush1_6 t hc3)]
  rw [acc1_later W c t (by omega)]
  simp only [before1_7 W c t h]
  iintro ⟨⟨⟨⟨%codes, %hg, H10⟩, H11, H12, H13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← ld_late W c t h codes hg (k1_off2_inb (grid1.coords t))]
  iapply (run1_G c (grid1.coords t) _ _ _ _ _ _ _ _ _ _ _ _ _ _ _ _ _ _ _ _ _ _ _ _ hc0 hc1 hc2 hc3 (iblk1 W c 0 t) (iblk1 W c 1 t) (iblk1 W c 2 t) (iblk1 W c 3 t) (iblk1 W c 4 t) (iblk1 W c 5 t) _ (qk W c 8) codes (acc1 W c t.val) (sB W c) (invB W c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H10]; · iexact H10
  isplitl [H11]; · iexact H11
  isplitl [H12]; · iexact H12
  isplitl [H13]; · iexact H13
  iintro ⟨H0, H1, H2, H3, H4, H5, H6, H7, H10, H11, H12, H13⟩
  isplitl [H10 H11 H12 H13 Hg]
  · isplitl [H10 H11 H12 H13]
    · isplitl [H10]
      · iexists _; isplitr
        · ipureintro; exact good_late W c t.val h codes hg
        iexact H10
      isplitl [H11]; · iexact H11
      isplitl [H12]; · iexact H12
      iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iapply (leaves1_7_late W c t h (idleAt1_7 t hc1)) $$ H7

set_option maxHeartbeats 4800000 in
theorem sound1_H (c : Dev nD) (t : Fin cfg1.N) (h : 9 ≤ t.val) (hk : t.val % 9 = 8) :
    bodyPre1 W c t ⊢ wp frame (wpE (defs₀ (F := F)) Variants.none c none) Set.univ (bodyAt1 t) (fun _ => bodyPost1 W c t) := by
  unfold bodyPre1 bodyPost1 bodyAt1
  simp only [before1_0, before1_1, before1_2, before1_3, before1_4, before1_5]
  rw [show (dat1 W c).owesAt () t.succ = (dat1 W c).owesAt () t.castSucc from rfl, leaves1_0, leaves1_1, leaves1_2, leaves1_3, leaves1_4, leaves1_5]
  rw [show (dat1 W c).Φ t.succ = iprop(scr1 W c (t.val + 1) ∗ rest1 c) from rfl, show (dat1 W c).Φ t.castSucc = iprop(scr1 W c t.val ∗ rest1 c) from rfl]
  rw [scr1_pos W c (t.val + 1) (Nat.succ_ne_zero _)]
  have hN : t.val < 90 := lt_of_lt_of_eq t.isLt (show cfg1.N = 90 from N_1)
  have hc0 : ¬cond1_0 (grid1.coords t) := fun hh => by have := (hcond1_0 t).mp hh; omega
  have hc1 : ¬cond1_1 (grid1.coords t) := fun hh => by have := (hcond1_1 t).mp hh; omega
  have hc2 : ¬cond1_2 (grid1.coords t) := fun hh => by have := (hcond1_2 t).mp hh; omega
  have hc3 : cond1_3 (grid1.coords t) := (hcond1_3 t).mpr (by omega)
  rw [scr1_pos W c t.val (by omega)]
  rw [leaves1_6 W c t hc3]
  rw [acc1_later W c t (by omega)]
  simp only [before1_7 W c t h]
  iintro ⟨⟨⟨⟨%codes, %hg, H10⟩, H11, H12, H13⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  rw [← ld_late W c t h codes hg (k1_off2_inb (grid1.coords t))]
  iapply (run1_H c (grid1.coords t) _ _ _ _ _ _ _ _ _ _ _ _ _ _ _ _ _ _ _ _ _ _ _ _ hc0 hc1 hc2 hc3 (iblk1 W c 0 t) (iblk1 W c 1 t) (iblk1 W c 2 t) (iblk1 W c 3 t) (iblk1 W c 4 t) (iblk1 W c 5 t) (qk W c 8) codes (acc1 W c t.val) (sB W c) (invB W c) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexact H7
  isplitl [H10]; · iexact H10
  isplitl [H11]; · iexact H11
  isplitl [H12]; · iexact H12
  isplitl [H13]; · iexact H13
  iintro ⟨H0, H1, H2, H3, H4, H5, H6, H7, H10, H11, H12, H13⟩
  isplitl [H10 H11 H12 H13 Hg]
  · isplitl [H10 H11 H12 H13]
    · isplitl [H10]
      · iexists _; isplitr
        · ipureintro; exact good_late W c t.val h codes hg
        iexact H10
      isplitl [H11]; · iexact H11
      isplitl [H12]; · iexact H12
      iexact H13
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply (leaves1_7_late W c t h (idleAt1_7 t hc1)) $$ H7

/-- The body at any point. -/
theorem sound_body1 (c : Dev nD) (t : Fin cfg1.N) :
    bodyPre1 W c t ⊢ wp frame (wpE (defs₀ (F := F)) Variants.none c none) Set.univ (bodyAt1 t) (fun _ => bodyPost1 W c t) := by
  by_cases h9 : 9 ≤ t.val
  · by_cases hk : t.val % 9 = 0
    · exact sound1_D W c t h9 hk
    · by_cases hk8 : t.val % 9 = 8
      · exact sound1_H W c t h9 hk8
      · exact sound1_G W c t h9 hk hk8
  · by_cases h0 : t.val = 0
    · exact sound1_A W c t h0
    · by_cases h8 : t.val < 8
      · exact sound1_B W c t h0 h8
      · exact sound1_C W c t (by omega)

theorem defs₀_row1 (t : Fin cfg1.N) :
    defs₀ (F := F) .tc cfg1.body (cfg1.bodyArgs t (cfg1.slots t)) = bodyAt1 t := by
  unfold defs₀; rw [Defs.onTc_tc]

/-- The body obligation, at every point. -/
theorem body_obligation1 (c : Dev nD) : BodyObligation (dat1 (F := F) W c) (defs₀ (F := F)) Variants.none () Set.univ := fun t => by
  rw [bigSep_W1, bigSep_W1, defs₀_row1]
  exact triple_restated (sound_body1 W c t) rfl .rfl fun _ => .rfl

theorem hin1 (c : Dev nD) : iprop(Pipeline.scopedRest spec1 c ∗ emp) ⊢ (dat1 W c).Φ 0 := by
  rw [show (dat1 W c).Φ 0 = iprop(scr1 W c 0 ∗ rest1 c) from rfl, scr1_zero, scopedRest1_eq]
  simp only [scM1_0, scM1_1, scM1_2, scM1_3, owns_whole, rest1]
  iintro ⟨⟨G0, G1, G2, G3, G4, G5, G6, G7, G8, H0, H1, H2, H3⟩, -⟩
  isplitl [H0 H1 H2 H3]
  · isplitl [H0]; · iexact H0
    isplitl [H1]; · iexact H1
    isplitl [H2]; · iexact H2
    iexact H3
  isplitl [G0]; · iexact G0
  isplitl [G1]; · iexact G1
  isplitl [G2]; · iexact G2
  isplitl [G3]; · iexact G3
  isplitl [G4]; · iexact G4
  isplitl [G5]; · iexact G5
  isplitl [G6]; · iexact G6
  isplitl [G7]; · iexact G7
  iexact G8

theorem hout1 (c : Dev nD) : (dat1 W c).Φ (Fin.last cfg1.N) ⊢ iprop(Pipeline.scopedRest spec1 c ∗ emp) := by
  rw [show (dat1 W c).Φ (Fin.last cfg1.N) = iprop(scr1 W c cfg1.N ∗ rest1 c) from rfl,
    scr1_pos W c cfg1.N (by rw [show cfg1.N = 90 from N_1]; omega), scopedRest1_eq]
  simp only [scM1_0, scM1_1, scM1_2, scM1_3, owns_whole, rest1]
  iintro ⟨⟨⟨%codes, -, H0⟩, H1, H2, H3⟩, G0, G1, G2, G3, G4, G5, G6, G7, G8⟩
  isplitl
  · isplitl [G0]; · iexact G0
    isplitl [G1]; · iexact G1
    isplitl [G2]; · iexact G2
    isplitl [G3]; · iexact G3
    isplitl [G4]; · iexact G4
    isplitl [G5]; · iexact G5
    isplitl [G6]; · iexact G6
    isplitl [G7]; · iexact G7
    isplitl [G8]; · iexact G8
    isplitl [H0]; · iexists _; iexact H0
    isplitl [H1]; · iexists _; iexact H1
    isplitl [H2]; · iexists _; iexact H2
    iexists _; iexact H3
  iempintro

end Cert.KernelIdeal.Own

end
-- ==== Proof.PI.Run.lean ====
module

public import proofs.«01_k».proof.Proof.PI.Data0
public import proofs.«01_k».proof.Proof.PI.Body1
public import proofs.«01_k».proof.Proof.Gen.KernelIdeal.Regions
public import Idealize.ShloMosaic.Lib.Pipeline.RegionArraysS

@[expose] public section

set_option maxRecDepth 16384

noncomputable section

namespace Cert.KernelIdeal.Own

open Cert.KernelIdeal Cert.KernelIdeal.Gen Cert.Kit
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

/-! # The whole program: the host operations, then the two regions

Between two items a core holds every unscoped buffer whole: at `V0` at launch, `V1` after the host operations, `U2` after
the statistics region, `U3` after the linear region. -/

variable (m : (ℓ : Loc nD τ sig) → Buf (Elt F) ℓ)

/-- Core `c`'s unscoped buffers after the statistics region. -/
def U2 (c : Dev nD) : Valuation τ sig (Elt F) := Pipeline.afterRegion (dat0 (V1 m) c) (V1 m c)
/-- Core `c`'s unscoped buffers after the linear region. -/
def U3 (c : Dev nD) : Valuation τ sig (Elt F) := Pipeline.afterRegion (dat1 (U2 m) c) (U2 m c)

/-- Both regions' proof data. -/
def pdats : (p : Fin 2) → (c : Dev nD) → Dat τ (Elt F) Unit ℕ (UR sig nD τ) ℕ (cfgs p) c
  | ⟨0, _⟩, c => dat0 (V1 m) c
  | ⟨1, _⟩, c => dat1 (U2 m) c

/-- No waiting order is needed: one index at each TensorCore cell, at level zero. -/
def LL : GSem nD τ sig → Finset Unit := fun g => if g.1.2 = .tc then {()} else ∅
def lvl : GSem nD τ sig → Unit → ℕ := fun _ _ => 0

theorem LL_off (g : GSem nD τ sig) (h : g.1.2 ≠ .tc) : LL g = ∅ := if_neg h

theorem cut (p : Fin 2) : Pipeline.LevelCut (pcfgs (F := F)) adm () LL lvl p (fun _ => 0) (fun _ => 0) where
  hι c w s := by rw [LL, if_pos rfl]; exact Finset.mem_singleton.mpr rfl
  hιb c w s := le_rfl
  hD c g i h := absurd h (lt_irrefl _)

/-- What a core holds beside its buffers. -/
def EE (c : Dev nD) : sProp 𝕄 := iprop((∃ Wd, owes (c : Thread nD τ) (0 : CellTallies nD τ sig Unit) Wd) ∗ emp ∗ emp)

/-- Region 0's segment. -/
def R0 : RegionSeg (pcfgs (F := F)) adm (pdats m) () defs₀ Variants.none LL lvl 0 :=
  Pipeline.RegionSeg.ofHeldIn (pcfgs (F := F)) adm (pdats m) () defs₀ Variants.none LL lvl 0 (fun _ => 0) (Pipeline.ucRefs τ sig)
    (fun _ => iprop(emp)) (fun _ => iprop(emp)) launch0.toP rfl (fun c => (body_obligation0 (V1 m) c).loose) (fun _ _ => rfl) (fun _ => rfl)
    (fun c => (dat0 (V1 m) c).share_full fun _ => rfl) (hin0 (V1 m)) (hout0 (V1 m)) (fun _ => 0) (cut 0) (fun _ => iprop(emp)) (V1 m) (fun c w => A0_eq (V1 m) c w)

theorem unscoped0 : ∀ w : Fin cfg0.W, (Pipeline.arrRef spec0 w).isScoped = false := by decide
theorem sub0 : Pipeline.arrRefs (τ := τ) (pcfgs (F := F) 0).spec ⊆ Pipeline.ucRefs τ sig :=
  Pipeline.arrRefs_sub_ucRefs (pcfgs (F := F) 0).spec fun w => unscoped0 w

theorem pre0 (c : Dev nD) : iprop(StableHlo.held (c : Thread nD τ) (Pipeline.ucRefs τ sig) (V1 m c) ∗ EE c) ⊢ (R0 m).pre c := by
  unfold R0 EE
  exact Pipeline.RegionSeg.ofHeldIn_pre (W := (V1 m)) (R := fun _ => iprop(emp)) (X := fun _ => iprop(emp)) (D := fun _ => 0) sub0 c
theorem post0 (c : Dev nD) : (R0 m).post c ⊢ iprop(StableHlo.held (c : Thread nD τ) (Pipeline.ucRefs τ sig) (U2 m c) ∗ EE c) := by
  unfold R0 EE U2
  exact Pipeline.RegionSeg.ofHeldIn_post (W := (V1 m)) (R := fun _ => iprop(emp)) (Y := fun _ => iprop(emp)) (D := fun _ => 0) sub0 c

/-- Region 1's segment. -/
def R1 : RegionSeg (pcfgs (F := F)) adm (pdats m) () defs₀ Variants.none LL lvl 1 :=
  Pipeline.RegionSeg.ofHeldIn (pcfgs (F := F)) adm (pdats m) () defs₀ Variants.none LL lvl 1 (fun _ => 0) (Pipeline.ucRefs τ sig)
    (fun _ => iprop(emp)) (fun _ => iprop(emp)) launch1.toP rfl (fun c => (body_obligation1 (U2 m) c).loose) (fun _ _ => rfl) (fun _ => rfl)
    (fun c => (dat1 (U2 m) c).share_full fun _ => rfl) (hin1 (U2 m)) (hout1 (U2 m)) (fun _ => 0) (cut 1) (fun _ => iprop(emp)) (U2 m) (fun c w => A1_eq (U2 m) c w)

theorem unscoped1 : ∀ w : Fin cfg1.W, (Pipeline.arrRef spec1 w).isScoped = false := by decide
theorem sub1 : Pipeline.arrRefs (τ := τ) (pcfgs (F := F) 1).spec ⊆ Pipeline.ucRefs τ sig :=
  Pipeline.arrRefs_sub_ucRefs (pcfgs (F := F) 1).spec fun w => unscoped1 w

theorem pre1 (c : Dev nD) : iprop(StableHlo.held (c : Thread nD τ) (Pipeline.ucRefs τ sig) (U2 m c) ∗ EE c) ⊢ (R1 m).pre c := by
  unfold R1 EE
  exact Pipeline.RegionSeg.ofHeldIn_pre (W := (U2 m)) (R := fun _ => iprop(emp)) (X := fun _ => iprop(emp)) (D := fun _ => 0) sub1 c
theorem post1 (c : Dev nD) : (R1 m).post c ⊢ iprop(StableHlo.held (c : Thread nD τ) (Pipeline.ucRefs τ sig) (U3 m c) ∗ EE c) := by
  unfold R1 EE U3
  exact Pipeline.RegionSeg.ofHeldIn_post (W := (U2 m)) (R := fun _ => iprop(emp)) (Y := fun _ => iprop(emp)) (D := fun _ => 0) sub1 c

theorem EE_done (c : Dev nD) : EE c ⊢ (iprop(∃ Wd, owes (c : Thread nD τ) (0 : CellTallies nD τ sig Unit) Wd) : sProp 𝕄) := by
  unfold EE; iintro ⟨H, -⟩; iexact H

/-! ## What each item leaves unchanged -/

theorem U2_keeps (c : Dev nD) (r : Ref sig .tc) (h : ∀ w, Pipeline.arrRef spec0 w = r → (cfg0.win w).isOut = false) :
    U2 m c (Proc.devRef .tc r) = V1 m c (Proc.devRef .tc r) :=
  Pipeline.afterRegion_keeps (dat0 (V1 m) c) (V1 m c) winFacts0.arr_inj (A0_eq (V1 m) c) r h
theorem U3_keeps (c : Dev nD) (r : Ref sig .tc) (h : ∀ w, Pipeline.arrRef spec1 w = r → (cfg1.win w).isOut = false) :
    U3 m c (Proc.devRef .tc r) = U2 m c (Proc.devRef .tc r) :=
  Pipeline.afterRegion_keeps (dat1 (U2 m) c) (U2 m c) winFacts1.arr_inj (A1_eq (U2 m) c) r h
theorem U2_arr (c : Dev nD) (w : Fin cfg0.W) : U2 m c (Proc.devRef .tc (Pipeline.arrRef spec0 w)) = (dat0 (V1 m) c).arrAt w cfg0.N :=
  Pipeline.afterRegion_arr (dat0 (V1 m) c) (V1 m c) winFacts0.arr_inj w
theorem U3_arr (c : Dev nD) (w : Fin cfg1.W) : U3 m c (Proc.devRef .tc (Pipeline.arrRef spec1 w)) = (dat1 (U2 m) c).arrAt w cfg1.N :=
  Pipeline.afterRegion_arr (dat1 (U2 m) c) (U2 m c) winFacts1.arr_inj w

theorem U3_main_arg0 (c : Dev nD) : U3 m c main_arg0 = m ((c : Thread nD τ).loc main_arg0) :=
  (U3_keeps m c main_arg0 (by decide)).trans <| (U2_keeps m c main_arg0 (by decide)).trans <| (V1_of m c main_arg0 (by decide)).trans rfl
theorem U3_main_arg1 (c : Dev nD) : U3 m c main_arg1 = m ((c : Thread nD τ).loc main_arg1) :=
  (U3_keeps m c main_arg1 (by decide)).trans <| (U2_keeps m c main_arg1 (by decide)).trans <| (V1_of m c main_arg1 (by decide)).trans rfl
theorem U3_main_arg2 (c : Dev nD) : U3 m c main_arg2 = m ((c : Thread nD τ).loc main_arg2) :=
  (U3_keeps m c main_arg2 (by decide)).trans <| (U2_keeps m c main_arg2 (by decide)).trans <| (V1_of m c main_arg2 (by decide)).trans rfl
theorem U3_main_arg3 (c : Dev nD) : U3 m c main_arg3 = m ((c : Thread nD τ).loc main_arg3) :=
  (U3_keeps m c main_arg3 (by decide)).trans <| (U2_keeps m c main_arg3 (by decide)).trans <| (V1_of m c main_arg3 (by decide)).trans rfl
theorem U3_main_arg4 (c : Dev nD) : U3 m c main_arg4 = m ((c : Thread nD τ).loc main_arg4) :=
  (U3_keeps m c main_arg4 (by decide)).trans <| (U2_keeps m c main_arg4 (by decide)).trans <| (V1_of m c main_arg4 (by decide)).trans rfl
theorem U3_main_arg5 (c : Dev nD) : U3 m c main_arg5 = m ((c : Thread nD τ).loc main_arg5) :=
  (U3_keeps m c main_arg5 (by decide)).trans <| (U2_keeps m c main_arg5 (by decide)).trans <| (V1_of m c main_arg5 (by decide)).trans rfl

/-- What the launch hands each core is what it starts from. -/
theorem start (ρ : Dev nD → PrngReg) :
    iprop((bigSep Finset.univ fun c : Dev nD => iprop(unscopedSems0 c ∗ owes (c : Thread nD τ) 0 ∅ ∗ Pipeline.launchCred 0 c ∗ prngReg c (ρ c) ∗ emp)) ∗ levAts LL lvl)
      ⊢ (|={Set.univ}=> bigSep Finset.univ EE : sProp 𝕄) := by
  refine Pipeline.initEach LL lvl fun c => ?_
  unfold EE
  iintro ⟨⟨-, Ho, -⟩, -⟩
  imodintro
  isplitl [Ho]; · iexists _; iexact Ho
  isplitl <;> iempintro

-- (the launch theorem's implicit arguments are found by unifying its conclusion with this one)
set_option backward.isDefEq.respectTransparency.types false in
/-- THE RUN: from any memory with zero counters every weakly fair execution of @main terminates, and every final state has
    each argument as launched, each result at `U3`, and every semaphore counter at zero. -/
theorem run (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v5_0) = U3 m c main_v5_0
      ∧ r.2.mem ((c.tc : Thread nD τ).loc main_v6_0) = U3 m c main_v6_0
      ∧ r.2.mem ((c.tc : Thread nD τ).loc main_v6_1) = U3 m c main_v6_1)
      ∧ r.2.sem = fun _ => 0) := by
  have hu₀ : (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj))) ∗ bigSep Finset.univ (fun _ : Dev nD => (iprop(emp) : sProp 𝕄))) := by
    iintro Hu; imodintro
    isplitl [Hu]
    · iapply (show (ownU _ : sProp 𝕄) ⊢ BI.own (emb₁ (initOf (Pipeline.cells cfgs cellOf_inj) (Pipeline.launchToks cfgs cellOf_inj))) from .rfl); iexact Hu
    iapply (show (BI.emp : sProp 𝕄) ⊢ bigSep Finset.univ (fun _ : Dev nD => (BI.emp : sProp 𝕄)) from by rw [BI.bigSep_emp_const])
    iempintro
  refine Pipeline.θ_run_regions_kit_dev_sems (pcfgs (F := F)) adm (pdats m) () cellOf_inj emb₁ defs₀ Variants.none LL lvl m ρ main
    (segs m Variants.none LL lvl (fun _ => EE) () (pdats m) (R0 m) (R1 m))
    (fun c Q => by
      rewrite [main_chain c, Seg.run_eq_chain,
        show (segs m Variants.none LL lvl (fun _ => EE) () (pdats m) (R0 m) (R1 m) c).map Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [segs, Seg.pipes_host, Seg.pipes_region, Seg.pipes_nil]; decide) 0 LL_off (fun _ => iprop(emp)) (initOf (Pipeline.cells cfgs cellOf_inj) (Pipeline.launchToks cfgs cellOf_inj)) hu₀
    (T₀ := fun c => iprop(StableHlo.held (c : Thread nD τ) (Pipeline.ucRefs τ sig) (V0 m c) ∗ EE c))
    (Tₙ := fun c => StableHlo.held (c : Thread nD τ) (Pipeline.ucRefs τ sig) (U3 m c))
    (hch := fun c => ⟨.rfl, pre0 m c, (post0 m c).trans (pre1 m c), (post1 m c).trans (sep_mono .rfl (EE_done c))⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_v5_0) = U3 m c main_v5_0 ∧ s.mem ((c.tc : Thread nD τ).loc main_v6_0) = U3 m c main_v6_0 ∧ s.mem ((c.tc : Thread nD τ).loc main_v6_1) = U3 m c main_v6_1)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) 0 ∅ ∗ Pipeline.launchCred 0 c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) 0 ∅ ∗ Pipeline.launchCred 0 c ∗ prngReg c (ρ c) ∗ emp))
            : sProp 𝕄) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    imod (start ρ) $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (U3 m c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (U3_main_arg0 m c),
        (h (Proc.devRef .tc main_arg1) (Finset.mem_filter.mpr ⟨StableHlo.devRef_mem_tcRefs main_arg1, by decide⟩)).trans (U3_main_arg1 m c),
        (h (Proc.devRef .tc main_arg2) (Finset.mem_filter.mpr ⟨StableHlo.devRef_mem_tcRefs main_arg2, by decide⟩)).trans (U3_main_arg2 m c),
        (h (Proc.devRef .tc main_arg3) (Finset.mem_filter.mpr ⟨StableHlo.devRef_mem_tcRefs main_arg3, by decide⟩)).trans (U3_main_arg3 m c),
        (h (Proc.devRef .tc main_arg4) (Finset.mem_filter.mpr ⟨StableHlo.devRef_mem_tcRefs main_arg4, by decide⟩)).trans (U3_main_arg4 m c),
        (h (Proc.devRef .tc main_arg5) (Finset.mem_filter.mpr ⟨StableHlo.devRef_mem_tcRefs main_arg5, by decide⟩)).trans (U3_main_arg5 m c),
        h (Proc.devRef .tc main_v5_0) (Finset.mem_filter.mpr ⟨StableHlo.devRef_mem_tcRefs main_v5_0, by decide⟩),
        h (Proc.devRef .tc main_v6_0) (Finset.mem_filter.mpr ⟨StableHlo.devRef_mem_tcRefs main_v6_0, by decide⟩),
        h (Proc.devRef .tc main_v6_1) (Finset.mem_filter.mpr ⟨StableHlo.devRef_mem_tcRefs main_v6_1, by decide⟩)⟩
    · iexact HSI

/-- The frame: each argument ends as launched, every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(h.1 c).1, (h.1 c).2.1, (h.1 c).2.2.1, (h.1 c).2.2.2.1, (h.1 c).2.2.2.2.1, (h.1 c).2.2.2.2.2.1⟩, h.2⟩) (run m ρ)

end Cert.KernelIdeal.Own

end
-- ==== Proof.V.Scale.lean ====
module

public import Idealize.ShloMosaic.Lib.IdealHost

@[expose] public section

set_option maxRecDepth 16384

noncomputable section

/-! # The scale of one token as a function of its greatest magnitude

Both programs choose a power of two from `v`, a token's greatest magnitude over 448. The kernel
finds the exponent field of the greatest power of two that is at most `v` bit by bit; the reference
takes the greatest power that is at most `v` from the list of all of them and doubles it. Here `top v`
is that exponent field, and both answers are `scaleOf (top v)`. -/

namespace Cert.Val

open Idealize.ShloMosaic

/-- The number whose exponent field is `n` and whose other bits are zero. -/
def pw (n : ℕ) : EReal := if n = 255 then ⊤ else if n = 0 then 0 else (((2 : ℝ) ^ ((n : ℤ) - 127) : ℝ) : EReal)

theorem fields (n : Fin 256) :
    ((BitVec.ofNat 32 n <<< 23).extractLsb' 23 8).toNat = n ∧ ((BitVec.ofNat 32 n <<< 23).extractLsb' 0 23).toNat = 0
      ∧ ((BitVec.ofNat 32 n <<< 23).extractLsb' (8 + 23) 1 == 1#1) = false := by
  revert n; decide +kernel

/-- What a word of positive sign denotes, from its fields. -/
theorem ieee_of {b : BitVec 32} {ex fr : ℕ} (h1 : (b.extractLsb' 23 8).toNat = ex) (h2 : (b.extractLsb' 0 23).toNat = fr)
    (h3 : (b.extractLsb' (8 + 23) 1 == 1#1) = false) :
    Ideal.ieee 8 23 b = if ex = 255 then (if fr = 0 then ⊤ else ⊥) else if ex = 0 then ((fr * (2 : ℝ) ^ (-149 : ℤ) : ℝ) : EReal)
      else (((2 ^ 23 + fr : ℕ) * (2 : ℝ) ^ ((ex : ℤ) - 150) : ℝ) : EReal) := by
  unfold Ideal.ieee
  simp only [h1, h2, h3]
  have e1 : (ex : ℤ) - (2 ^ (8 - 1) - 1 : ℤ) - (23 : ℕ) = (ex : ℤ) - 150 := by norm_num; ring
  have e2 : (1 : ℤ) - (2 ^ (8 - 1) - 1 : ℤ) - (23 : ℕ) = -149 := by norm_num
  rw [e1, e2]
  simp only [Bool.false_eq_true, if_false, one_mul]
  rfl

theorem pw_arith (k : ℕ) : ((2 ^ 23 + 0 : ℕ) * (2 : ℝ) ^ ((k : ℤ) - 150) : ℝ) = (2 : ℝ) ^ ((k : ℤ) - 127) := by
  have e : (k : ℤ) - 127 = 23 + ((k : ℤ) - 150) := by omega
  rw [e, zpow_add₀ (by norm_num : (2 : ℝ) ≠ 0) 23]
  norm_num

/-- The word with exponent field `n` denotes `pw n`. -/
theorem ofBits_pw (n : Fin 256) : Ideal.ofBits .f32 (BitVec.ofNat 32 n <<< 23) = pw n := by
  obtain ⟨h1, h2, h3⟩ := fields n
  refine (ieee_of h1 h2 h3).trans ?_
  generalize (n : ℕ) = k
  unfold pw
  by_cases e : k = 255
  · rw [if_pos e, if_pos e, if_pos rfl]
  by_cases e0 : k = 0
  · rw [if_neg e, if_neg e, if_pos e0, if_pos e0]; simp
  · rw [if_neg e, if_neg e, if_neg e0, if_neg e0]
    rw [pw_arith k]

theorem pw_nonneg (n : ℕ) : 0 ≤ pw n := by
  unfold pw
  split_ifs
  · exact le_top
  · exact le_rfl
  · exact_mod_cast (zpow_pos (by norm_num : (0:ℝ) < 2) _).le

theorem pw_mono {a b : ℕ} (h : a ≤ b) (hb : b < 256) : pw a ≤ pw b := by
  by_cases hb' : b = 255
  · rw [show pw b = ⊤ by simp [pw, hb']]; exact le_top
  by_cases ha : a = 0
  · rw [show pw a = 0 by simp [pw, ha]]; exact pw_nonneg b
  unfold pw
  rw [if_neg (by omega), if_neg ha, if_neg hb', if_neg (by omega)]
  exact EReal.coe_le_coe_iff.2 (zpow_le_zpow_right₀ (by norm_num : (1:ℝ) ≤ 2) (by omega))

open Classical in
/-- The greatest exponent field whose power of two is at most `v`. -/
def top (v : EReal) : ℕ := Nat.findGreatest (fun n => pw n ≤ v) 255

theorem top_le (v : EReal) : top v ≤ 255 := Nat.findGreatest_le _

theorem pw_le_iff {v : EReal} (hv : 0 ≤ v) {n : ℕ} (hn : n < 256) : pw n ≤ v ↔ n ≤ top v := by
  classical
  constructor
  · intro h
    exact Nat.le_findGreatest (P := fun n => pw n ≤ v) (by omega) h
  · intro h
    have h0 : pw 0 ≤ v := by simpa [pw] using hv
    have : pw (top v) ≤ v := by
      unfold top
      exact Nat.findGreatest_spec (P := fun n => pw n ≤ v) (m := 0) (by omega) h0
    exact (pw_mono h (by have := top_le v; omega)).trans this

theorem top_lt {v : EReal} (hv : 0 ≤ v) (h : v < (((2 : ℝ) ^ (127 : ℤ) : ℝ) : EReal)) : top v ≤ 253 := by
  by_contra hc
  have : pw 254 ≤ v := (pw_le_iff hv (by omega)).2 (by omega)
  have e : pw 254 = (((2 : ℝ) ^ (127 : ℤ) : ℝ) : EReal) := by unfold pw; norm_num
  rw [e] at this
  exact absurd h (not_lt.2 this)

/-- One step of the kernel's search: the bit is kept when its power of two is at most `v`. -/
def kst (v : Ideal .f32) (f b : BitVec 32) : BitVec 32 :=
  Scalar.select (FloatOps.cmpf .oge v (FloatOps.ofBits .f32 (IntOp.shli .vector (IntOp.addi f b) 23#32))) (IntOp.addi f b) f

/-- The kernel's search, from the highest bit down. -/
def kfld (v : Ideal .f32) : BitVec 32 :=
  kst v (kst v (kst v (kst v (kst v (kst v (kst v (kst v 0#32 128#32) 64#32) 32#32) 16#32) 8#32) 4#32) 2#32) 1#32

/-- The kernel's scale of a token of greatest magnitude `a`. -/
def kscale (a : Ideal .f32) : Ideal .f32 :=
  let f := kfld (FloatOps.mulf a (Scalar.ofBits .f32 0x3B124925#32))
  FloatOps.ofBits .f32 (IntOp.shli .vector (IntOp.addi
    (Scalar.select (FloatOps.cmpf .oeq a (Scalar.ofBits .f32 0x00000000#32)) 0#32
      (Scalar.select (IntOp.cmpi .eq f 0#32) 0#32 (IntOp.subi f 126#32))) 127#32) 23#32)

/-- The same step on exponent fields. -/
def nst (t : ℕ) (f b : BitVec 32) : BitVec 32 := if (f + b).toNat ≤ t then f + b else f

def nfld (t : ℕ) : BitVec 32 :=
  nst t (nst t (nst t (nst t (nst t (nst t (nst t (nst t 0#32 128#32) 64#32) 32#32) 16#32) 8#32) 4#32) 2#32) 1#32

theorem kst_eq {v : EReal} (hv : 0 ≤ v) (f b : BitVec 32) (h : (f + b).toNat < 256) : kst v f b = nst (top v) f b := by
  have e : IntOp.shli .vector (IntOp.addi f b) 23#32 = BitVec.ofNat 32 (⟨(f + b).toNat, h⟩ : Fin 256) <<< 23 := by
    show (if (23#32).toNat < 32 then (f + b) <<< 23#32 else _) = _
    rw [if_pos (by decide)]
    show _ = BitVec.ofNat 32 (f + b).toNat <<< 23
    rw [BitVec.ofNat_toNat, BitVec.setWidth_eq]
    rfl
  unfold kst nst
  rw [e]
  show Scalar.select (Ideal.cmp .oge v (Ideal.ofBits .f32 _)) (f + b) f = _
  rw [ofBits_pw]
  unfold Ideal.cmp Scalar.select
  by_cases hc : (f + b).toNat ≤ top v
  · have := (pw_le_iff hv h).2 hc
    rw [if_pos hc]
    simp only [this, decide_true]
    rfl
  · have := mt (pw_le_iff hv h).1 hc
    rw [if_neg hc]
    simp only [this, decide_false]
    rfl

theorem nst_le (t : ℕ) (f b : BitVec 32) (n k : ℕ) (hf : f.toNat ≤ n) (hb : b.toNat = k) (hs : n + k < 256) : (nst t f b).toNat ≤ n + k ∧ (f + b).toNat < 256 := by
  have e : (f + b).toNat = f.toNat + b.toNat := by rw [BitVec.toNat_add]; omega
  constructor
  · unfold nst; split_ifs <;> omega
  · omega

theorem kfld_eq {v : EReal} (hv : 0 ≤ v) : kfld v = nfld (top v) := by
  unfold kfld nfld
  have a1 := nst_le (top v) 0#32 128#32 0 128 (by decide) (by decide) (by decide)
  rw [kst_eq hv _ _ a1.2]
  have a2 := nst_le (top v) _ 64#32 _ 64 a1.1 (by decide) (by decide)
  rw [kst_eq hv _ _ a2.2]
  have a3 := nst_le (top v) _ 32#32 _ 32 a2.1 (by decide) (by decide)
  rw [kst_eq hv _ _ a3.2]
  have a4 := nst_le (top v) _ 16#32 _ 16 a3.1 (by decide) (by decide)
  rw [kst_eq hv _ _ a4.2]
  have a5 := nst_le (top v) _ 8#32 _ 8 a4.1 (by decide) (by decide)
  rw [kst_eq hv _ _ a5.2]
  have a6 := nst_le (top v) _ 4#32 _ 4 a5.1 (by decide) (by decide)
  rw [kst_eq hv _ _ a6.2]
  have a7 := nst_le (top v) _ 2#32 _ 2 a6.1 (by decide) (by decide)
  rw [kst_eq hv _ _ a7.2]
  have a8 := nst_le (top v) _ 1#32 _ 1 a7.1 (by decide) (by decide)
  rw [kst_eq hv _ _ a8.2]

theorem nfld_eq (t : Fin 256) : nfld t = BitVec.ofNat 32 t := by
  revert t; decide +kernel

/-- The scale that an exponent field gives: twice its power of two, or one where there is none. -/
def scaleOf (n : ℕ) : EReal := if n = 0 then 1 else (((2 : ℝ) ^ ((n : ℤ) - 126) : ℝ) : EReal)

theorem words (t : Fin 254) : IntOp.shli .vector (IntOp.addi
      (Scalar.select (IntOp.cmpi .eq (BitVec.ofNat 32 t) 0#32) 0#32 (IntOp.subi (BitVec.ofNat 32 t) 126#32)) 127#32) 23#32
    = BitVec.ofNat 32 (if t.val = 0 then 127 else t.val + 1) <<< 23 := by
  revert t; decide +kernel

theorem words0 : IntOp.shli .vector (IntOp.addi 0#32 127#32) 23#32 = BitVec.ofNat 32 127 <<< 23 := by decide +kernel

theorem pw_scaleOf (t : ℕ) (h : t < 254) : pw (if t = 0 then 127 else t + 1) = scaleOf t := by
  unfold pw scaleOf
  by_cases e : t = 0
  · simp [e]
  · rw [if_neg e, if_neg (by omega), if_neg (by omega), if_neg e]
    congr 2
    push_cast; ring

/-- The constant by which the greatest magnitude is multiplied lies between 0 and 1/4. -/
theorem cst_eq : Ideal.ofBits .f32 0x3B124925#32 = (((2 ^ 23 + 1198373 : ℕ) * (2 : ℝ) ^ ((118 : ℕ) - 150 : ℤ) : ℝ) : EReal) := by
  refine (ieee_of (b := 0x3B124925#32) (ex := 118) (fr := 1198373) (by decide) (by decide) (by decide)).trans ?_
  rw [if_neg (by decide), if_neg (by decide)]

theorem cst_bounds : (0 : ℝ) ≤ (2 ^ 23 + 1198373 : ℕ) * (2 : ℝ) ^ ((118 : ℕ) - 150 : ℤ) ∧ (2 ^ 23 + 1198373 : ℕ) * (2 : ℝ) ^ ((118 : ℕ) - 150 : ℤ) ≤ 1 / 4 := by
  constructor
  · positivity
  · norm_num

/-- The number that the search is given, of a greatest magnitude `a`. -/
def vOf (a : EReal) : EReal := a * Ideal.ofBits .f32 0x3B124925#32

theorem vOf_bounds {r : ℝ} (h0 : 0 ≤ r) (h1 : r ≤ (2 : ℝ) ^ (128 : ℤ)) :
    0 ≤ vOf (r : EReal) ∧ vOf (r : EReal) < (((2 : ℝ) ^ (127 : ℤ) : ℝ) : EReal) := by
  unfold vOf
  rw [cst_eq, ← EReal.coe_mul]
  obtain ⟨c0, c1⟩ := cst_bounds
  generalize ((2 ^ 23 + 1198373 : ℕ) * (2 : ℝ) ^ ((118 : ℕ) - 150 : ℤ) : ℝ) = c at c0 c1
  constructor
  · exact_mod_cast mul_nonneg h0 c0
  · rw [EReal.coe_lt_coe_iff]
    calc r * c ≤ (2 : ℝ) ^ (128 : ℤ) * (1 / 4) := mul_le_mul h1 c1 c0 (by positivity)
      _ < (2 : ℝ) ^ (127 : ℤ) := by norm_num

/-- The kernel's scale is the scale of the greatest exponent field. -/
theorem kscale_eq {r : ℝ} (h0 : 0 ≤ r) (h1 : r ≤ (2 : ℝ) ^ (128 : ℤ)) : kscale (r : EReal) = scaleOf (top (vOf r)) := by
  obtain ⟨hv, hv'⟩ := vOf_bounds h0 h1
  have ht := top_lt hv hv'
  have hf : kfld (FloatOps.mulf (F := Ideal) (φ := .f32) (r : EReal) (Scalar.ofBits .f32 0x3B124925#32)) = BitVec.ofNat 32 (top (vOf r)) :=
    (kfld_eq hv).trans (nfld_eq ⟨top (vOf r), by omega⟩)
  unfold kscale
  rw [hf]
  have key : FloatOps.cmpf (F := Ideal) (φ := .f32) .oeq (r : EReal) (Scalar.ofBits .f32 0x00000000#32) = BitVec.ofBool (decide ((r : EReal) = 0)) := by
    show Ideal.cmp .oeq (r : EReal) (Ideal.ofBits .f32 0x00000000#32) = _
    rw [Ideal.ofBits_zero_f32]
    rfl
  rw [key]
  by_cases e : (r : EReal) = 0
  · have tz : top (vOf r) = 0 := by
      by_contra hne
      have h1 : pw 1 ≤ vOf r := (pw_le_iff hv (by omega)).2 (by omega)
      rw [e, vOf, zero_mul] at h1
      have : (0 : EReal) < pw 1 := by
        unfold pw
        rw [if_neg (by decide), if_neg (by decide)]
        exact_mod_cast (zpow_pos (by norm_num : (0:ℝ) < 2) _)
      exact absurd h1 (not_le.2 this)
    simp only [e, decide_true]
    rw [show (r : EReal) = 0 from e] at tz
    rw [tz]
    show Ideal.ofBits .f32 (IntOp.shli .vector (IntOp.addi 0#32 127#32) 23#32) = _
    rw [words0]
    exact (ofBits_pw 127).trans (by simpa using pw_scaleOf 0 (by decide))
  · simp only [e, decide_false]
    show Ideal.ofBits .f32 (IntOp.shli .vector (IntOp.addi (Scalar.select (IntOp.cmpi .eq (BitVec.ofNat 32 (top (vOf r))) 0#32) 0#32
      (IntOp.subi (BitVec.ofNat 32 (top (vOf r))) 126#32)) 127#32) 23#32) = _
    rw [words ⟨top (vOf r), by omega⟩]
    refine (ofBits_pw ⟨if top (vOf r) = 0 then 127 else top (vOf r) + 1, by split_ifs <;> omega⟩).trans ?_
    exact pw_scaleOf _ (by omega)

end Cert.Val

end
-- ==== Proof.V.ScaleRef.lean ====
module

public import proofs.«01_k».proof.Proof.V.Scale

@[expose] public section

set_option maxRecDepth 16384

noncomputable section

/-! # The reference's scale

What the reference computes for the scale of token `i`, read at the index, is `scaleOf` of the greatest
exponent field at most the token's greatest magnitude over 448. -/

namespace Cert.Val

open Idealize.ShloMosaic

theorem fold_max {n : ℕ} (b : EReal) (hb : b = ⊥) (f : Fin n → EReal) :
    (Finset.univ : Finset (Fin n)).fold (FloatOps.maximumf (F := Ideal) (φ := .f32)) b f = Finset.univ.sup f := by
  subst hb; rfl

theorem negInf : Ideal.ofBits .f32 0xFF800000#32 = ⊥ := by
  simp [Ideal.ofBits, Ideal.ieee]

theorem two_eq : Ideal.ofBits .f32 0x40000000#32 = ((2 : ℝ) : EReal) := by
  refine (ieee_of (b := 0x40000000#32) (ex := 128) (fr := 0) (by decide) (by decide) (by decide)).trans ?_
  rw [if_neg (by decide), if_neg (by decide)]
  norm_num

theorem neg126_eq : Ideal.ofBits .f32 0xC2FC0000#32 = ((-126 : ℝ) : EReal) := by
  simp [Ideal.ofBits, Ideal.ieee]
  norm_num
  rw [← EReal.coe_mul]
  norm_num

/-- The powers that the reference lists. -/
theorem power_eq (n : ℕ) (h : n < 254) :
    Ideal.pow (Ideal.ofBits .f32 0x40000000#32) (Ideal.ofBits .f32 0xC2FC0000#32 + ((n : ℝ) : EReal)) = pw (n + 1) := by
  rw [two_eq, neg126_eq, ← EReal.coe_add, Ideal.pow_coe_coe]
  unfold pw
  rw [if_neg (by omega), if_neg (by omega)]
  congr 1
  show (2 : ℝ) ^ (-126 + (n : ℝ)) = _
  rw [← Real.rpow_intCast]
  congr 1
  push_cast
  ring

/-- The greatest listed power that is at most `v`. -/
theorem below_eq {v : EReal} (hv : 0 ≤ v) (ht : top v ≤ 253) :
    (Finset.univ : Finset (Fin 254)).sup (fun n => if pw (n.val + 1) ≤ v then pw (n.val + 1) else 0) = if top v = 0 then 0 else pw (top v) := by
  apply le_antisymm
  · refine Finset.sup_le fun n _ => ?_
    split_ifs with h1 h2 h2
    · have := (pw_le_iff hv (by omega)).1 h1; omega
    · exact pw_mono ((pw_le_iff hv (by omega)).1 h1) (by omega)
    · exact le_rfl
    · exact pw_nonneg _
  · split_ifs with h2
    · refine le_trans ?_ (Finset.le_sup (f := fun n : Fin 254 => if pw (n.val + 1) ≤ v then pw (n.val + 1) else 0) (Finset.mem_univ (0 : Fin 254)))
      split_ifs
      · exact pw_nonneg _
      · exact le_rfl
    · refine le_trans (le_of_eq ?_) (Finset.le_sup (f := fun n : Fin 254 => if pw (n.val + 1) ≤ v then pw (n.val + 1) else 0) (Finset.mem_univ (⟨top v - 1, by omega⟩ : Fin 254)))
      dsimp only
      have e : top v - 1 + 1 = top v := by omega
      rw [e, if_pos ((pw_le_iff hv (by omega)).2 le_rfl)]

theorem rscale_eq {v : EReal} (ht : top v ≤ 253) (B : EReal) (hB : B = if top v = 0 then 0 else pw (top v)) :
    Scalar.select (FloatOps.cmpf (F := Ideal) (φ := .f32) .oeq B (FloatOps.ofBits .f32 0x00000000#32)) (FloatOps.ofBits (F := Ideal) .f32 0x3F800000#32)
      (FloatOps.mulf (FloatOps.ofBits .f32 0x40000000#32) B) = scaleOf (top v) := by
  show Scalar.select (Ideal.cmp .oeq B (Ideal.ofBits .f32 0x00000000#32)) (Ideal.ofBits .f32 0x3F800000#32) (Ideal.ofBits .f32 0x40000000#32 * B) = _
  rw [Ideal.ofBits_zero_f32, Ideal.ofBits_one_f32, two_eq]
  unfold Ideal.cmp Scalar.select scaleOf
  by_cases e : top v = 0
  · rw [if_pos e] at hB
    rw [if_pos e, hB]
    simp
  · rw [if_neg e] at hB
    rw [if_neg e]
    have hB' : B = (((2 : ℝ) ^ ((top v : ℤ) - 127) : ℝ) : EReal) := by
      rw [hB]; unfold pw; rw [if_neg (by omega), if_neg e]
    have hne : ¬ B = 0 := by
      rw [hB']
      exact_mod_cast (zpow_pos (by norm_num : (0:ℝ) < 2) _).ne'
    simp only [hne, decide_false]
    rw [if_neg (by decide), hB', ← EReal.coe_mul]
    congr 1
    rw [show (top v : ℤ) - 126 = 1 + ((top v : ℤ) - 127) by ring, zpow_add₀ (by norm_num : (2 : ℝ) ≠ 0)]
    norm_num

/-- The greatest magnitude of a row. -/
def amax (f : Fin 27648 → EReal) : EReal := Finset.univ.sup fun d => max (f d) (-(f d))

/-- With entries of bounded magnitude the greatest magnitude is a bounded real. -/
theorem amax_real (f : Fin 27648 → EReal) (h : ∀ d, max (f d) (-(f d)) ≤ (((2 : ℝ) ^ (128 : ℤ) : ℝ) : EReal)) :
    ∃ r : ℝ, amax f = (r : EReal) ∧ 0 ≤ r ∧ r ≤ (2 : ℝ) ^ (128 : ℤ) := by
  have h1 : amax f ≤ (((2 : ℝ) ^ (128 : ℤ) : ℝ) : EReal) := Finset.sup_le fun d _ => h d
  have h0 : 0 ≤ amax f := by
    refine le_trans ?_ (Finset.le_sup (f := fun d => max (f d) (-(f d))) (Finset.mem_univ (0 : Fin 27648)))
    rcases le_total 0 (f 0) with h | h
    · exact le_max_of_le_left h
    · exact le_max_of_le_right (by simpa using EReal.neg_le_neg_iff.2 h)
  lift amax f to ℝ using ⟨fun e => by rw [e] at h1; exact absurd h1 (not_le.2 (EReal.coe_lt_top _)), fun e => by rw [e] at h0; exact absurd h0 (by decide)⟩ with r hr
  exact ⟨r, rfl, by exact_mod_cast h0, by exact_mod_cast h1⟩

end Cert.Val

end
-- ==== Proof.V.K0.lean ====
module

public import proofs.«01_k».proof.Proof.PI.Run
public import proofs.«01_k».proof.Proof.V.ScaleRef
public import Idealize.ShloMosaic.Lib.Pointwise
public import Idealize.ShloMosaic.Lib.Pipeline.ValueKit

@[expose] public section

set_option maxRecDepth 16384

noncomputable section

namespace Cert.KernelIdeal.Own

open Cert.KernelIdeal Cert.KernelIdeal.Gen Cert.Kit Cert.Val
open Idealize.ShloMosaic Idealize.ShloMosaic.TcCoe Idealize.ShloMosaic.Tactic

theorem pay4_apply (a : FVec Ideal S128x128 .bf16) (y : S128x1.Idx) :
    k0_pay4 (F := Ideal) a y = kst (k0_pay3 (F := Ideal) a y) (kst (k0_pay3 (F := Ideal) a y) (kst (k0_pay3 (F := Ideal) a y)
      (kst (k0_pay3 (F := Ideal) a y) 0#32 128#32) 64#32) 32#32) 16#32 := by
  unfold k0_pay4 kst
  generalize k0_pay3 (F := Ideal) a = z
  rfl

theorem pay5_apply (z : FVec Ideal S128x1 .f32) (f : IVec S128x1 32) (y : S128x1.Idx) :
    k0_pay5 (F := Ideal) z f y = (let g := kst (z y) (kst (z y) (kst (z y) (kst (z y) (f y) 8#32) 4#32) 2#32) 1#32
      Scalar.select (IntOp.cmpi .eq g 0#32) 0#32 (IntOp.subi g 126#32)) := by
  unfold k0_pay5 kst
  rfl

theorem pay7_apply (e : IVec S128x1 32) (b : IVec S128x1 1) (j : Fin 128) :
    k0_pay7 (F := Ideal) e b (ix2 (0 : Fin 1) j) = FloatOps.ofBits .f32 (IntOp.shli .vector (IntOp.addi
      (Scalar.select (b (ix2 j (0 : Fin 1))) 0#32 (e (ix2 j (0 : Fin 1)))) 127#32) 23#32) := by
  unfold k0_pay7
  pointwise

theorem scaleBlk_apply (a : FVec Ideal S128x128 .bf16) (j : Fin 128) :
    scaleBlk (F := Ideal) a (ix2 (0 : Fin 1) j) = kscale (k0_pay2 (F := Ideal) a (ix2 j (0 : Fin 1))) := by
  unfold scaleBlk
  rw [pay7_apply, pay5_apply, pay4_apply]
  unfold kscale kfld k0_pay6 k0_pay3
  rfl

theorem pay2_apply (a : FVec Ideal S128x128 .bf16) (j : Fin 128) :
    (k0_pay2 (F := Ideal) a (ix2 j (0 : Fin 1)) : EReal) = Finset.univ.sup fun l : Fin 128 => (a (ix2 j l) : EReal) := by
  unfold k0_pay2
  pointwise
  exact fold_max _ negInf _

theorem abs_at (x : FVec Ideal S512x1024 .bf16) (i : Fin 512) (z : EReal) (u v : Fin 1024) (h : u.val = v.val) :
    (FloatOps.absf (x (ix2 i u)) : Ideal .bf16) ≤ z ↔ max (x (ix2 i v) : EReal) (-(x (ix2 i v))) ≤ z := by
  rw [Fin.ext h]; exact Iff.rfl

/-- The running maximum is at most `z` exactly when the one before is and the eight new magnitudes are. -/
theorem pay44_apply (x : FVec Ideal S512x1024 .bf16) (a : FVec Ideal S512x128 .bf16) (i : Fin 512) (l : Fin 128) (z : EReal) :
    k0_pay44 (F := Ideal) x a (ix2 i l) ≤ z ↔ a (ix2 i l) ≤ z ∧ ∀ j : Fin 8, max (x (ix2 i (⟨128 * j.val + l.val, by omega⟩ : Fin 1024))) (-(x (ix2 i (⟨128 * j.val + l.val, by omega⟩ : Fin 1024)))) ≤ z := by
  unfold k0_pay44 k0_pay42
  pointwise
  rw [Fin.forall_fin_succ, Fin.forall_fin_succ, Fin.forall_fin_succ, Fin.forall_fin_succ, Fin.forall_fin_succ, Fin.forall_fin_succ, Fin.forall_fin_succ, Fin.forall_fin_one]
  rw [max_le_iff, max_le_iff, max_le_iff, max_le_iff, max_le_iff, max_le_iff, max_le_iff, max_le_iff]
  simp only [and_assoc]
  exact and_congr Iff.rfl (and_congr (abs_at x i z _ _ (show l.val = 128 * 0 + l.val by omega))
    (and_congr (abs_at x i z _ _ (show 128 + l.val = 128 * 1 + l.val by omega))
    (and_congr (abs_at x i z _ _ (show 256 + l.val = 128 * 2 + l.val by omega))
    (and_congr (abs_at x i z _ _ (show 384 + l.val = 128 * 3 + l.val by omega))
    (and_congr (abs_at x i z _ _ (show 512 + l.val = 128 * 4 + l.val by omega))
    (and_congr (abs_at x i z _ _ (show 640 + l.val = 128 * 5 + l.val by omega))
    (and_congr (abs_at x i z _ _ (show 768 + l.val = 128 * 6 + l.val by omega))
      (abs_at x i z _ _ (show 896 + l.val = 128 * 7 + l.val by omega)))))))))

theorem pay43_apply (x : FVec Ideal S512x1024 .bf16) (acc : FVec Ideal S512x64 .f32) (a : FVec Ideal S64x1024 .bf16) (i : Fin 512) (c : Fin 64) :
    k0_pay43 (F := Ideal) x acc a (ix2 i c) = (acc (ix2 i c) + ∑ d : Fin 1024, x (ix2 i d) * a (ix2 c d) : EReal) := by
  unfold k0_pay43 k0_pay42
  pointwise

theorem pay8_apply (tok : IVec S1x128 32) (j : Fin 128) (c : Fin 64) : k0_pay8 (F := Ideal) tok (ix2 j c) = tok (ix2 (0 : Fin 1) j) := by
  unfold k0_pay8
  pointwise

theorem pay9_apply (j : Fin 128) (c : Fin 64) : k0_pay9 (ix2 j c) = BitVec.ofNat 32 (c.val / 16) := by
  unfold k0_pay9
  pointwise
  revert c
  decide +kernel

theorem shrinkBlk_apply (tok : IVec S1x128 32) (acc : FVec Ideal S128x64 .f32) (j : Fin 128) (c : Fin 64) :
    shrinkBlk (F := Ideal) tok acc (ix2 j c) = (if BitVec.ofNat 32 (c.val / 16) = tok (ix2 (0 : Fin 1) j) then acc (ix2 j c) else 0 : EReal) := by
  unfold shrinkBlk k0_pay10
  pointwise
  rw [pay8_apply, pay9_apply]
  by_cases h : BitVec.ofNat 32 (c.val / 16) = tok (ix2 (0 : Fin 1) j)
  · rw [if_pos h]; simp [Scalar.select, IntOp.cmpi, h]
  · rw [if_neg h]; simp [Scalar.select, IntOp.cmpi, beq_eq_false_iff_ne.2 h]

/-- The row of scales, entry by entry. -/
def scG (a : FVec Ideal S512x128 .bf16) (y : S1x512.Idx) : Ideal .f32 :=
  kscale (Finset.univ.sup fun l : Fin 128 => (a (ix2 (y 1) l) : EReal))

theorem piece_s (a : FVec Ideal S512x128 .bf16) (q : ℕ) (hq : q < 4)
    (inb : ∀ b, (![128 * q, 0] : Fin 2 → ℕ) b + S128x128.size b ≤ S512x128.size b)
    (inb' : ∀ b, (![0, 128 * q] : Fin 2 → ℕ) b + S1x128.size b ≤ S1x512.size b) (z : S1x128.Idx) :
    scaleBlk (F := Ideal) (View.ld (Val := Elt Ideal) (e' := .bf16) a (Rect.unit (s := S512x128) ![128 * q, 0] S128x128.size inb)) z
      = scG a ((Rect.unit (s := S1x512) ![0, 128 * q] S1x128.size inb').emb z) := by
  obtain ⟨j, rfl⟩ : ∃ j : Fin 128, z = ix2 (0 : Fin 1) j := ⟨z 1, (Idealize.ShloMosaic.eq_ix2 z).trans (congrArg (fun k => ix2 k (z 1)) (Subsingleton.elim (α := Fin 1) _ _))⟩
  rw [scaleBlk_apply, pay2_apply]
  unfold scG
  refine congrArg kscale (Finset.sup_congr rfl fun l _ => congrArg a (funext fun b => ?_))
  match b with
  | ⟨0, _⟩ => exact Fin.ext (show 128 * q + 1 * j.val = 128 * q + 1 * j.val by omega)
  | ⟨1, _⟩ => exact Fin.ext (show 0 + 1 * l.val = l.val by omega)

theorem scaleOut_apply (a : FVec Ideal S512x128 .bf16) (y : S1x512.Idx) : scaleOut (F := Ideal) a y = scG a y := by
  refine View.canon_apply_of_pieces (Val := Elt Ideal) (e := .f32) (scG a) _ ?_ y (View.cover_of_tiledL _ ![1, 128] (by sl_kernel_rfl) y)
  exact List.forall_mem_cons.2 ⟨fun z => piece_s a 3 (by omega) inb_S512x128_S128x128_384_0 inb_S1x512_S1x128_0_384 z,
    List.forall_mem_cons.2 ⟨fun z => piece_s a 2 (by omega) inb_S512x128_S128x128_256_0 inb_S1x512_S1x128_0_256 z,
    List.forall_mem_cons.2 ⟨fun z => piece_s a 1 (by omega) inb_S512x128_S128x128_128_0 inb_S1x512_S1x128_0_128 z,
    List.forall_mem_cons.2 ⟨fun z => piece_s a 0 (by omega) inb_S512x128_S128x128_0_0 inb_S1x512_S1x128_0_0 z, fun _ h => absurd h List.not_mem_nil⟩⟩⟩⟩

/-- The shrunk activations, entry by entry. -/
def shG (tok : IVec S1x512 32) (acc : FVec Ideal S512x64 .f32) (y : S512x64.Idx) : Ideal .bf16 :=
  (if BitVec.ofNat 32 ((y 1).val / 16) = tok (ix2 (0 : Fin 1) (y 0)) then acc y else 0 : EReal)

theorem piece_h (tok : IVec S1x512 32) (acc : FVec Ideal S512x64 .f32) (q : ℕ) (hq : q < 4)
    (inb : ∀ b, (![128 * q, 0] : Fin 2 → ℕ) b + S128x64.size b ≤ S512x64.size b)
    (inb' : ∀ b, (![0, 128 * q] : Fin 2 → ℕ) b + S1x128.size b ≤ S1x512.size b) (z : S128x64.Idx) :
    shrinkBlk (F := Ideal) (View.ld (Val := Elt Ideal) (e' := .i32) tok (Rect.unit (s := S1x512) ![0, 128 * q] S1x128.size inb'))
        (View.ld (Val := Elt Ideal) (e' := .f32) acc (Rect.unit (s := S512x64) ![128 * q, 0] S128x64.size inb)) z
      = shG tok acc ((Rect.unit (s := S512x64) ![128 * q, 0] S128x64.size inb).emb z) := by
  obtain ⟨j, c, rfl⟩ : ∃ (j : Fin 128) (c : Fin 64), z = ix2 j c := ⟨z 0, z 1, Idealize.ShloMosaic.eq_ix2 z⟩
  rw [shrinkBlk_apply]
  unfold shG
  have e1 : ((Rect.unit (s := S512x64) ![128 * q, 0] S128x64.size inb).emb (ix2 j c) 1).val = c.val := show 0 + 1 * c.val = c.val by omega
  have e2 : View.ld (Val := Elt Ideal) (e' := .i32) tok (Rect.unit (s := S1x512) ![0, 128 * q] S1x128.size inb') (ix2 (0 : Fin 1) j)
      = tok (ix2 (0 : Fin 1) ((Rect.unit (s := S512x64) ![128 * q, 0] S128x64.size inb).emb (ix2 j c) 0)) := by
    refine congrArg tok (funext fun b => ?_)
    match b with
    | ⟨0, _⟩ => exact Fin.ext (show 0 + 1 * 0 = 0 by omega)
    | ⟨1, _⟩ => exact Fin.ext (show 128 * q + 1 * j.val = 128 * q + 1 * j.val by omega)
  rw [e1, e2]
  rfl

theorem shrinkOut_apply (tok : IVec S1x512 32) (acc : FVec Ideal S512x64 .f32) (y : S512x64.Idx) : shrinkOut (F := Ideal) tok acc y = shG tok acc y := by
  refine View.canon_apply_of_pieces (Val := Elt Ideal) (e := .bf16) (shG tok acc) _ ?_ y (View.cover_of_tiledL _ ![128, 64] (by sl_kernel_rfl) y)
  exact List.forall_mem_cons.2 ⟨fun z => piece_h tok acc 3 (by omega) inb_S512x64_S128x64_384_0 inb_S1x512_S1x128_0_384 z,
    List.forall_mem_cons.2 ⟨fun z => piece_h tok acc 2 (by omega) inb_S512x64_S128x64_256_0 inb_S1x512_S1x128_0_256 z,
    List.forall_mem_cons.2 ⟨fun z => piece_h tok acc 1 (by omega) inb_S512x64_S128x64_128_0 inb_S1x512_S1x128_0_128 z,
    List.forall_mem_cons.2 ⟨fun z => piece_h tok acc 0 (by omega) inb_S512x64_S128x64_0_0 inb_S1x512_S1x128_0_0 z, fun _ h => absurd h List.not_mem_nil⟩⟩⟩⟩

end Cert.KernelIdeal.Own

end
-- ==== Proof.V.K0Sum.lean ====
module

public import proofs.«01_k».proof.Proof.V.K0

@[expose] public section

set_option maxRecDepth 16384

noncomputable section

namespace Cert.KernelIdeal.Own

open Cert.KernelIdeal Cert.KernelIdeal.Gen Cert.Kit Cert.Val
open Idealize.ShloMosaic Idealize.ShloMosaic.TcCoe Idealize.ShloMosaic.Tactic

/-! # The token statistics: the two running buffers, in closed form -/

/-- A row of 27648 entries, continued by zero. -/
def ext (f : Fin 27648 → EReal) (d : ℕ) : EReal := if h : d < 27648 then f ⟨d, h⟩ else 0

theorem ext_of (f : Fin 27648 → EReal) (d : ℕ) (h : d < 27648) : ext f d = f ⟨d, h⟩ := dif_pos h

theorem idx00 : (∀ t : Fin cfg0.N, win0_0.index t = ![0, t.val]) := by decide +kernel
theorem idx01 : (∀ t : Fin cfg0.N, win0_1.index t = ![0, t.val]) := by decide +kernel
theorem idx02 : (∀ t : Fin cfg0.N, win0_2.index t = ![0, 0]) := by decide +kernel
theorem idx03 : (∀ t : Fin cfg0.N, win0_3.index t = ![0, 0]) := by decide +kernel
theorem idx04 : (∀ t : Fin cfg0.N, win0_4.index t = ![0, 0]) := by decide +kernel

theorem read00 (A : FVec Ideal S512x27648 .bf16) (t : Fin cfg0.N) (i : Fin 512) (d : Fin 1024) :
    ((((cfg0.win 0).blk t).view.read (Elt Ideal) A : S512x1024.Idx → EReal) (ix2 i d)) = ext (fun d => A (ix2 i d)) (1024 * t.val + d.val) := by
  have ht : t.val < 27 := lt_of_lt_of_eq t.isLt (show cfg0.N = 27 from N_0)
  rw [ext_of _ _ (by omega)]
  show A (((cfg0.win 0).blk t).view.emb (ix2 i d)) = _
  refine congrArg A (funext fun a => Fin.ext ?_)
  refine (Pipeline.Window.rect_emb_val win0_0 t (ix2 i d) a).trans ?_
  rw [idx00]
  match a with
  | ⟨0, _⟩ => exact (show 0 * 512 + i.val = i.val by omega)
  | ⟨1, _⟩ => exact (show t.val * 1024 + d.val = 1024 * t.val + d.val by omega)

theorem read01 (A : FVec Ideal S64x27648 .bf16) (t : Fin cfg0.N) (i : Fin 64) (d : Fin 1024) :
    ((((cfg0.win 1).blk t).view.read (Elt Ideal) A : S64x1024.Idx → EReal) (ix2 i d)) = ext (fun d => A (ix2 i d)) (1024 * t.val + d.val) := by
  have ht : t.val < 27 := lt_of_lt_of_eq t.isLt (show cfg0.N = 27 from N_0)
  rw [ext_of _ _ (by omega)]
  show A (((cfg0.win 1).blk t).view.emb (ix2 i d)) = _
  refine congrArg A (funext fun a => Fin.ext ?_)
  refine (Pipeline.Window.rect_emb_val win0_1 t (ix2 i d) a).trans ?_
  rw [idx01]
  match a with
  | ⟨0, _⟩ => exact (show 0 * 64 + i.val = i.val by omega)
  | ⟨1, _⟩ => exact (show t.val * 1024 + d.val = 1024 * t.val + d.val by omega)

theorem read02 (A : IVec S1x512 32) (t : Fin cfg0.N) :
    (((cfg0.win 2).blk t).view.read (Elt Ideal) A : S1x512.Idx → BitVec 32) = A := by
  funext y
  show A (((cfg0.win 2).blk t).view.emb y) = A y
  refine congrArg A (funext fun a => Fin.ext ?_)
  refine (Pipeline.Window.rect_emb_val_of_index_zero win0_2 t a ?_ y).trans rfl
  rw [idx02]
  match a with | ⟨0, _⟩ => rfl | ⟨1, _⟩ => rfl

variable (W : Dev nD → Valuation τ sig (Elt Ideal))

/-- The activations, the shrinking matrix and the tokens' adapters, as the region reads them. -/
abbrev xx (c : Dev nD) : FVec Ideal S512x27648 .bf16 := W c (Proc.devRef .tc main_v0)
abbrev aa (c : Dev nD) : FVec Ideal S64x27648 .bf16 := W c (Proc.devRef .tc main_v2)
abbrev tk (c : Dev nD) : IVec S1x512 32 := W c (Proc.devRef .tc main_arg5)

theorem pt0_of (n : ℕ) (h : n < 27) : (pt0 n).val = n := Nat.mod_eq_of_lt h

theorem blk00 (c : Dev nD) (n : ℕ) (h : n < 27) (i : Fin 512) (d : Fin 1024) :
    ((iblk0 W c 0 (pt0 n) : S512x1024.Idx → EReal) (ix2 i d)) = ext (fun d => xx W c (ix2 i d)) (1024 * n + d.val) := by
  refine (read00 (xx W c) (pt0 n) i d).trans ?_
  rw [pt0_of n h]

theorem blk01 (c : Dev nD) (n : ℕ) (h : n < 27) (i : Fin 64) (d : Fin 1024) :
    ((iblk0 W c 1 (pt0 n) : S64x1024.Idx → EReal) (ix2 i d)) = ext (fun d => aa W c (ix2 i d)) (1024 * n + d.val) := by
  refine (read01 (aa W c) (pt0 n) i d).trans ?_
  rw [pt0_of n h]

/-- The running maxima after `n` blocks, by what bounds them. -/
theorem st_max (c : Dev nD) (i : Fin 512) (l : Fin 128) (z : EReal) : ∀ n ≤ 27,
    (((st0 W c n).1 (ix2 i l) : EReal) ≤ z ↔ 0 ≤ z ∧ ∀ k < n, ∀ j : Fin 8,
      max (ext (fun d => xx W c (ix2 i d)) (1024 * k + (128 * j.val + l.val))) (-(ext (fun d => xx W c (ix2 i d)) (1024 * k + (128 * j.val + l.val)))) ≤ z)
  | 0, _ => by
    have e : ((st0 W c 0).1 (ix2 i l) : EReal) = 0 := by
      show k0_pay40 (F := Ideal) (ix2 i l) = (0 : EReal)
      unfold k0_pay40
      pointwise
    rw [e]
    exact ⟨fun h => ⟨h, fun k hk => absurd hk (Nat.not_lt_zero k)⟩, fun h => h.1⟩
  | n + 1, hn => by
    refine (pay44_apply (iblk0 W c 0 (pt0 n)) (st0 W c n).1 i l z).trans ?_
    rw [st_max c i l z n (by omega)]
    constructor
    · rintro ⟨⟨h0, h1⟩, h2⟩
      refine ⟨h0, fun k hk j => ?_⟩
      rcases Nat.lt_succ_iff_lt_or_eq.1 hk with h | rfl
      · exact h1 k h j
      · have := h2 j
        rw [blk00 W c k (by omega)] at this
        exact this
    · rintro ⟨h0, h1⟩
      refine ⟨⟨h0, fun k hk j => h1 k (by omega) j⟩, fun j => ?_⟩
      rw [blk00 W c n (by omega)]
      exact h1 n (by omega) j

/-- The lanes' maxima together are the token's greatest magnitude. -/
theorem st_amax (c : Dev nD) (i : Fin 512) :
    (Finset.univ.sup fun l : Fin 128 => ((st0 W c 27).1 (ix2 i l) : EReal)) = amax fun d => xx W c (ix2 i d) := by
  refine eq_of_forall_ge_iff fun z => ?_
  unfold amax
  rw [Finset.sup_le_iff, Finset.sup_le_iff]
  constructor
  · intro h d _
    have hd := d.isLt
    have := ((st_max W c i ⟨d.val % 128, Nat.mod_lt _ (by omega)⟩ z 27 le_rfl).1 (h _ (Finset.mem_univ _))).2 (d.val / 1024) (by omega)
      ⟨d.val % 1024 / 128, by omega⟩
    have e : 1024 * (d.val / 1024) + (128 * (d.val % 1024 / 128) + d.val % 128) = d.val := by omega
    dsimp only at this
    rw [e, ext_of _ _ hd] at this
    exact this
  · intro h l _
    have h0 : 0 ≤ z := by
      refine le_trans ?_ (h ⟨0, by omega⟩ (Finset.mem_univ _))
      rcases le_total 0 (xx W c (ix2 i ⟨0, by omega⟩) : EReal) with h | h
      · exact le_max_of_le_left h
      · exact le_max_of_le_right (EReal.neg_nonneg.2 h)
    refine (st_max W c i l z 27 le_rfl).2 ⟨h0, fun k hk j => ?_⟩
    rw [ext_of _ _ (by omega)]
    exact h _ (Finset.mem_univ _)

/-- The running product after `n` blocks. -/
theorem st_sum (c : Dev nD) (i : Fin 512) (e : Fin 64) : ∀ n ≤ 27,
    ((st0 W c n).2 (ix2 i e) : EReal) = ∑ d ∈ Finset.range (1024 * n), ext (fun d => xx W c (ix2 i d)) d * ext (fun d => aa W c (ix2 e d)) d
  | 0, _ => by
    show k0_pay41 (F := Ideal) (ix2 i e) = _
    unfold k0_pay41
    pointwise
    rfl
  | n + 1, hn => by
    refine (pay43_apply (iblk0 W c 0 (pt0 n)) (st0 W c n).2 (iblk0 W c 1 (pt0 n)) i e).trans ?_
    rw [st_sum c i e n (by omega), Nat.mul_succ, Finset.sum_range_add, Finset.sum_range (n := 1024)]
    refine congrArg₂ (· + ·) rfl (Finset.sum_congr rfl fun d _ => ?_)
    rw [blk00 W c n (by omega), blk01 W c n (by omega)]

theorem st_dot (c : Dev nD) (i : Fin 512) (e : Fin 64) :
    ((st0 W c 27).2 (ix2 i e) : EReal) = ∑ d : Fin 27648, xx W c (ix2 i d) * aa W c (ix2 e d) := by
  rw [st_sum W c i e 27 le_rfl, show 1024 * 27 = 27648 by norm_num, Finset.sum_range]
  refine Finset.sum_congr rfl fun d _ => ?_
  rw [ext_of _ _ d.isLt, ext_of _ _ d.isLt]

end Cert.KernelIdeal.Own

end
-- ==== Proof.V.K0Arr.lean ====
module

public import proofs.«01_k».proof.Proof.V.K0Sum

@[expose] public section

set_option maxRecDepth 16384

noncomputable section

namespace Cert.KernelIdeal.Own

open Cert.KernelIdeal Cert.KernelIdeal.Gen Cert.Kit Cert.Val
open Idealize.ShloMosaic Idealize.ShloMosaic.TcCoe Idealize.ShloMosaic.Tactic

variable (W : Dev nD → Valuation τ sig (Elt Ideal))

/-- The last point of the statistics region. -/
def tl0 : Fin cfg0.N := ⟨26, by decide +kernel⟩

/-- A token's sum against one row of the shrinking matrix. -/
def tdot (c : Dev nD) (i : Fin 512) (e : Fin 64) : EReal := ∑ d : Fin 27648, xx W c (ix2 i d) * aa W c (ix2 e d)

/-- The scales the region leaves. -/
theorem arr03 (c : Dev nD) : (dat0 W c).arrAt 3 cfg0.N = fun y : S1x512.Idx => kscale (amax fun d => xx W c (ix2 (y 1) d)) := by
  refine (dat0 W c).arrAt_eq_of_after_last 3 tl0 (by decide +kernel) _ fun j => ?_
  blk_simp
  rw [after0_3]
  obtain ⟨i, d, rfl⟩ : ∃ (i : Fin 1) (d : Fin 512), j = Idealize.ShloMosaic.ix2 i d := ⟨j 0, j 1, Idealize.ShloMosaic.eq_ix2 j⟩
  refine (scaleOut_apply (st0 W c 27).1 (ix2 i d)).trans ?_
  unfold scG
  exact congrArg kscale (st_amax W c d)

/-- The shrunk activations the region leaves: zero outside the token's own adapter. -/
theorem arr04 (c : Dev nD) : (dat0 W c).arrAt 4 cfg0.N = fun y : S512x64.Idx =>
    (if BitVec.ofNat 32 ((y 1).val / 16) = tk W c (ix2 (0 : Fin 1) (y 0)) then tdot W c (y 0) (y 1) else 0 : EReal) := by
  refine (dat0 W c).arrAt_eq_of_after_last 4 tl0 (by decide +kernel) _ fun j => ?_
  blk_simp
  rw [after0_4]
  obtain ⟨i, d, rfl⟩ : ∃ (i : Fin 512) (d : Fin 64), j = Idealize.ShloMosaic.ix2 i d := ⟨j 0, j 1, Idealize.ShloMosaic.eq_ix2 j⟩
  refine (shrinkOut_apply (iblk0 W c 2 tl0) (st0 W c 27).2 (ix2 i d)).trans ?_
  unfold shG
  have e : (iblk0 W c 2 tl0 : S1x512.Idx → BitVec 32) = tk W c := read02 (tk W c) tl0
  rw [e]
  exact congrArg (fun v : EReal => if BitVec.ofNat 32 (d.val / 16) = tk W c (ix2 (0 : Fin 1) i) then v else 0) (st_dot W c i d)

end Cert.KernelIdeal.Own

end
-- ==== Proof.V.Ref.lean ====
module

public import proofs.«01_k».proof.Proof.Gen.ReferenceIdeal.Frame
public import Idealize.ShloMosaic.Lib.StableHlo.ReadAt
public import Idealize.ShloMosaic.Lib.ValueIdx
public import proofs.«01_k».proof.Proof.V.ScaleRef

@[expose] public section

set_option maxRecDepth 16384

noncomputable section

namespace Cert.ReferenceIdeal.Own

open Cert.ReferenceIdeal Cert.ReferenceIdeal.Gen Cert.Val
open Idealize.ShloMosaic Idealize.ShloMosaic.TcCoe Idealize.ShloMosaic.Tactic Idealize.ShloMosaic.ValueIdx

variable (m : (ℓ : Loc nD τ sig) → Buf (Elt Ideal) ℓ)

/-- The activations. -/
abbrev X (c : Dev nD) : S1x512x27648.Idx → EReal := m (c, Proc.tc.devRef main_arg0)

/-- The greatest magnitude of token `i`, as the reference reduces it. -/
theorem amax_read (x : S1x512x27648.Idx → Ideal .bf16) (i : Fin 512) :
    Host.reduce FloatOps.maximumf (Host.absf (extf FTy.f32 x bitsLt_bf16_f32))
      (constant S_ FTy.f32 4286578688#32) reducesTo_S1x512x27648_S1x512_d2 h_S_ (Idealize.ShloMosaic.ix2 0 i)
      = amax fun d => x (Idealize.ShloMosaic.ix3 0 i d) := by
  rw [Host.reduce_eq_fold_single _ _ _ _ (by decide)]
  refine (fold_max _ negInf _).trans ?_
  unfold amax
  congr 1
  funext d
  have e : Shape.Reduces.lift (s := S1x512x27648) (t := S1x512) (a := 2) (by decide) (Idealize.ShloMosaic.ix2 0 i) d = Idealize.ShloMosaic.ix3 0 i d := by
    funext a
    refine Fin.ext ?_
    rw [Shape.Reduces.lift_val]
    match a with | ⟨0, _⟩ => rfl | ⟨1, _⟩ => rfl | ⟨2, _⟩ => rfl
  show max (x _) (-(x _)) = _
  rw [e]
  rfl

/-- The list of powers that are at most the given numbers, zero in the place of the others. -/
abbrev belowT (A : FVec Ideal S1x512 .f32) : FVec Ideal S1x512x254 .f32 :=
          (select
            (cmpf CmpFPredicate.ole
              (broadcastInDim S1x512x254 ![0, 1, 2] bcast_S1x1x254_S1x512x254_0_1_2
                (broadcastInDim S1x1x254 ![2] bcast_S254_S1x1x254_2
                  (Host.powf (broadcastInDim S254 ![] bcast_S_S254 (constant S_ FTy.f32 1073741824#32))
                    (addf (broadcastInDim S254 ![] bcast_S_S254 (constant S_ FTy.f32 3271294976#32))
                      (sitofp FTy.f32 (iotaInDim S254 32 0))))))
              (broadcastInDim S1x512x254 ![0, 1, 2] bcast_S1x512x1_S1x512x254_0_1_2
                (mulf
                  (broadcastInDim S1x512x1 ![0, 1] bcast_S1x512_S1x512x1_0_1
                    A)
                  (broadcastInDim S1x512x1 ![] bcast_S_S1x512x1 (constant S_ FTy.f32 991054117#32)))))
            (broadcastInDim S1x512x254 ![2] bcast_S254_S1x512x254_2
              (Host.powf (broadcastInDim S254 ![] bcast_S_S254 (constant S_ FTy.f32 1073741824#32))
                (addf (broadcastInDim S254 ![] bcast_S_S254 (constant S_ FTy.f32 3271294976#32))
                  (sitofp FTy.f32 (iotaInDim S254 32 0)))))
            (broadcastInDim S1x512x254 ![] bcast_S_S1x512x254 (id (constant S_ FTy.f32 0#32))))

theorem below_elem (A : FVec Ideal S1x512 .f32) (i : Fin 512) (d : Fin 254) :
    belowT A (Idealize.ShloMosaic.ix3 0 i d) = if pw (d.val + 1) ≤ vOf (A (Idealize.ShloMosaic.ix2 0 i)) then pw (d.val + 1) else 0 := by
  have hp := power_eq d.val d.isLt
  unfold belowT
  pointwise
  have e : FloatOps.sitofp (F := Ideal) FTy.f32 (BitVec.ofNat 32 d.val) = ((d.val : ℝ) : EReal) := by
    show (((BitVec.ofNat 32 d.val).toInt : ℝ) : EReal) = _
    rw [BitVec.toInt_eq_toNat_of_lt (by rw [BitVec.toNat_ofNat]; omega), BitVec.toNat_ofNat, Nat.mod_eq_of_lt (by omega)]
    simp
  rw [e]
  show Scalar.select (Ideal.cmp .ole (Ideal.pow (Ideal.ofBits .f32 0x40000000#32) (Ideal.ofBits .f32 0xC2FC0000#32 + ((d.val : ℝ) : EReal))) (vOf (A (Idealize.ShloMosaic.ix2 0 i))))
    (Ideal.pow (Ideal.ofBits .f32 0x40000000#32) (Ideal.ofBits .f32 0xC2FC0000#32 + ((d.val : ℝ) : EReal))) (Ideal.ofBits .f32 0x00000000#32) = _
  rw [hp, Ideal.ofBits_zero_f32]
  unfold Ideal.cmp Scalar.select
  by_cases h : pw (d.val + 1) ≤ vOf (A (Idealize.ShloMosaic.ix2 0 i))
  · simp only [h, decide_true, if_true]
    rfl
  · simp only [h, decide_false, if_false]
    rfl

theorem below_read (A : FVec Ideal S1x512 .f32) (i : Fin 512) (v : EReal)
    (hv : v = vOf (A (Idealize.ShloMosaic.ix2 0 i))) (h0 : 0 ≤ v) (ht : top v ≤ 253) :
    (Host.reduce (α := Ideal .f32) FloatOps.maximumf (belowT A)
          (constant S_ FTy.f32 4286578688#32) reducesTo_S1x512x254_S1x512_d2 h_S_ (Idealize.ShloMosaic.ix2 0 i) : EReal)
      = if top v = 0 then 0 else pw (top v) := by
  generalize hT : belowT A = T
  rw [Host.reduce_eq_fold_single _ _ _ _ (by decide)]
  refine (fold_max _ negInf _).trans ?_
  rw [← below_eq h0 ht]
  refine Finset.sup_congr rfl fun d _ => ?_
  have e : Shape.Reduces.lift (s := S1x512x254) (t := S1x512) (a := 2) (by decide) (Idealize.ShloMosaic.ix2 0 i) d = Idealize.ShloMosaic.ix3 0 i d := by
    funext a
    refine Fin.ext ?_
    rw [Shape.Reduces.lift_val]
    match a with | ⟨0, _⟩ => rfl | ⟨1, _⟩ => rfl | ⟨2, _⟩ => rfl
  refine (congrArg T e).trans ?_
  rw [← hT, hv]
  exact below_elem A i d

end Cert.ReferenceIdeal.Own

end
-- ==== Proof.V.RefRun.lean ====
module

public import proofs.«01_k».proof.Proof.V.Ref
public import proofs.«01_k».proof.Proof.Gen.ReferenceIdeal.Frame
public import Idealize.ShloMosaic.Lib.StableHlo.ReadAt
public import Idealize.ShloMosaic.Lib.ValueIdx
public import proofs.«01_k».proof.Proof.V.ScaleRef

@[expose] public section

set_option maxRecDepth 16384

noncomputable section

namespace Cert.ReferenceIdeal.Own

open Cert.ReferenceIdeal Cert.ReferenceIdeal.Gen Cert.Val
open Idealize.ShloMosaic Idealize.ShloMosaic.TcCoe Idealize.ShloMosaic.Tactic Idealize.ShloMosaic.ValueIdx

/-- The greatest magnitudes, as the reference reduces them. -/
def amaxT (x : FVec Ideal S1x512x27648 .bf16) : FVec Ideal S1x512 .f32 :=
  Host.reduce FloatOps.maximumf (Host.absf (extf FTy.f32 x bitsLt_bf16_f32)) (constant S_ FTy.f32 4286578688#32) reducesTo_S1x512x27648_S1x512_d2 h_S_

/-- The greatest powers that are at most the magnitudes over 448. -/
def belowR (x : FVec Ideal S1x512x27648 .bf16) : FVec Ideal S1x512 .f32 :=
  Host.reduce FloatOps.maximumf (belowT (amaxT x)) (constant S_ FTy.f32 4286578688#32) reducesTo_S1x512x254_S1x512_d2 h_S_

/-- The scale from the greatest power. -/
def scaleR (B : Ideal .f32) : Ideal .f32 :=
  Scalar.select (FloatOps.cmpf CmpFPredicate.oeq B (FloatOps.ofBits .f32 0x00000000#32)) (id (constant (F := Ideal) S_ .f32 0x3F800000#32) Idealize.ShloMosaic.ix0)
      (FloatOps.mulf (FloatOps.ofBits .f32 0x40000000#32) B)

theorem scaleR_eq (x : FVec Ideal S1x512x27648 .bf16) (i : Fin 512) (hx : ∀ d, max (x (Idealize.ShloMosaic.ix3 0 i d)) (-(x (Idealize.ShloMosaic.ix3 0 i d)) : EReal) ≤ (((2 : ℝ) ^ (128 : ℤ) : ℝ) : EReal)) :
    scaleR (belowR x (Idealize.ShloMosaic.ix2 0 i)) = scaleOf (top (vOf (amax fun d => x (Idealize.ShloMosaic.ix3 0 i d)))) := by
  obtain ⟨r, hr, h0, h1⟩ := amax_real (fun d => x (Idealize.ShloMosaic.ix3 0 i d)) hx
  have hv := vOf_bounds h0 h1
  rw [← hr] at hv
  have ht := top_lt hv.1 hv.2
  refine (rscale_eq ht _ ?_ :)
  exact below_read (amaxT x) i _ (congrArg vOf (amax_read x i).symm) hv.1 ht

variable (m : (ℓ : Loc nD τ sig) → Buf (Elt Ideal) ℓ)

theorem V25_apply (c : Dev nD) (i : Fin 512) :
    V (F := Ideal) m c main_v25 (Idealize.ShloMosaic.ix2 (0 : Fin 1) i) = scaleR (belowR (m (c, Proc.tc.devRef main_arg0)) (Idealize.ShloMosaic.ix2 0 i)) := by
  unfold V scaleR belowR belowT amaxT
  after_reads_at

theorem V39_apply (c : Dev nD) (i : Fin 512) :
    V (F := Ideal) m c main_v39 (Idealize.ShloMosaic.ix2 i (0 : Fin 1)) = scaleR (belowR (m (c, Proc.tc.devRef main_arg0)) (Idealize.ShloMosaic.ix2 0 i)) := by
  unfold V scaleR belowR belowT amaxT
  after_reads_at

theorem V38_apply (c : Dev nD) (i : Fin 512) :
    V (F := Ideal) m c main_v38 (Idealize.ShloMosaic.ix2 i (0 : Fin 1)) = FloatOps.hostDivf (F := Ideal) (φ := .f32) (FloatOps.ofBits .f32 0x3F800000#32) (scaleR (belowR (m (c, Proc.tc.devRef main_arg0)) (Idealize.ShloMosaic.ix2 0 i))) := by
  unfold V scaleR belowR belowT amaxT
  after_reads_at

theorem V37_apply (c : Dev nD) (i : Fin 512) (d : Fin 27648) :
    V (F := Ideal) m c main_v37 (Idealize.ShloMosaic.ix2 i d) = m (c, Proc.tc.devRef main_arg0) (Idealize.ShloMosaic.ix3 (0 : Fin 1) i d) := by
  unfold V
  after_reads_at

theorem V40_apply (c : Dev nD) (o : Fin 5120) :
    V (F := Ideal) m c main_v40 (Idealize.ShloMosaic.ix2 (0 : Fin 1) o) = m (c, Proc.tc.devRef main_arg2) (Idealize.ShloMosaic.ix1 o) := by
  unfold V
  after_reads_at

/-- The adapter's first product, over the tokens' width. -/
def tAll (x : FVec Ideal S1x512x27648 .bf16) (a : FVec Ideal S4x27648x16 .bf16) : FVec Ideal S1x512x4x16 .bf16 :=
  truncf FTy.bf16 (Host.dotGeneral dot_S1x512x27648_S4x27648x16_S1x512x4x16_2_1_01_02_n_n none x a) bitsLt_bf16_f32

/-- The rows of it that belong to each token's adapter, zero in the place of the others. -/
def tSel (tok : IVec S1x512 32) (t : FVec Ideal S1x512x4x16 .bf16) : FVec Ideal S1x512x4x16 .bf16 :=
  select
        (broadcastInDim S1x512x4x16 ![0, 1, 2, 3] bcast_S1x512x4x1_S1x512x4x16_0_1_2_3
          (broadcastInDim S1x512x4x1 ![0, 1, 2] bcast_S1x512x4_S1x512x4x1_0_1_2
            (cmpi CmpIPredicate.eq
              (broadcastInDim S1x512x4 ![0, 1, 2] bcast_S1x512x1_S1x512x4_0_1_2
                (broadcastInDim S1x512x1 ![0, 1] bcast_S1x512_S1x512x1_0_1 tok))
              (broadcastInDim S1x512x4 ![0, 1, 2] bcast_S1x1x4_S1x512x4_0_1_2
                (broadcastInDim S1x1x4 ![2] bcast_S4_S1x1x4_2 (iotaInDim S4 32 0))))))
        t
        (broadcastInDim S1x512x4x16 ![] bcast_S_S1x512x4x16 (constant S_ FTy.bf16 0#16))

/-- The adapter's second product. -/
def deltaT (t : FVec Ideal S1x512x4x16 .bf16) (b : FVec Ideal S4x16x5120 .bf16) : FVec Ideal S1x512x5120 .f32 :=
  Host.dotGeneral dot_S1x512x4x16_S4x16x5120_S1x512x5120_23_01_01_2_n_n none t b

theorem V41_apply (c : Dev nD) (i : Fin 512) (o : Fin 5120) :
    V (F := Ideal) m c main_v41 (Idealize.ShloMosaic.ix2 i o)
      = deltaT (tSel (m (c, Proc.tc.devRef main_arg5)) (tAll (m (c, Proc.tc.devRef main_arg0)) (m (c, Proc.tc.devRef main_arg3))))
        (m (c, Proc.tc.devRef main_arg4)) (Idealize.ShloMosaic.ix3 (0 : Fin 1) i o) := by
  unfold V deltaT tSel tAll
  after_reads_at

end Cert.ReferenceIdeal.Own

end
-- ==== Proof.V.RefT.lean ====
module

public import proofs.«01_k».proof.Proof.V.RefRun
public import Idealize.ShloMosaic.Lib.Pointwise

@[expose] public section

set_option maxRecDepth 16384

noncomputable section

namespace Cert.ReferenceIdeal.Own

open Cert.ReferenceIdeal Cert.ReferenceIdeal.Gen Cert.Val
open Idealize.ShloMosaic Idealize.ShloMosaic.TcCoe Idealize.ShloMosaic.Tactic Idealize.ShloMosaic.ValueIdx

theorem tAll_apply (x : FVec Ideal S1x512x27648 .bf16) (a : FVec Ideal S4x27648x16 .bf16) (i : Fin 512) (l : Fin 4) (r : Fin 16) :
    tAll x a (Idealize.ShloMosaic.ix4 (0 : Fin 1) i l r) = (∑ d : Fin 27648, (x (Idealize.ShloMosaic.ix3 (0 : Fin 1) i d) : EReal) * (a (Idealize.ShloMosaic.ix3 l d r) : EReal) : EReal) := by
  unfold tAll
  pointwise

theorem deltaT_apply (t : FVec Ideal S1x512x4x16 .bf16) (b : FVec Ideal S4x16x5120 .bf16) (i : Fin 512) (o : Fin 5120) :
    deltaT t b (Idealize.ShloMosaic.ix3 (0 : Fin 1) i o)
      = (∑ l : Fin 4, ∑ r : Fin 16, (t (Idealize.ShloMosaic.ix4 (0 : Fin 1) i l r) : EReal) * (b (Idealize.ShloMosaic.ix3 l r o) : EReal) : EReal) := by
  unfold deltaT
  pointwise

theorem tSel_apply (tok : IVec S1x512 32) (t : FVec Ideal S1x512x4x16 .bf16) (i : Fin 512) (l : Fin 4) (r : Fin 16) :
    tSel tok t (Idealize.ShloMosaic.ix4 (0 : Fin 1) i l r)
      = if tok (Idealize.ShloMosaic.ix2 (0 : Fin 1) i) = BitVec.ofNat 32 l.val then t (Idealize.ShloMosaic.ix4 (0 : Fin 1) i l r) else (0 : EReal) := by
  unfold tSel
  pointwise
  unfold Scalar.select
  by_cases h : tok (Idealize.ShloMosaic.ix2 (0 : Fin 1) i) = BitVec.ofNat 32 l.val
  · rw [if_pos h, if_pos (by rw [h]; simp [IntOp.cmpi])]
  · rw [if_neg h, if_neg (by
      show ¬ BitVec.ofBool (tok (Idealize.ShloMosaic.ix2 (0 : Fin 1) i) == BitVec.ofNat 32 l.val) = 1#1
      rw [beq_eq_false_iff_ne.2 h]; decide)]

end Cert.ReferenceIdeal.Own

end
-- ==== Proof.V.RefOut.lean ====
module

public import proofs.«01_k».proof.Proof.V.RefT
public import proofs.«01_k».proof.Proof.Gen.ReferenceIdeal.Frame
public import proofs.«01_k».proof.Proof.Gen.ReferenceIdeal.Points
public import Idealize.ShloMosaic.Lib.Pointwise
public import Idealize.ShloMosaic.Lib.Pipeline.ValueKit

@[expose] public section

set_option maxRecDepth 16384

noncomputable section

namespace Cert.Val

open Idealize.ShloMosaic

/-- One activation's code, from the activation and its token's scale. -/
def code (x s : EReal) : EReal :=
  min (Ideal.ofBits .f32 0x43E00000#32) (max (Ideal.ofBits .f32 0xC3E00000#32) (x * Ideal.div 1 s))

/-- One result element, from the sum of the products of codes, the two scales and the adapter's sum. -/
def yOf (sum s ws delta : EReal) : EReal := sum * s * ws + Ideal.ofBits .f32 0x40000000#32 * delta

end Cert.Val

namespace Cert.ReferenceIdeal.Own

open Cert.ReferenceIdeal Cert.ReferenceIdeal.Gen Cert.Val
open Idealize.ShloMosaic Idealize.ShloMosaic.TcCoe Idealize.ShloMosaic.Tactic Idealize.ShloMosaic.ValueIdx

variable (m : (ℓ : Loc nD τ sig) → Buf (Elt Ideal) ℓ)

theorem idx0 : (∀ t, win0_0.index t = ![0, 0]) ∧ (∀ t, win0_1.index t = ![0, 0]) ∧ (∀ t, win0_2.index t = ![0, 0])
    ∧ (∀ t, win0_3.index t = ![0, 0]) ∧ (∀ t, win0_4.index t = ![0, 0]) ∧ (∀ t, win0_5.index t = ![0, 0]) := by decide +kernel

theorem read0 (A : FVec Ideal S512x27648 .bf16) : (((cfg0.win 0).blk t0_0).view.read (Elt Ideal) A : S512x27648.Idx → EReal) = A := by
  funext y
  show A (((cfg0.win 0).blk t0_0).view.emb y) = A y
  refine congrArg A (funext fun a => Fin.ext ?_)
  refine (Pipeline.Window.rect_emb_val_of_index_zero (win0_0) t0_0 a ?_ y).trans rfl
  rw [idx0.1]
  match a with | ⟨0, _⟩ => rfl | ⟨1, _⟩ => rfl

theorem blk0 (c : Dev nD) : (iblk (F := Ideal) m c 0 t0_0 : S512x27648.Idx → EReal) = V (F := Ideal) m c main_v37 := read0 (V (F := Ideal) m c main_v37)

theorem read1 (A : FVec Ideal S512x1 .f32) : (((cfg0.win 1).blk t0_0).view.read (Elt Ideal) A : S512x1.Idx → EReal) = A := by
  funext y
  show A (((cfg0.win 1).blk t0_0).view.emb y) = A y
  refine congrArg A (funext fun a => Fin.ext ?_)
  refine (Pipeline.Window.rect_emb_val_of_index_zero (win0_1) t0_0 a ?_ y).trans rfl
  rw [idx0.2.1]
  match a with | ⟨0, _⟩ => rfl | ⟨1, _⟩ => rfl

theorem blk1 (c : Dev nD) : (iblk (F := Ideal) m c 1 t0_0 : S512x1.Idx → EReal) = V (F := Ideal) m c main_v38 := read1 (V (F := Ideal) m c main_v38)

theorem read2 (A : FVec Ideal S27648x5120 .fp8e4m3) : (((cfg0.win 2).blk t0_0).view.read (Elt Ideal) A : S27648x5120.Idx → EReal) = A := by
  funext y
  show A (((cfg0.win 2).blk t0_0).view.emb y) = A y
  refine congrArg A (funext fun a => Fin.ext ?_)
  refine (Pipeline.Window.rect_emb_val_of_index_zero (win0_2) t0_0 a ?_ y).trans rfl
  rw [idx0.2.2.1]
  match a with | ⟨0, _⟩ => rfl | ⟨1, _⟩ => rfl

theorem blk2 (c : Dev nD) : (iblk (F := Ideal) m c 2 t0_0 : S27648x5120.Idx → EReal) = V (F := Ideal) m c main_arg1 := read2 (V (F := Ideal) m c main_arg1)

theorem read3 (A : FVec Ideal S512x1 .f32) : (((cfg0.win 3).blk t0_0).view.read (Elt Ideal) A : S512x1.Idx → EReal) = A := by
  funext y
  show A (((cfg0.win 3).blk t0_0).view.emb y) = A y
  refine congrArg A (funext fun a => Fin.ext ?_)
  refine (Pipeline.Window.rect_emb_val_of_index_zero (win0_3) t0_0 a ?_ y).trans rfl
  rw [idx0.2.2.2.1]
  match a with | ⟨0, _⟩ => rfl | ⟨1, _⟩ => rfl

theorem blk3 (c : Dev nD) : (iblk (F := Ideal) m c 3 t0_0 : S512x1.Idx → EReal) = V (F := Ideal) m c main_v39 := read3 (V (F := Ideal) m c main_v39)

theorem read4 (A : FVec Ideal S1x5120 .f32) : (((cfg0.win 4).blk t0_0).view.read (Elt Ideal) A : S1x5120.Idx → EReal) = A := by
  funext y
  show A (((cfg0.win 4).blk t0_0).view.emb y) = A y
  refine congrArg A (funext fun a => Fin.ext ?_)
  refine (Pipeline.Window.rect_emb_val_of_index_zero (win0_4) t0_0 a ?_ y).trans rfl
  rw [idx0.2.2.2.2.1]
  match a with | ⟨0, _⟩ => rfl | ⟨1, _⟩ => rfl

theorem blk4 (c : Dev nD) : (iblk (F := Ideal) m c 4 t0_0 : S1x5120.Idx → EReal) = V (F := Ideal) m c main_v40 := read4 (V (F := Ideal) m c main_v40)

theorem read5 (A : FVec Ideal S512x5120 .f32) : (((cfg0.win 5).blk t0_0).view.read (Elt Ideal) A : S512x5120.Idx → EReal) = A := by
  funext y
  show A (((cfg0.win 5).blk t0_0).view.emb y) = A y
  refine congrArg A (funext fun a => Fin.ext ?_)
  refine (Pipeline.Window.rect_emb_val_of_index_zero (win0_5) t0_0 a ?_ y).trans rfl
  rw [idx0.2.2.2.2.2]
  match a with | ⟨0, _⟩ => rfl | ⟨1, _⟩ => rfl

theorem blk5 (c : Dev nD) : (iblk (F := Ideal) m c 5 t0_0 : S512x5120.Idx → EReal) = V (F := Ideal) m c main_v41 := read5 (V (F := Ideal) m c main_v41)

theorem pay1_apply (x : FVec Ideal S512x27648 .bf16) (v : FVec Ideal S512x1 .f32) (i : Fin 512) (d : Fin 27648) (s : EReal)
    (hv : v (Idealize.ShloMosaic.ix2 i (0 : Fin 1)) = Ideal.div 1 s) :
    k0_pay1 (F := Ideal) x v (Idealize.ShloMosaic.ix2 i d) = code (x (Idealize.ShloMosaic.ix2 i d)) s := by
  unfold k0_pay1 code
  pointwise
  rw [hv]

theorem pay2_apply (x : FVec Ideal S512x27648 .bf16) (v : FVec Ideal S512x1 .f32) (w : FVec Ideal S27648x5120 .fp8e4m3) (s : FVec Ideal S512x1 .f32)
    (ws : FVec Ideal S1x5120 .f32) (dl : FVec Ideal S512x5120 .f32) (i : Fin 512) (o : Fin 5120) :
    k0_pay2 (F := Ideal) x v w s ws dl (Idealize.ShloMosaic.ix2 i o)
      = yOf (∑ d : Fin 27648, (k0_pay1 (F := Ideal) x v (Idealize.ShloMosaic.ix2 i d) : EReal) * (w (Idealize.ShloMosaic.ix2 d o) : EReal))
        (s (Idealize.ShloMosaic.ix2 i (0 : Fin 1))) (ws (Idealize.ShloMosaic.ix2 (0 : Fin 1) o)) (dl (Idealize.ShloMosaic.ix2 i o)) := by
  unfold k0_pay2 yOf
  generalize k0_pay1 (F := Ideal) x v = q
  pointwise

/-- The scale of token `i`. -/
def sc (c : Dev nD) (i : Fin 512) : EReal := scaleR (belowR (m (c, Proc.tc.devRef main_arg0)) (Idealize.ShloMosaic.ix2 0 i))

theorem inv_eq (c : Dev nD) (i : Fin 512) : (V (F := Ideal) m c main_v38 : S512x1.Idx → EReal) (Idealize.ShloMosaic.ix2 i (0 : Fin 1)) = Ideal.div 1 (sc m c i) := by
  refine (V38_apply m c i).trans ?_
  show Ideal.div (Ideal.ofBits .f32 0x3F800000#32) (sc m c i) = _
  rw [Ideal.ofBits_one_f32]

/-- The adapter's sum for token `i` and column `o`. -/
def dl (c : Dev nD) (i : Fin 512) (o : Fin 5120) : EReal :=
  deltaT (tSel (m (c, Proc.tc.devRef main_arg5)) (tAll (m (c, Proc.tc.devRef main_arg0)) (m (c, Proc.tc.devRef main_arg3))))
        (m (c, Proc.tc.devRef main_arg4)) (Idealize.ShloMosaic.ix3 (0 : Fin 1) i o)

/-- One product as the reference returns it. -/
def yAt (c : Dev nD) (i : Fin 512) (o : Fin 5120) : EReal :=
  yOf (∑ d : Fin 27648, code ((m (c, Proc.tc.devRef main_arg0) : S1x512x27648.Idx → EReal) (Idealize.ShloMosaic.ix3 (0 : Fin 1) i d)) (sc m c i)
        * (m (c, Proc.tc.devRef main_arg1) : S27648x5120.Idx → EReal) (Idealize.ShloMosaic.ix2 d o))
      (sc m c i) ((m (c, Proc.tc.devRef main_arg2) : S5120.Idx → EReal) (Idealize.ShloMosaic.ix1 o)) (dl m c i o)

theorem pay1_V (c : Dev nD) (i : Fin 512) (d : Fin 27648) :
    (k0_pay1 (F := Ideal) (V (F := Ideal) m c main_v37) (V (F := Ideal) m c main_v38) (Idealize.ShloMosaic.ix2 i d) : EReal)
      = code ((m (c, Proc.tc.devRef main_arg0) : S1x512x27648.Idx → EReal) (Idealize.ShloMosaic.ix3 (0 : Fin 1) i d)) (sc m c i) :=
  (pay1_apply _ _ i d _ (inv_eq m c i)).trans (congrArg (fun z => code z (sc m c i)) (V37_apply m c i d))

theorem pay2_V (c : Dev nD) (i : Fin 512) (o : Fin 5120) :
    (k0_pay2 (F := Ideal) (V (F := Ideal) m c main_v37) (V (F := Ideal) m c main_v38) (V (F := Ideal) m c main_arg1) (V (F := Ideal) m c main_v39)
      (V (F := Ideal) m c main_v40) (V (F := Ideal) m c main_v41) (Idealize.ShloMosaic.ix2 i o) : EReal) = yAt m c i o := by
  refine (pay2_apply _ _ _ _ _ _ i o).trans ?_
  have e1 : (V (F := Ideal) m c main_v39 : S512x1.Idx → EReal) (Idealize.ShloMosaic.ix2 i (0 : Fin 1)) = sc m c i := V39_apply m c i
  have e2 : (V (F := Ideal) m c main_v40 : S1x5120.Idx → EReal) (Idealize.ShloMosaic.ix2 (0 : Fin 1) o) = (m (c, Proc.tc.devRef main_arg2) : S5120.Idx → EReal) (Idealize.ShloMosaic.ix1 o) := V40_apply m c o
  have e3 : (V (F := Ideal) m c main_v41 : S512x5120.Idx → EReal) (Idealize.ShloMosaic.ix2 i o) = dl m c i o := V41_apply m c i o
  have e4 : ∀ d : Fin 27648, (V (F := Ideal) m c main_arg1 : S27648x5120.Idx → EReal) (Idealize.ShloMosaic.ix2 d o) = (m (c, Proc.tc.devRef main_arg1) : S27648x5120.Idx → EReal) (Idealize.ShloMosaic.ix2 d o) :=
    fun d => congrFun (V_main_arg1 m c) _
  generalize hX : V (F := Ideal) m c main_v39 = A3 at e1 ⊢
  generalize V (F := Ideal) m c main_v40 = A4 at e2 ⊢
  generalize V (F := Ideal) m c main_v41 = A5 at e3 ⊢
  generalize V (F := Ideal) m c main_arg1 = A2 at e4 ⊢
  have e5 := pay1_V m c i
  generalize k0_pay1 (F := Ideal) (V (F := Ideal) m c main_v37) (V (F := Ideal) m c main_v38) = Q at e5 ⊢
  have e6 : (∑ d : Fin 27648, (Q (Idealize.ShloMosaic.ix2 i d) : EReal) * (A2 (Idealize.ShloMosaic.ix2 d o) : EReal))
      = ∑ d : Fin 27648, code ((m (c, Proc.tc.devRef main_arg0) : S1x512x27648.Idx → EReal) (Idealize.ShloMosaic.ix3 (0 : Fin 1) i d)) (sc m c i)
        * (m (c, Proc.tc.devRef main_arg1) : S27648x5120.Idx → EReal) (Idealize.ShloMosaic.ix2 d o) := by
    refine Finset.sum_congr rfl fun d _ => ?_
    rw [e5 d, e4 d]
  unfold yAt
  rw [← e6, e1, e2, e3]

/-- The codes as the reference returns them. -/
theorem arr7 (c : Dev nD) : (dats (F := Ideal) m 0 c).arrAt 7 cfg0.N = fun y : S512x27648.Idx =>
    code ((m (c, Proc.tc.devRef main_arg0) : S1x512x27648.Idx → EReal) (Idealize.ShloMosaic.ix3 (0 : Fin 1) (y 0) (y 1))) (sc m c (y 0)) := by
  refine (dats (F := Ideal) m 0 c).arrAt_eq_of_after_last 7 t0_0 (by decide +kernel) _ fun j => ?_
  blk_simp
  rw [after0_7]
  frame_out
  rw [blk0, blk1]
  obtain ⟨i, d, rfl⟩ : ∃ (i : Fin 512) (d : Fin 27648), j = Idealize.ShloMosaic.ix2 i d := ⟨j 0, j 1, Idealize.ShloMosaic.eq_ix2 j⟩
  exact pay1_V m c i d

/-- The products as the reference returns them. -/
theorem arr6 (c : Dev nD) : (dats (F := Ideal) m 0 c).arrAt 6 cfg0.N = fun y : S512x5120.Idx => yAt m c (y 0) (y 1) := by
  refine (dats (F := Ideal) m 0 c).arrAt_eq_of_after_last 6 t0_0 (by decide +kernel) _ fun j => ?_
  blk_simp
  rw [after0_6]
  frame_out
  rw [blk0, blk1, blk2, blk3, blk4, blk5]
  obtain ⟨i, o, rfl⟩ : ∃ (i : Fin 512) (o : Fin 5120), j = Idealize.ShloMosaic.ix2 i o := ⟨j 0, j 1, Idealize.ShloMosaic.eq_ix2 j⟩
  exact pay2_V m c i o

end Cert.ReferenceIdeal.Own

end
-- ==== Proof.V.K1.lean ====
module

public import proofs.«01_k».proof.Proof.V.K0
public import proofs.«01_k».proof.Proof.V.RefOut

@[expose] public section

set_option maxRecDepth 16384

noncomputable section

namespace Cert.KernelIdeal.Own

open Cert.KernelIdeal Cert.KernelIdeal.Gen Cert.Kit Cert.Val
open Idealize.ShloMosaic Idealize.ShloMosaic.TcCoe Idealize.ShloMosaic.Tactic

/-! # The linear region's values, entry by entry -/

theorem pay5_zero (y : S512x512.Idx) : (k1_pay5 (F := Ideal) y : EReal) = 0 := by
  unfold k1_pay5
  pointwise

theorem pay6_apply (q : FVec Ideal S512x3072 .fp8e4m3) (acc : FVec Ideal S512x512 .f32) (w : FVec Ideal S3072x512 .fp8e4m3) (i o : Fin 512) :
    k1_pay6 (F := Ideal) q acc w (ix2 i o) = (acc (ix2 i o) + ∑ d : Fin 3072, q (ix2 i d) * w (ix2 d o) : EReal) := by
  unfold k1_pay6
  pointwise

/-- Four copies of a block of 128 columns side by side. -/
theorem four_apply (s : FVec Ideal S512x128 .f32) (i o : Fin 512) :
    concatenate S512x512 1 [⟨S512x128, s⟩, ⟨S512x128, s⟩, ⟨S512x128, s⟩, ⟨S512x128, s⟩] concatenates_S512x128_S512x128_S512x128_S512x128_S512x512_d1 (ix2 i o)
      = s (ix2 i (⟨o.val % 128, Nat.mod_lt _ (by omega)⟩ : Fin 128)) := by
  have hc : ∀ (n : ℕ) (hn : n < 128), n = o.val % 128 → s (ix2 i (⟨n, hn⟩ : Fin 128)) = s (ix2 i (⟨o.val % 128, Nat.mod_lt _ (by omega)⟩ : Fin 128)) :=
    fun n hn e => by subst e; rfl
  have ho := o.isLt
  pointwise
  split
  · exact hc _ _ (by omega)
  · split
    · exact hc _ _ (by omega)
    · split
      · exact hc _ _ (by omega)
      · exact hc _ _ (by omega)

theorem pay7e_apply (t : FVec Ideal S512x64 .bf16) (b : FVec Ideal S64x512 .bf16) (s : FVec Ideal S512x128 .f32) (acc : FVec Ideal S512x512 .f32)
    (ws : FVec Ideal S1x512 .f32) (i o : Fin 512) :
    k1_pay7 (F := Ideal) t b s acc ws (ix2 i o) = yOf (acc (ix2 i o)) (s (ix2 i (⟨o.val % 128, Nat.mod_lt _ (by omega)⟩ : Fin 128))) (ws (ix2 (0 : Fin 1) o))
      (∑ e : Fin 64, (t (ix2 i e) * b (ix2 e o) : EReal)) := by
  unfold k1_pay7
  have h := four_apply s i o
  generalize concatenate S512x512 1 [⟨S512x128, s⟩, ⟨S512x128, s⟩, ⟨S512x128, s⟩, ⟨S512x128, s⟩] concatenates_S512x128_S512x128_S512x128_S512x128_S512x512_d1 = u at h ⊢
  pointwise
  rw [h]
  unfold yOf
  rfl

theorem sBlk_apply (r : FVec Ideal S1x128 .f32) (j l : Fin 128) : sBlk (F := Ideal) r (ix2 j l) = r (ix2 (0 : Fin 1) j) := by
  unfold sBlk k1_pay9 k1_pay8
  pointwise

theorem iBlk_apply (r : FVec Ideal S1x128 .f32) (j l : Fin 128) : iBlk (F := Ideal) r (ix2 j l) = Ideal.div 1 (r (ix2 (0 : Fin 1) j)) := by
  unfold iBlk k1_pay10 k1_pay8
  pointwise

theorem qelt_apply (a b : EReal) (s : EReal) (h : b = Ideal.div 1 s) : (qelt (F := Ideal) a b : EReal) = code a s := by
  unfold qelt qz k1_pay16 code
  pointwise
  rw [h]

def sG (r : FVec Ideal S1x512 .f32) (y : S512x128.Idx) : Ideal .f32 := r (ix2 (0 : Fin 1) (y 0))
def vG (r : FVec Ideal S1x512 .f32) (y : S512x128.Idx) : Ideal .bf16 := (Ideal.div 1 (r (ix2 (0 : Fin 1) (y 0))) : EReal)

theorem ld_row (r : FVec Ideal S1x512 .f32) (q : ℕ) (inb : ∀ b, (![128 * q, 0] : Fin 2 → ℕ) b + S128x128.size b ≤ S512x128.size b)
    (inb' : ∀ b, (![0, 128 * q] : Fin 2 → ℕ) b + S1x128.size b ≤ S1x512.size b) (j l : Fin 128) :
    View.ld (Val := Elt Ideal) (e' := .f32) r (Rect.unit (s := S1x512) ![0, 128 * q] S1x128.size inb') (ix2 (0 : Fin 1) j)
      = r (ix2 (0 : Fin 1) ((Rect.unit (s := S512x128) ![128 * q, 0] S128x128.size inb).emb (ix2 j l) 0)) := by
  refine congrArg r (funext fun b => ?_)
  match b with
  | ⟨0, _⟩ => exact Fin.ext (show 0 + 1 * 0 = 0 by omega)
  | ⟨1, _⟩ => exact Fin.ext (show 128 * q + 1 * j.val = 128 * q + 1 * j.val by omega)

theorem piece_sb (r : FVec Ideal S1x512 .f32) (q : ℕ) (inb : ∀ b, (![128 * q, 0] : Fin 2 → ℕ) b + S128x128.size b ≤ S512x128.size b)
    (inb' : ∀ b, (![0, 128 * q] : Fin 2 → ℕ) b + S1x128.size b ≤ S1x512.size b) (z : S128x128.Idx) :
    sBlk (F := Ideal) (View.ld (Val := Elt Ideal) (e' := .f32) r (Rect.unit (s := S1x512) ![0, 128 * q] S1x128.size inb')) z
      = sG r ((Rect.unit (s := S512x128) ![128 * q, 0] S128x128.size inb).emb z) := by
  obtain ⟨j, l, rfl⟩ : ∃ (j : Fin 128) (l : Fin 128), z = ix2 j l := ⟨z 0, z 1, Idealize.ShloMosaic.eq_ix2 z⟩
  rw [sBlk_apply, ld_row r q inb inb' j l]
  rfl

theorem piece_vb (r : FVec Ideal S1x512 .f32) (q : ℕ) (inb : ∀ b, (![128 * q, 0] : Fin 2 → ℕ) b + S128x128.size b ≤ S512x128.size b)
    (inb' : ∀ b, (![0, 128 * q] : Fin 2 → ℕ) b + S1x128.size b ≤ S1x512.size b) (z : S128x128.Idx) :
    iBlk (F := Ideal) (View.ld (Val := Elt Ideal) (e' := .f32) r (Rect.unit (s := S1x512) ![0, 128 * q] S1x128.size inb')) z
      = vG r ((Rect.unit (s := S512x128) ![128 * q, 0] S128x128.size inb).emb z) := by
  obtain ⟨j, l, rfl⟩ : ∃ (j : Fin 128) (l : Fin 128), z = ix2 j l := ⟨z 0, z 1, Idealize.ShloMosaic.eq_ix2 z⟩
  rw [iBlk_apply, ld_row r q inb inb' j l]
  rfl

theorem sOut_apply (r : FVec Ideal S1x512 .f32) (y : S512x128.Idx) : sOut (F := Ideal) r y = sG r y := by
  refine View.canon_apply_of_pieces (Val := Elt Ideal) (e := .f32) (sG r) _ ?_ y (View.cover_of_tiledL _ ![128, 128] (by sl_kernel_rfl) y)
  exact List.forall_mem_cons.2 ⟨fun z => piece_sb r 3 inb_S512x128_S128x128_384_0 inb_S1x512_S1x128_0_384 z,
    List.forall_mem_cons.2 ⟨fun z => piece_sb r 2 inb_S512x128_S128x128_256_0 inb_S1x512_S1x128_0_256 z,
    List.forall_mem_cons.2 ⟨fun z => piece_sb r 1 inb_S512x128_S128x128_128_0 inb_S1x512_S1x128_0_128 z,
    List.forall_mem_cons.2 ⟨fun z => piece_sb r 0 inb_S512x128_S128x128_0_0 inb_S1x512_S1x128_0_0 z, fun _ h => absurd h List.not_mem_nil⟩⟩⟩⟩

theorem invOut_apply (r : FVec Ideal S1x512 .f32) (y : S512x128.Idx) : invOut (F := Ideal) r y = vG r y := by
  refine View.canon_apply_of_pieces (Val := Elt Ideal) (e := .bf16) (vG r) _ ?_ y (View.cover_of_tiledL _ ![128, 128] (by sl_kernel_rfl) y)
  exact List.forall_mem_cons.2 ⟨fun z => piece_vb r 3 inb_S512x128_S128x128_384_0 inb_S1x512_S1x128_0_384 z,
    List.forall_mem_cons.2 ⟨fun z => piece_vb r 2 inb_S512x128_S128x128_256_0 inb_S1x512_S1x128_0_256 z,
    List.forall_mem_cons.2 ⟨fun z => piece_vb r 1 inb_S512x128_S128x128_128_0 inb_S1x512_S1x128_0_128 z,
    List.forall_mem_cons.2 ⟨fun z => piece_vb r 0 inb_S512x128_S128x128_0_0 inb_S1x512_S1x128_0_0 z, fun _ h => absurd h List.not_mem_nil⟩⟩⟩⟩

end Cert.KernelIdeal.Own

end
-- ==== Proof.V.K1Sum.lean ====
module

public import proofs.«01_k».proof.Proof.V.K0Sum
public import proofs.«01_k».proof.Proof.V.K1

@[expose] public section

set_option maxRecDepth 16384

noncomputable section

namespace Cert.KernelIdeal.Own

open Cert.KernelIdeal Cert.KernelIdeal.Gen Cert.Kit Cert.Val
open Idealize.ShloMosaic Idealize.ShloMosaic.TcCoe Idealize.ShloMosaic.Tactic

/-! # The linear region: its blocks and its accumulator, in closed form -/

theorem idx10 : (∀ t : Fin cfg1.N, win1_0.index t = ![0, min t.val 8]) := by decide +kernel
theorem idx11 : (∀ t : Fin cfg1.N, win1_1.index t = ![t.val % 9, t.val / 9]) := by decide +kernel
theorem idx12 : (∀ t : Fin cfg1.N, win1_2.index t = ![0, 0]) := by decide +kernel
theorem idx13 : (∀ t : Fin cfg1.N, win1_3.index t = ![0, t.val / 9]) := by decide +kernel
theorem idx14 : (∀ t : Fin cfg1.N, win1_4.index t = ![0, 0]) := by decide +kernel
theorem idx15 : (∀ t : Fin cfg1.N, win1_5.index t = ![0, t.val / 9]) := by decide +kernel
theorem idx16 : (∀ t : Fin cfg1.N, win1_6.index t = ![0, t.val / 9]) := by decide +kernel
theorem idx17 : (∀ t : Fin cfg1.N, win1_7.index t = ![0, min t.val 8]) := by decide +kernel

theorem lt90 (t : Fin cfg1.N) : t.val < 90 := lt_of_lt_of_eq t.isLt (show cfg1.N = 90 from N_1)

/-- Column `o` of column block `n`. -/
def colOf (t : Fin cfg1.N) (o : Fin 512) : Fin 5120 := ⟨512 * (t.val / 9) + o.val, by have := lt90 t; omega⟩

theorem read10 (A : FVec Ideal S512x27648 .bf16) (t : Fin cfg1.N) (i : Fin 512) (d : Fin 3072) :
    ((((cfg1.win 0).blk t).view.read (Elt Ideal) A : S512x3072.Idx → EReal) (ix2 i d)) = A (ix2 i ⟨3072 * min t.val 8 + d.val, by omega⟩) := by
  show A (((cfg1.win 0).blk t).view.emb (ix2 i d)) = _
  refine congrArg A (funext fun a => Fin.ext ?_)
  refine (Pipeline.Window.rect_emb_val win1_0 t (ix2 i d) a).trans ?_
  rw [idx10]
  match a with
  | ⟨0, _⟩ => exact (show 0 * 512 + i.val = i.val by omega)
  | ⟨1, _⟩ => exact (show min t.val 8 * 3072 + d.val = 3072 * min t.val 8 + d.val by omega)

theorem read11 (A : FVec Ideal S27648x5120 .fp8e4m3) (t : Fin cfg1.N) (d : Fin 3072) (o : Fin 512) :
    ((((cfg1.win 1).blk t).view.read (Elt Ideal) A : S3072x512.Idx → EReal) (ix2 d o)) = A (ix2 ⟨3072 * (t.val % 9) + d.val, by omega⟩ (colOf t o)) := by
  show A (((cfg1.win 1).blk t).view.emb (ix2 d o)) = _
  refine congrArg A (funext fun a => Fin.ext ?_)
  refine (Pipeline.Window.rect_emb_val win1_1 t (ix2 d o) a).trans ?_
  rw [idx11]
  match a with
  | ⟨0, _⟩ => exact (show t.val % 9 * 3072 + d.val = 3072 * (t.val % 9) + d.val by omega)
  | ⟨1, _⟩ => exact (show t.val / 9 * 512 + o.val = 512 * (t.val / 9) + o.val by omega)

theorem read12 (A : FVec Ideal S1x512 .f32) (t : Fin cfg1.N) :
    (((cfg1.win 2).blk t).view.read (Elt Ideal) A : S1x512.Idx → EReal) = A := by
  funext y
  show A (((cfg1.win 2).blk t).view.emb y) = A y
  refine congrArg A (funext fun a => Fin.ext ?_)
  refine (Pipeline.Window.rect_emb_val_of_index_zero win1_2 t a ?_ y).trans rfl
  rw [idx12]
  match a with | ⟨0, _⟩ => rfl | ⟨1, _⟩ => rfl

theorem read13 (A : FVec Ideal S1x5120 .f32) (t : Fin cfg1.N) (o : Fin 512) :
    ((((cfg1.win 3).blk t).view.read (Elt Ideal) A : S1x512.Idx → EReal) (ix2 (0 : Fin 1) o)) = A (ix2 (0 : Fin 1) (colOf t o)) := by
  show A (((cfg1.win 3).blk t).view.emb (ix2 (0 : Fin 1) o)) = _
  refine congrArg A (funext fun a => Fin.ext ?_)
  refine (Pipeline.Window.rect_emb_val win1_3 t (ix2 (0 : Fin 1) o) a).trans ?_
  rw [idx13]
  match a with
  | ⟨0, _⟩ => exact (show 0 * 1 + 0 = 0 by omega)
  | ⟨1, _⟩ => exact (show t.val / 9 * 512 + o.val = 512 * (t.val / 9) + o.val by omega)

theorem read14 (A : FVec Ideal S512x64 .bf16) (t : Fin cfg1.N) :
    (((cfg1.win 4).blk t).view.read (Elt Ideal) A : S512x64.Idx → EReal) = A := by
  funext y
  show A (((cfg1.win 4).blk t).view.emb y) = A y
  refine congrArg A (funext fun a => Fin.ext ?_)
  refine (Pipeline.Window.rect_emb_val_of_index_zero win1_4 t a ?_ y).trans rfl
  rw [idx14]
  match a with | ⟨0, _⟩ => rfl | ⟨1, _⟩ => rfl

theorem read15 (A : FVec Ideal S64x5120 .bf16) (t : Fin cfg1.N) (e : Fin 64) (o : Fin 512) :
    ((((cfg1.win 5).blk t).view.read (Elt Ideal) A : S64x512.Idx → EReal) (ix2 e o)) = A (ix2 e (colOf t o)) := by
  show A (((cfg1.win 5).blk t).view.emb (ix2 e o)) = _
  refine congrArg A (funext fun a => Fin.ext ?_)
  refine (Pipeline.Window.rect_emb_val win1_5 t (ix2 e o) a).trans ?_
  rw [idx15]
  match a with
  | ⟨0, _⟩ => exact (show 0 * 64 + e.val = e.val by omega)
  | ⟨1, _⟩ => exact (show t.val / 9 * 512 + o.val = 512 * (t.val / 9) + o.val by omega)

variable (W : Dev nD → Valuation τ sig (Elt Ideal))

/-- What the region reads: the weights, the scales, the weights' scales, the shrunk activations, the expanding matrix. -/
abbrev ww (c : Dev nD) : FVec Ideal S27648x5120 .fp8e4m3 := W c (Proc.devRef .tc main_arg1)
abbrev ss (c : Dev nD) : FVec Ideal S1x512 .f32 := W c (Proc.devRef .tc main_v5_0)
abbrev wss (c : Dev nD) : FVec Ideal S1x5120 .f32 := W c (Proc.devRef .tc main_v4)
abbrev tt (c : Dev nD) : FVec Ideal S512x64 .bf16 := W c (Proc.devRef .tc main_v5_1)
abbrev bb (c : Dev nD) : FVec Ideal S64x5120 .bf16 := W c (Proc.devRef .tc main_v3)

/-- One code of the quantised matrix. -/
def cd (c : Dev nD) (i : Fin 512) (d : Fin 27648) : EReal := code (xx W c (ix2 i d)) (ss W c (ix2 (0 : Fin 1) i))

theorem invB_apply (c : Dev nD) (y : S512x128.Idx) : (invB W c y : EReal) = Ideal.div 1 (ss W c (ix2 (0 : Fin 1) (y 0))) := by
  unfold invB
  refine (invOut_apply (iblk1 W c 2 (pt1 0)) y).trans ?_
  unfold vG
  have e : (iblk1 W c 2 (pt1 0) : S1x512.Idx → EReal) = ss W c := read12 (ss W c) (pt1 0)
  exact congrArg (fun r : S1x512.Idx → EReal => Ideal.div 1 (r (ix2 (0 : Fin 1) (y 0)))) e

theorem sB_apply (c : Dev nD) (y : S512x128.Idx) : (sB W c y : EReal) = ss W c (ix2 (0 : Fin 1) (y 0)) := by
  unfold sB
  refine (sOut_apply (iblk1 W c 2 (pt1 0)) y).trans ?_
  unfold sG
  have e : (iblk1 W c 2 (pt1 0) : S1x512.Idx → EReal) = ss W c := read12 (ss W c) (pt1 0)
  exact congrArg (fun r : S1x512.Idx → EReal => r (ix2 (0 : Fin 1) (y 0))) e

theorem qk_apply (c : Dev nD) (k : ℕ) (hk : k < 9) (i : Fin 512) (d : Fin 3072) :
    (qk W c k (ix2 i d) : EReal) = cd W c i ⟨3072 * k + d.val, by omega⟩ := by
  unfold qk
  refine (qOut_apply (iblk1 W c 0 (pt1 k)) (invB W c) (ix2 i d)).trans ?_
  unfold qG
  refine (qelt_apply _ _ (ss W c (ix2 (0 : Fin 1) i)) (invB_apply W c _)).trans ?_
  unfold cd
  refine congrArg (fun v : EReal => code v (ss W c (ix2 (0 : Fin 1) i))) ?_
  refine (read10 (xx W c) (pt1 k) i d).trans ?_
  have e : (pt1 k).val = k := Nat.mod_eq_of_lt (by omega)
  refine congrArg (xx W c) (congrArg (ix2 i) (Fin.ext ?_))
  show 3072 * min (pt1 k).val 8 + d.val = 3072 * k + d.val
  rw [e]; omega

/-- The accumulator within a column block, after its first `k + 1` points. -/
theorem acc_sum (c : Dev nD) (n : ℕ) (hn : n < 10) (i o : Fin 512) (t : Fin cfg1.N) (htn : t.val / 9 = n) : ∀ k < 9,
    (acc1 W c (9 * n + k + 1) (ix2 i o) : EReal) = ∑ d ∈ Finset.range (3072 * (k + 1)), ext (cd W c i) d * ext (fun d => ww W c (ix2 d (colOf t o))) d := by
  have step : ∀ k < 9, ∀ A : FVec Ideal S512x512 .f32, (k1_pay6 (F := Ideal) (qk W c k) A (iblk1 W c 1 (pt1 (9 * n + k))) (ix2 i o) : EReal)
      = A (ix2 i o) + ∑ d ∈ Finset.range 3072, ext (cd W c i) (3072 * k + d) * ext (fun d => ww W c (ix2 d (colOf t o))) (3072 * k + d) := by
    intro k hk A
    refine (pay6_apply _ _ _ i o).trans ?_
    rw [Finset.sum_range]
    refine congrArg₂ (· + ·) rfl (Finset.sum_congr rfl fun d _ => ?_)
    rw [qk_apply W c k hk, ext_of _ _ (show 3072 * k + d.val < 27648 by omega), ext_of _ _ (show 3072 * k + d.val < 27648 by omega)]
    refine congrArg₂ (· * ·) rfl ?_
    refine (read11 (ww W c) (pt1 (9 * n + k)) d o).trans ?_
    have e : (pt1 (9 * n + k)).val = 9 * n + k := Nat.mod_eq_of_lt (by omega)
    refine congrArg (ww W c) (congrArg₂ ix2 (Fin.ext ?_) (Fin.ext ?_))
    · show 3072 * ((pt1 (9 * n + k)).val % 9) + d.val = 3072 * k + d.val
      rw [e]; omega
    · show 512 * ((pt1 (9 * n + k)).val / 9) + o.val = 512 * (t.val / 9) + o.val
      rw [e, htn]; omega
  intro k
  induction k with
  | zero =>
    intro hk
    show (k1_pay6 (F := Ideal) (qk W c ((9 * n + 0) % 9)) (if (9 * n + 0) % 9 = 0 then k1_pay5 (F := Ideal) else acc1 W c (9 * n + 0)) (iblk1 W c 1 (pt1 (9 * n + 0))) (ix2 i o) : EReal) = _
    rw [show (9 * n + 0) % 9 = 0 by omega, if_pos rfl, step 0 hk, pay5_zero, zero_add]
    exact Finset.sum_congr rfl fun d _ => by rw [Nat.mul_zero, Nat.zero_add]
  | succ k ih =>
    intro hk
    show (k1_pay6 (F := Ideal) (qk W c ((9 * n + (k + 1)) % 9)) (if (9 * n + (k + 1)) % 9 = 0 then k1_pay5 (F := Ideal) else acc1 W c (9 * n + (k + 1))) (iblk1 W c 1 (pt1 (9 * n + (k + 1)))) (ix2 i o) : EReal) = _
    rw [show (9 * n + (k + 1)) % 9 = k + 1 by omega, if_neg (by omega), step (k + 1) hk, Nat.mul_succ 3072 (k + 1), Finset.sum_range_add]
    refine congrArg₂ (· + ·) ?_ rfl
    exact ih (by omega)

/-- The accumulator at the last point of a column block. -/
theorem acc_dot (c : Dev nD) (t : Fin cfg1.N) (h : t.val % 9 = 8) (i o : Fin 512) :
    (acc1 W c (t.val + 1) (ix2 i o) : EReal) = ∑ d : Fin 27648, cd W c i d * ww W c (ix2 d (colOf t o)) := by
  have ht := lt90 t
  have e : t.val + 1 = 9 * (t.val / 9) + 8 + 1 := by omega
  rw [e, acc_sum W c (t.val / 9) (by omega) i o t rfl 8 (by omega), show 3072 * (8 + 1) = 27648 by norm_num, Finset.sum_range]
  refine Finset.sum_congr rfl fun d _ => ?_
  rw [ext_of _ _ d.isLt, ext_of _ _ d.isLt]

/-- The codes the region leaves. -/
theorem arr17 (c : Dev nD) : (dat1 W c).arrAt 7 cfg1.N = fun y : S512x27648.Idx => cd W c (y 0) (y 1) := by
  refine (dat1 W c).arrAt_eq_of_covers 7 _ (by decide +kernel) fun t hf y => ?_
  blk_simp
  rw [after1_7]
  obtain ⟨i, d, rfl⟩ : ∃ (i : Fin 512) (d : Fin 3072), y = Idealize.ShloMosaic.ix2 i d := ⟨y 0, y 1, Idealize.ShloMosaic.eq_ix2 y⟩
  refine (qk_apply W c (min t.val 8) (by omega) i d).trans ?_
  refine congrArg₂ (cd W c) (Fin.ext ?_) (Fin.ext ?_)
  · refine Eq.trans ?_ (Pipeline.Window.rect_emb_val win1_7 t (ix2 i d) 0).symm
    rw [idx17]
    exact (show i.val = 0 * 512 + i.val by omega)
  · refine Eq.trans ?_ (Pipeline.Window.rect_emb_val win1_7 t (ix2 i d) 1).symm
    rw [idx17]
    exact (show 3072 * min t.val 8 + d.val = min t.val 8 * 3072 + d.val by omega)

/-- One entry of the product the region leaves. -/
def yy (c : Dev nD) (i : Fin 512) (o : Fin 5120) : EReal :=
  yOf (∑ d : Fin 27648, cd W c i d * ww W c (ix2 d o)) (ss W c (ix2 (0 : Fin 1) i)) (wss W c (ix2 (0 : Fin 1) o)) (∑ e : Fin 64, tt W c (ix2 i e) * bb W c (ix2 e o))

theorem after6_apply (c : Dev nD) (t : Fin cfg1.N) (h : t.val % 9 = 8) (i o : Fin 512) :
    (k1_pay7 (F := Ideal) (iblk1 W c 4 t) (iblk1 W c 5 t) (sB W c) (acc1 W c (t.val + 1)) (iblk1 W c 3 t) (ix2 i o) : EReal) = yy W c i (colOf t o) := by
  refine (pay7e_apply _ _ _ _ _ i o).trans ?_
  rw [acc_dot W c t h, sB_apply]
  unfold yy
  have e3 : (iblk1 W c 3 t : S1x512.Idx → EReal) (ix2 (0 : Fin 1) o) = wss W c (ix2 (0 : Fin 1) (colOf t o)) := read13 (wss W c) t o
  have e4 : (iblk1 W c 4 t : S512x64.Idx → EReal) = tt W c := read14 (tt W c) t
  have e5 : ∀ e : Fin 64, (iblk1 W c 5 t : S64x512.Idx → EReal) (ix2 e o) = bb W c (ix2 e (colOf t o)) := fun e => read15 (bb W c) t e o
  have e6 : ∀ (p : S512x64.Idx → EReal) (q : S64x512.Idx → EReal), p = tt W c → (∀ e : Fin 64, q (ix2 e o) = bb W c (ix2 e (colOf t o))) →
      (∑ e : Fin 64, p (ix2 i e) * q (ix2 e o)) = ∑ e : Fin 64, tt W c (ix2 i e) * bb W c (ix2 e (colOf t o)) :=
    fun p q hp hq => Finset.sum_congr rfl fun e _ => by rw [hp, hq]
  exact congrArg₂ (yOf _ _) e3 (e6 _ _ e4 e5)

/-- The products the region leaves. -/
theorem arr16 (c : Dev nD) : (dat1 W c).arrAt 6 cfg1.N = fun y : S512x5120.Idx => yy W c (y 0) (y 1) := by
  refine (dat1 W c).arrAt_eq_of_covers 6 _ (by decide +kernel) fun t hf y => ?_
  have h8 := (flush1_6 t).1 hf
  blk_simp
  rw [after1_6]
  obtain ⟨i, o, rfl⟩ : ∃ (i : Fin 512) (o : Fin 512), y = Idealize.ShloMosaic.ix2 i o := ⟨y 0, y 1, Idealize.ShloMosaic.eq_ix2 y⟩
  refine (after6_apply W c t h8 i o).trans ?_
  refine congrArg₂ (yy W c) (Fin.ext ?_) (Fin.ext ?_)
  · refine Eq.trans ?_ (Pipeline.Window.rect_emb_val win1_6 t (ix2 i o) 0).symm
    rw [idx16]
    exact (show i.val = 0 * 512 + i.val by omega)
  · refine Eq.trans ?_ (Pipeline.Window.rect_emb_val win1_6 t (ix2 i o) 1).symm
    rw [idx16]
    exact (show 512 * (t.val / 9) + o.val = t.val / 9 * 512 + o.val by omega)

end Cert.KernelIdeal.Own

end
-- ==== Proof.V.Host.lean ====
module

public import proofs.«01_k».proof.Proof.PI.Run
public import Idealize.ShloMosaic.Lib.Pointwise
public import Idealize.ShloMosaic.Lib.StableHlo.ReadAt
public import proofs.«01_k».proof.Proof.V.Scale

@[expose] public section

set_option maxRecDepth 16384

noncomputable section

namespace Cert.KernelIdeal.Own

open Cert.KernelIdeal Cert.KernelIdeal.Gen Cert.Kit Cert.Val
open Idealize.ShloMosaic Idealize.ShloMosaic.TcCoe Idealize.ShloMosaic.Tactic

variable (m : (ℓ : Loc nD τ sig) → Buf (Elt Ideal) ℓ)

theorem h_v0 (c : Dev nD) (i : Fin 512) (d : Fin 27648) : (V1 (F := Ideal) m c main_v0 : S512x27648.Idx → EReal) (Idealize.ShloMosaic.ix2 i d)
    = (m (c, Proc.tc.devRef main_arg0) : S1x512x27648.Idx → EReal) (Idealize.ShloMosaic.ix3 (0 : Fin 1) i d) := by
  unfold V1 hostOps0
  after_reads_at

theorem h_v4 (c : Dev nD) (o : Fin 5120) : (V1 (F := Ideal) m c main_v4 : S1x5120.Idx → EReal) (Idealize.ShloMosaic.ix2 (0 : Fin 1) o)
    = (m (c, Proc.tc.devRef main_arg2) : S5120.Idx → EReal) (Idealize.ShloMosaic.ix1 o) := by
  unfold V1 hostOps0
  after_reads_at

theorem h_v3 (c : Dev nD) (e : Fin 64) (o : Fin 5120) : (V1 (F := Ideal) m c main_v3 : S64x5120.Idx → EReal) (Idealize.ShloMosaic.ix2 e o)
    = (m (c, Proc.tc.devRef main_arg4) : S4x16x5120.Idx → EReal) (Idealize.ShloMosaic.ix3 (⟨e.val / 16, by omega⟩ : Fin 4) (⟨e.val % 16, by omega⟩ : Fin 16) o) := by
  unfold V1 hostOps0
  after_reads_at

theorem h_v2 (c : Dev nD) (e : Fin 64) (d : Fin 27648) : (V1 (F := Ideal) m c main_v2 : S64x27648.Idx → EReal) (Idealize.ShloMosaic.ix2 e d)
    = (m (c, Proc.tc.devRef main_arg3) : S4x27648x16.Idx → EReal) (Idealize.ShloMosaic.ix3 (⟨e.val / 16, by omega⟩ : Fin 4) d (⟨e.val % 16, by omega⟩ : Fin 16)) := by
  unfold V1 hostOps0
  after_reads_at

end Cert.KernelIdeal.Own

end
-- ==== Proof.V.Pre.lean ====
module

public import proofs.«01_k».proof.Proof.V.Scale
public import proofs.«01_k».proof.Pre_x_finite

@[expose] public section

set_option maxRecDepth 16384

noncomputable section

namespace Cert.Val

open Idealize.ShloMosaic

theorem Pre_x_finite_facts : Cert.Pre_x_finite.Facts where
  bitsLt_bf16_f32 := by decide
  bcast_S_S1x512x27648 := by decide

/-- The largest finite number of the format is below two to the 128. -/
theorem largest_le : (Ideal.ofBits .f32 0x7F7FFFFF#32 : EReal) ≤ (((2 : ℝ) ^ (128 : ℤ) : ℝ) : EReal) := by
  have e : (Ideal.ofBits .f32 0x7F7FFFFF#32 : EReal) = (((2 ^ 23 + 0x7FFFFF : ℕ) * (2 : ℝ) ^ (((254 : ℕ) : ℤ) - 150) : ℝ) : EReal) := by
    refine (ieee_of (b := 0x7F7FFFFF#32) (ex := 254) (fr := 0x7FFFFF) (by decide) (by decide) (by decide)).trans ?_
    rw [if_neg (by decide), if_neg (by decide)]
  rw [e, EReal.coe_le_coe_iff]
  norm_num

/-- What the precondition says of each activation. -/
theorem finite_le (h : Cert.Pre_x_finite.Facts) (x : FVec Ideal Cert.Pre_x_finite.S1x512x27648 .bf16) (w ws a b tok)
    (hx : Cert.Pre_x_finite.fn (F := Ideal) x w ws a b tok = fun _ => 1#1) (y : Cert.Pre_x_finite.S1x512x27648.Idx) :
    max (x y : EReal) (-(x y)) ≤ (((2 : ℝ) ^ (128 : ℤ) : ℝ) : EReal) := by
  refine le_trans ?_ largest_le
  have h1 := congrFun hx y
  unfold Cert.Pre_x_finite.fn at h1
  have h2 : Ideal.cmp .ole (max (x y : EReal) (-(x y))) (Ideal.ofBits .f32 0x7F7FFFFF#32) = 1#1 := h1
  unfold Ideal.cmp at h2
  by_contra hn
  simp [hn] at h2

end Cert.Val

end
-- ==== Proof.V.Value.lean ====
module

public import proofs.«01_k».proof.Proof.V.K0Arr
public import proofs.«01_k».proof.Proof.V.K1Sum
public import proofs.«01_k».proof.Proof.V.Host
public import proofs.«01_k».proof.Proof.V.RefOut
public import proofs.«01_k».proof.Proof.V.Pre

@[expose] public section

set_option maxRecDepth 16384

noncomputable section

namespace Cert.Val

open Idealize.ShloMosaic Cert.ReferenceIdeal.Own

/-! # The two programs' results, as functions of the arguments -/

/-- The reference's scale of token `i`. -/
def scOf (x : FVec Ideal Cert.ReferenceIdeal.S1x512x27648 .bf16) (i : Fin 512) : EReal := scaleR (belowR x (Idealize.ShloMosaic.ix2 0 i))

/-- The reference's product for token `i` and column `o`. -/
def yRef (x : FVec Ideal Cert.ReferenceIdeal.S1x512x27648 .bf16) (w : FVec Ideal Cert.ReferenceIdeal.S27648x5120 .fp8e4m3) (ws : FVec Ideal Cert.ReferenceIdeal.S5120 .f32)
    (a : FVec Ideal Cert.ReferenceIdeal.S4x27648x16 .bf16) (b : FVec Ideal Cert.ReferenceIdeal.S4x16x5120 .bf16) (tok : IVec Cert.ReferenceIdeal.S1x512 32)
    (i : Fin 512) (o : Fin 5120) : EReal :=
  yOf (∑ d : Fin 27648, code (x (Idealize.ShloMosaic.ix3 (0 : Fin 1) i d)) (scOf x i) * w (Idealize.ShloMosaic.ix2 d o)) (scOf x i) (ws (Idealize.ShloMosaic.ix1 o))
    (deltaT (tSel tok (tAll x a)) b (Idealize.ShloMosaic.ix3 (0 : Fin 1) i o))

/-- A sum over the 64 rows is a sum over the adapters and their ranks. -/
theorem sum64 (f : Fin 4 → Fin 16 → EReal) :
    (∑ e : Fin 64, f (⟨e.val / 16, by omega⟩ : Fin 4) (⟨e.val % 16, by omega⟩ : Fin 16)) = ∑ l : Fin 4, ∑ r : Fin 16, f l r := by
  rw [← Fintype.sum_prod_type']
  refine (Fintype.sum_equiv (finProdFinEquiv (m := 4) (n := 16)) _ _ fun p => ?_).symm
  have h1 : (finProdFinEquiv p).val = p.2.val + 16 * p.1.val := rfl
  have h2 := p.1.isLt
  have h3 := p.2.isLt
  refine congrArg₂ f (Fin.ext ?_) (Fin.ext ?_)
  · show p.1.val = (finProdFinEquiv p).val / 16
    rw [h1]; omega
  · show p.2.val = (finProdFinEquiv p).val % 16
    rw [h1]; omega

/-- The reference's adapter term, written out. -/
theorem delta_eq (x : FVec Ideal Cert.ReferenceIdeal.S1x512x27648 .bf16) (a : FVec Ideal Cert.ReferenceIdeal.S4x27648x16 .bf16)
    (b : FVec Ideal Cert.ReferenceIdeal.S4x16x5120 .bf16) (tok : IVec Cert.ReferenceIdeal.S1x512 32) (i : Fin 512) (o : Fin 5120) :
    (deltaT (tSel tok (tAll x a)) b (Idealize.ShloMosaic.ix3 (0 : Fin 1) i o) : EReal)
      = ∑ l : Fin 4, ∑ r : Fin 16, (if tok (Idealize.ShloMosaic.ix2 0 i) = BitVec.ofNat 32 l.val then
          ∑ d : Fin 27648, (x (Idealize.ShloMosaic.ix3 0 i d) * a (Idealize.ShloMosaic.ix3 l d r) : EReal) else 0) * (b (Idealize.ShloMosaic.ix3 l r o) : EReal) := by
  refine (deltaT_apply (tSel tok (tAll x a)) b i o).trans ?_
  refine Finset.sum_congr rfl fun l _ => Finset.sum_congr rfl fun r _ => congrArg (· * (b (Idealize.ShloMosaic.ix3 l r o) : EReal)) ?_
  refine (tSel_apply tok (tAll x a) i l r).trans ?_
  exact congrArg (fun v : EReal => if tok (Idealize.ShloMosaic.ix2 0 i) = BitVec.ofNat 32 l.val then v else 0) (tAll_apply x a i l r)

/-- The adapter term of token `i` at column `o`. -/
def deltaT' (tok : IVec Cert.ReferenceIdeal.S1x512 32) (x : FVec Ideal Cert.ReferenceIdeal.S1x512x27648 .bf16) (a : FVec Ideal Cert.ReferenceIdeal.S4x27648x16 .bf16)
    (b : FVec Ideal Cert.ReferenceIdeal.S4x16x5120 .bf16) (i : Fin 512) (o : Fin 5120) : EReal :=
  deltaT (tSel tok (tAll x a)) b (Idealize.ShloMosaic.ix3 (0 : Fin 1) i o)

/-- The kernel's scale is the reference's, of every token whose activations are finite. -/
theorem scale_agree (x : FVec Ideal Cert.ReferenceIdeal.S1x512x27648 .bf16) (i : Fin 512)
    (hx : ∀ d : Fin 27648, max (x (Idealize.ShloMosaic.ix3 0 i d) : EReal) (-(x (Idealize.ShloMosaic.ix3 0 i d))) ≤ (((2 : ℝ) ^ (128 : ℤ) : ℝ) : EReal)) :
    (kscale (amax fun d => x (Idealize.ShloMosaic.ix3 0 i d)) : EReal) = scOf x i := by
  obtain ⟨r, hr, h0, h1⟩ := amax_real _ hx
  refine Eq.trans ?_ (scaleR_eq x i hx).symm
  rw [hr]
  exact kscale_eq h0 h1

end Cert.Val

namespace Cert.KernelIdeal.Own

open Cert.KernelIdeal Cert.KernelIdeal.Gen Cert.Kit Cert.Val
open Idealize.ShloMosaic Idealize.ShloMosaic.TcCoe Idealize.ShloMosaic.Tactic

variable (m : (ℓ : Loc nD τ sig) → Buf (Elt Ideal) ℓ)

/-- The arguments, as launched. -/
abbrev ax (c : Dev nD) : FVec Ideal S1x512x27648 .bf16 := m (c, Proc.tc.devRef main_arg0)
abbrev aw (c : Dev nD) : FVec Ideal S27648x5120 .fp8e4m3 := m (c, Proc.tc.devRef main_arg1)
abbrev aws (c : Dev nD) : FVec Ideal S5120 .f32 := m (c, Proc.tc.devRef main_arg2)
abbrev aA (c : Dev nD) : FVec Ideal S4x27648x16 .bf16 := m (c, Proc.tc.devRef main_arg3)
abbrev aB (c : Dev nD) : FVec Ideal S4x16x5120 .bf16 := m (c, Proc.tc.devRef main_arg4)
abbrev atok (c : Dev nD) : IVec S1x512 32 := m (c, Proc.tc.devRef main_arg5)

/-- Every activation is at most two to the 128 in magnitude. -/
def Bounded (c : Dev nD) : Prop :=
  ∀ (i : Fin 512) (d : Fin 27648), max (ax m c (Idealize.ShloMosaic.ix3 0 i d) : EReal) (-(ax m c (Idealize.ShloMosaic.ix3 0 i d))) ≤ (((2 : ℝ) ^ (128 : ℤ) : ℝ) : EReal)

theorem xx1 (c : Dev nD) (i : Fin 512) (d : Fin 27648) : (xx (V1 m) c (Idealize.ShloMosaic.ix2 i d) : EReal) = ax m c (Idealize.ShloMosaic.ix3 0 i d) := h_v0 m c i d
theorem xx2 (c : Dev nD) (i : Fin 512) (d : Fin 27648) : (xx (U2 m) c (Idealize.ShloMosaic.ix2 i d) : EReal) = ax m c (Idealize.ShloMosaic.ix3 0 i d) :=
  (congrFun (U2_keeps m c main_v0 (by decide)) (Idealize.ShloMosaic.ix2 i d)).trans (h_v0 m c i d)
theorem ww2 (c : Dev nD) (d : Fin 27648) (o : Fin 5120) : (ww (U2 m) c (Idealize.ShloMosaic.ix2 d o) : EReal) = aw m c (Idealize.ShloMosaic.ix2 d o) :=
  congrFun ((U2_keeps m c main_arg1 (by decide)).trans (V1_of m c main_arg1 (by decide))) (Idealize.ShloMosaic.ix2 d o)
theorem tk1 (c : Dev nD) : tk (V1 m) c = atok m c := V1_of m c main_arg5 (by decide)
theorem wss2 (c : Dev nD) (o : Fin 5120) : (wss (U2 m) c (Idealize.ShloMosaic.ix2 (0 : Fin 1) o) : EReal) = aws m c (Idealize.ShloMosaic.ix1 o) :=
  (congrFun (U2_keeps m c main_v4 (by decide)) (Idealize.ShloMosaic.ix2 (0 : Fin 1) o)).trans (h_v4 m c o)
theorem bb2 (c : Dev nD) (e : Fin 64) (o : Fin 5120) : (bb (U2 m) c (Idealize.ShloMosaic.ix2 e o) : EReal)
    = aB m c (Idealize.ShloMosaic.ix3 (⟨e.val / 16, by omega⟩ : Fin 4) (⟨e.val % 16, by omega⟩ : Fin 16) o) :=
  (congrFun (U2_keeps m c main_v3 (by decide)) (Idealize.ShloMosaic.ix2 e o)).trans (h_v3 m c e o)

/-- The scales after the first region. -/
theorem ss2 (c : Dev nD) (h : Bounded m c) (i : Fin 512) : (ss (U2 m) c (Idealize.ShloMosaic.ix2 (0 : Fin 1) i) : EReal) = scOf (ax m c) i := by
  refine (congrFun ((U2_arr m c 3).trans (arr03 (V1 m) c)) (Idealize.ShloMosaic.ix2 (0 : Fin 1) i)).trans ?_
  refine Eq.trans ?_ (scale_agree (ax m c) i (h i))
  exact congrArg (fun f => kscale (amax f)) (funext fun d => xx1 m c i d)

/-- The shrunk activations after the first region. -/
theorem tt2 (c : Dev nD) (i : Fin 512) (e : Fin 64) : (tt (U2 m) c (Idealize.ShloMosaic.ix2 i e) : EReal)
    = if atok m c (Idealize.ShloMosaic.ix2 0 i) = BitVec.ofNat 32 (e.val / 16) then
        ∑ d : Fin 27648, (ax m c (Idealize.ShloMosaic.ix3 0 i d) * aA m c (Idealize.ShloMosaic.ix3 (⟨e.val / 16, by omega⟩ : Fin 4) d (⟨e.val % 16, by omega⟩ : Fin 16)) : EReal) else 0 := by
  refine (congrFun ((U2_arr m c 4).trans (arr04 (V1 m) c)) (Idealize.ShloMosaic.ix2 i e)).trans ?_
  have e1 : tdot (V1 m) c i e = ∑ d : Fin 27648, (ax m c (Idealize.ShloMosaic.ix3 0 i d) * aA m c (Idealize.ShloMosaic.ix3 (⟨e.val / 16, by omega⟩ : Fin 4) d (⟨e.val % 16, by omega⟩ : Fin 16)) : EReal) := by
    unfold tdot
    exact Finset.sum_congr rfl fun d _ => congrArg₂ (fun p q : EReal => p * q) (xx1 m c i d) (h_v2 m c e d)
  show (if BitVec.ofNat 32 (e.val / 16) = tk (V1 m) c (Idealize.ShloMosaic.ix2 (0 : Fin 1) i) then tdot (V1 m) c i e else 0 : EReal) = _
  rw [tk1, e1]
  exact if_congr eq_comm rfl rfl

theorem cd2 (c : Dev nD) (h : Bounded m c) (i : Fin 512) (d : Fin 27648) : cd (U2 m) c i d = code (ax m c (Idealize.ShloMosaic.ix3 0 i d)) (scOf (ax m c) i) := by
  unfold cd
  exact congrArg₂ code (xx2 m c i d) (ss2 m c h i)

/-- The kernel's product is the reference's. -/
theorem yy2 (c : Dev nD) (h : Bounded m c) (i : Fin 512) (o : Fin 5120) : yy (U2 m) c i o = yRef (ax m c) (aw m c) (aws m c) (aA m c) (aB m c) (atok m c) i o := by
  have e1 : (∑ d : Fin 27648, cd (U2 m) c i d * ww (U2 m) c (Idealize.ShloMosaic.ix2 d o) : EReal)
      = ∑ d : Fin 27648, code (ax m c (Idealize.ShloMosaic.ix3 0 i d)) (scOf (ax m c) i) * aw m c (Idealize.ShloMosaic.ix2 d o) :=
    Finset.sum_congr rfl fun d _ => congrArg₂ (fun p q : EReal => p * q) (cd2 m c h i d) (ww2 m c d o)
  have e2 : (∑ e : Fin 64, tt (U2 m) c (Idealize.ShloMosaic.ix2 i e) * bb (U2 m) c (Idealize.ShloMosaic.ix2 e o) : EReal)
      = deltaT' (atok m c) (ax m c) (aA m c) (aB m c) i o := by
    unfold deltaT'
    rw [delta_eq, ← sum64]
    exact Finset.sum_congr rfl fun e _ => congrArg₂ (fun p q : EReal => p * q) (tt2 m c i e) (bb2 m c e o)
  unfold yy yRef
  rw [e1, e2, ss2 m c h i, wss2]
  rfl

end Cert.KernelIdeal.Own

end
-- ==== Proof.V.Final.lean ====
module

public import proofs.«01_k».proof.Proof.V.Value
public import proofs.«01_k».proof.Proof.PI.Run
public import proofs.«01_k».proof.Proof.Gen.ReferenceIdeal.Frame
public import proofs.«01_k».proof.Defs

@[expose] public section

set_option maxRecDepth 16384

noncomputable section

namespace Cert.Val

open Idealize.ShloMosaic

/-- The precondition, at one device of the kernel's memory. -/
theorem bounded (hP : Cert.Pre_x_finite.Facts) (m : (ℓ : Loc Cert.KernelIdeal.nD Cert.KernelIdeal.τ Cert.KernelIdeal.sig) → Buf (Elt Ideal) ℓ)
    (h : Cert.Pre_KernelIdeal_x_finite (hPre_x_finite := hP) m) (c : Dev Cert.KernelIdeal.nD) : Cert.KernelIdeal.Own.Bounded m c :=
  fun i d => finite_le hP _ _ _ _ _ _ (h c) (Idealize.ShloMosaic.ix3 0 i d)

end Cert.Val

namespace Cert.KernelIdeal.Own

open Cert.KernelIdeal Cert.KernelIdeal.Gen Cert.Kit Cert.Val
open Idealize.ShloMosaic Idealize.ShloMosaic.TcCoe

variable (m : (ℓ : Loc nD τ sig) → Buf (Elt Ideal) ℓ)

/-- The kernel's first result. -/
theorem out0 (c : Dev nD) (h : Bounded m c) : U3 m c (Proc.devRef .tc main_v6_0)
    = fun y : S512x5120.Idx => yRef (ax m c) (aw m c) (aws m c) (aA m c) (aB m c) (atok m c) (y 0) (y 1) := by
  refine ((U3_arr m c 6).trans (arr16 (U2 m) c)).trans ?_
  exact funext fun y => yy2 m c h (y 0) (y 1)

/-- The kernel's second result. -/
theorem out1 (c : Dev nD) (h : Bounded m c) : U3 m c (Proc.devRef .tc main_v6_1)
    = fun y : S512x27648.Idx => code (ax m c (Idealize.ShloMosaic.ix3 0 (y 0) (y 1))) (scOf (ax m c) (y 0)) := by
  refine ((U3_arr m c 7).trans (arr17 (U2 m) c)).trans ?_
  exact funext fun y => cd2 m c h (y 0) (y 1)

/-- The kernel's third result. -/
theorem out2 (c : Dev nD) (h : Bounded m c) : U3 m c (Proc.devRef .tc main_v5_0)
    = fun y : S1x512.Idx => scOf (ax m c) (y 1) := by
  refine (U3_keeps m c main_v5_0 (by decide)).trans ?_
  funext y
  obtain ⟨z, i, rfl⟩ : ∃ (z : Fin 1) (i : Fin 512), y = Idealize.ShloMosaic.ix2 z i := ⟨y 0, y 1, Idealize.ShloMosaic.eq_ix2 y⟩
  obtain rfl : z = 0 := Subsingleton.elim z 0
  exact ss2 m c h i

end Cert.KernelIdeal.Own

namespace Cert.ReferenceIdeal.Own

open Cert.ReferenceIdeal Cert.ReferenceIdeal.Gen Cert.Val
open Idealize.ShloMosaic Idealize.ShloMosaic.TcCoe Idealize.SL.Sem

variable (m : (ℓ : Loc nD τ sig) → Buf (Elt Ideal) ℓ)

/-- The reference's run: its three results and its arguments. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v42_0) = (fun y : S512x5120.Idx => yAt m c (y 0) (y 1))
      ∧ r.2.mem ((c.tc : Thread nD τ).loc main_v42_1) = (fun y : S512x27648.Idx =>
          code ((m (c, Proc.tc.devRef main_arg0) : S1x512x27648.Idx → EReal) (Idealize.ShloMosaic.ix3 (0 : Fin 1) (y 0) (y 1))) (sc m c (y 0)))
      ∧ r.2.mem ((c.tc : Thread nD τ).loc main_v25) = (fun y : S1x512.Idx => sc m c (y 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine (θ_run (defs (F := Ideal)) _ _).mono (fun _ h c => ⟨?_, ?_, ?_, ?_, ?_, ?_, ?_, ?_, ?_⟩) (run_main (F := Ideal) m ρ)
  · exact ((h c).1 6).trans (arr6 m c)
  · exact ((h c).1 7).trans (arr7 m c)
  · refine ((h c).2 main_v25 (Pipeline.mem_restRefs_of main_v25 (by decide) (by decide))).trans ?_
    funext y
    obtain ⟨z, i, rfl⟩ : ∃ (z : Fin 1) (i : Fin 512), y = Idealize.ShloMosaic.ix2 z i := ⟨y 0, y 1, Idealize.ShloMosaic.eq_ix2 y⟩
    obtain rfl : z = 0 := Subsingleton.elim z 0
    exact V25_apply m c i
  · exact ((h c).2 main_arg0 (Pipeline.mem_restRefs_of main_arg0 (by decide) (by decide))).trans (V_main_arg0 m c)
  · exact ((h c).1 2).trans (((dats m 0 c).arrAt_in 2 rfl _).trans ((A_eq m c 2).trans (V_main_arg1 m c)))
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)

/-- The reference's product and scale depend on the arguments alone. -/
theorem yAt_eq (c : Dev nD) (i : Fin 512) (o : Fin 5120) : yAt m c i o
    = yRef (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5)) i o := rfl
theorem sc_eq (c : Dev nD) (i : Fin 512) : sc m c i = scOf (m ((c.tc : Thread nD τ).loc main_arg0)) i := rfl

end Cert.ReferenceIdeal.Own

namespace Cert.Val

open Idealize.ShloMosaic Idealize.SL.Sem

/-- From equal arguments with finite activations, the kernel and the reference end with equal results. -/
theorem algebraic (hP : Cert.Pre_x_finite.Facts) : Cert.algebraic_KernelIdeal_ReferenceIdeal_pre_x_finite
    (hKernelIdeal := Cert.KernelIdeal.Gen.facts) (hReferenceIdeal := Cert.ReferenceIdeal.Gen.facts) (hPre_x_finite := hP) := by
  intro m g m' g' hpre hagree
  refine ⟨fun c => Cert.KernelIdeal.Own.U3 m c (Proc.devRef .tc Cert.KernelIdeal.main_v6_0), fun c => Cert.KernelIdeal.Own.U3 m c (Proc.devRef .tc Cert.KernelIdeal.main_v6_1),
    fun c => Cert.KernelIdeal.Own.U3 m c (Proc.devRef .tc Cert.KernelIdeal.main_v5_0), ?_, ?_⟩
  · refine (θ_run _ _ _).mono (fun _ h c => ?_) (Cert.KernelIdeal.Own.run (F := Ideal) m g)
    obtain ⟨a0, a1, a2, a3, a4, a5, r5, r60, r61⟩ := h.1 c
    exact ⟨r60, r61, r5, a0, a1, a2, a3, a4, a5⟩
  · refine (θ_run _ _ _).mono (fun _ h c => ?_) (Cert.ReferenceIdeal.Own.run m' g')
    obtain ⟨r0, r1, r2, a0, a1, a2, a3, a4, a5⟩ := h c
    have hb := bounded hP m hpre c
    obtain ⟨g0, g1, g2, g3, g4, g5⟩ := hagree c
    have hs : ∀ i : Fin 512, Cert.ReferenceIdeal.Own.sc m' c i = scOf (Cert.KernelIdeal.Own.ax m c) i := fun i =>
      (Cert.ReferenceIdeal.Own.sc_eq m' c i).trans (congrArg (fun x => scOf x i) g0)
    have q0 : (fun y : Cert.ReferenceIdeal.S512x5120.Idx => Cert.ReferenceIdeal.Own.yAt m' c (y 0) (y 1))
        = fun y : Cert.ReferenceIdeal.S512x5120.Idx => yRef (Cert.KernelIdeal.Own.ax m c) (Cert.KernelIdeal.Own.aw m c) (Cert.KernelIdeal.Own.aws m c)
            (Cert.KernelIdeal.Own.aA m c) (Cert.KernelIdeal.Own.aB m c) (Cert.KernelIdeal.Own.atok m c) (y 0) (y 1) := by
      funext y
      refine (Cert.ReferenceIdeal.Own.yAt_eq m' c (y 0) (y 1)).trans ?_
      rw [g0, g1, g2, g3, g4, g5]
    have q1 : (fun y : Cert.ReferenceIdeal.S512x27648.Idx => code ((m' (c, Proc.tc.devRef Cert.ReferenceIdeal.main_arg0) : Cert.ReferenceIdeal.S1x512x27648.Idx → EReal)
          (Idealize.ShloMosaic.ix3 (0 : Fin 1) (y 0) (y 1))) (Cert.ReferenceIdeal.Own.sc m' c (y 0)))
        = fun y : Cert.ReferenceIdeal.S512x27648.Idx => code (Cert.KernelIdeal.Own.ax m c (Idealize.ShloMosaic.ix3 0 (y 0) (y 1))) (scOf (Cert.KernelIdeal.Own.ax m c) (y 0)) :=
      funext fun y => congrArg₂ code (congrFun g0 (Idealize.ShloMosaic.ix3 (0 : Fin 1) (y 0) (y 1))) (hs (y 0))
    have q2 : (fun y : Cert.ReferenceIdeal.S1x512.Idx => Cert.ReferenceIdeal.Own.sc m' c (y 1))
        = fun y : Cert.ReferenceIdeal.S1x512.Idx => scOf (Cert.KernelIdeal.Own.ax m c) (y 1) := funext fun y => hs (y 1)
    exact ⟨r0.trans (q0.trans (Cert.KernelIdeal.Own.out0 m c hb).symm), r1.trans (q1.trans (Cert.KernelIdeal.Own.out1 m c hb).symm),
      r2.trans (q2.trans (Cert.KernelIdeal.Own.out2 m c hb).symm), a0, a1, a2, a3, a4, a5⟩

end Cert.Val

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.P.Run
public import proofs.«01_k».proof.Proof.PI.Run
public import proofs.«01_k».proof.Proof.V.Final

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Val.Pre_x_finite_facts,
  fun m ρ _ => Cert.Kernel.Own.frame m ρ, fun m ρ _ => Cert.KernelIdeal.Own.frame m ρ, fun m ρ _ => Cert.KernelIdeal.Own.frame m ρ,
  fun m ρ _ => Cert.ReferenceIdeal.Gen.frame m ρ, fun m ρ _ => Cert.ReferenceIdeal.Gen.frame m ρ, trivial,
  Cert.Val.algebraic Cert.Val.Pre_x_finite_facts⟩

end Cert.Proof

end
